-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_usable [hPre_usable : Cert.Pre_usable.Facts] (m : (ℓ : Loc Cert.ProjIdeal.nD Cert.ProjIdeal.τ Cert.ProjIdeal.sig) → Buf (Elt Ideal) ℓ) : Prop :=
  ∀ c : Dev Cert.ProjIdeal.nD,
    (Cert.Pre_usable.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12)) (m ((c.tc : Thread Cert.ProjIdeal.nD Cert.ProjIdeal.τ).loc Cert.ProjIdeal.main_arg13)) (m ((c.tc : Thread Cert.ProjIdeal.nD Cert.ProjIdeal.τ).loc Cert.ProjIdeal.main_arg14)) (m ((c.tc : Thread Cert.ProjIdeal.nD Cert.ProjIdeal.τ).loc Cert.ProjIdeal.main_arg15)) (m ((c.tc : Thread Cert.ProjIdeal.nD Cert.ProjIdeal.τ).loc Cert.ProjIdeal.main_arg16)) (m ((c.tc : Thread Cert.ProjIdeal.nD Cert.ProjIdeal.τ).loc Cert.ProjIdeal.main_arg17)) (m ((c.tc : Thread Cert.ProjIdeal.nD Cert.ProjIdeal.τ).loc Cert.ProjIdeal.main_arg18)) (m ((c.tc : Thread Cert.ProjIdeal.nD Cert.ProjIdeal.τ).loc Cert.ProjIdeal.main_arg19)) (m ((c.tc : Thread Cert.ProjIdeal.nD Cert.ProjIdeal.τ).loc Cert.ProjIdeal.main_arg20)) (m ((c.tc : Thread Cert.ProjIdeal.nD Cert.ProjIdeal.τ).loc Cert.ProjIdeal.main_arg21))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_usable [hPre_usable : Cert.Pre_usable.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_usable.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11)) (m ((c.tc : Thread Cert.ProjReferenceIdeal.nD Cert.ProjReferenceIdeal.τ).loc Cert.ProjReferenceIdeal.main_arg12)) (m ((c.tc : Thread Cert.ProjReferenceIdeal.nD Cert.ProjReferenceIdeal.τ).loc Cert.ProjReferenceIdeal.main_arg13)) (m ((c.tc : Thread Cert.ProjReferenceIdeal.nD Cert.ProjReferenceIdeal.τ).loc Cert.ProjReferenceIdeal.main_arg14)) (m ((c.tc : Thread Cert.ProjReferenceIdeal.nD Cert.ProjReferenceIdeal.τ).loc Cert.ProjReferenceIdeal.main_arg15)) (m ((c.tc : Thread Cert.ProjReferenceIdeal.nD Cert.ProjReferenceIdeal.τ).loc Cert.ProjReferenceIdeal.main_arg16)) (m ((c.tc : Thread Cert.ProjReferenceIdeal.nD Cert.ProjReferenceIdeal.τ).loc Cert.ProjReferenceIdeal.main_arg17)) (m ((c.tc : Thread Cert.ProjReferenceIdeal.nD Cert.ProjReferenceIdeal.τ).loc Cert.ProjReferenceIdeal.main_arg18)) (m ((c.tc : Thread Cert.ProjReferenceIdeal.nD Cert.ProjReferenceIdeal.τ).loc Cert.ProjReferenceIdeal.main_arg19)) (m ((c.tc : Thread Cert.ProjReferenceIdeal.nD Cert.ProjReferenceIdeal.τ).loc Cert.ProjReferenceIdeal.main_arg20)) (m ((c.tc : Thread Cert.ProjReferenceIdeal.nD Cert.ProjReferenceIdeal.τ).loc Cert.ProjReferenceIdeal.main_arg21))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite [hPre_finite : Cert.Pre_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12)
      ∧ r.2.mem ((c.tc : Thread Cert.Proj.nD Cert.Proj.τ).loc Cert.Proj.main_arg13) = m ((c.tc : Thread Cert.Proj.nD Cert.Proj.τ).loc Cert.Proj.main_arg13)
      ∧ r.2.mem ((c.tc : Thread Cert.Proj.nD Cert.Proj.τ).loc Cert.Proj.main_arg14) = m ((c.tc : Thread Cert.Proj.nD Cert.Proj.τ).loc Cert.Proj.main_arg14)
      ∧ r.2.mem ((c.tc : Thread Cert.Proj.nD Cert.Proj.τ).loc Cert.Proj.main_arg15) = m ((c.tc : Thread Cert.Proj.nD Cert.Proj.τ).loc Cert.Proj.main_arg15)
      ∧ r.2.mem ((c.tc : Thread Cert.Proj.nD Cert.Proj.τ).loc Cert.Proj.main_arg16) = m ((c.tc : Thread Cert.Proj.nD Cert.Proj.τ).loc Cert.Proj.main_arg16)
      ∧ r.2.mem ((c.tc : Thread Cert.Proj.nD Cert.Proj.τ).loc Cert.Proj.main_arg17) = m ((c.tc : Thread Cert.Proj.nD Cert.Proj.τ).loc Cert.Proj.main_arg17)
      ∧ r.2.mem ((c.tc : Thread Cert.Proj.nD Cert.Proj.τ).loc Cert.Proj.main_arg18) = m ((c.tc : Thread Cert.Proj.nD Cert.Proj.τ).loc Cert.Proj.main_arg18)
      ∧ r.2.mem ((c.tc : Thread Cert.Proj.nD Cert.Proj.τ).loc Cert.Proj.main_arg19) = m ((c.tc : Thread Cert.Proj.nD Cert.Proj.τ).loc Cert.Proj.main_arg19)
      ∧ r.2.mem ((c.tc : Thread Cert.Proj.nD Cert.Proj.τ).loc Cert.Proj.main_arg20) = m ((c.tc : Thread Cert.Proj.nD Cert.Proj.τ).loc Cert.Proj.main_arg20)
      ∧ r.2.mem ((c.tc : Thread Cert.Proj.nD Cert.Proj.τ).loc Cert.Proj.main_arg21) = m ((c.tc : Thread Cert.Proj.nD Cert.Proj.τ).loc Cert.Proj.main_arg21))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
      ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14)
      ∧ r.2.mem ((c.tc : Thread Cert.ProjIdeal.nD Cert.ProjIdeal.τ).loc Cert.ProjIdeal.main_arg15) = m ((c.tc : Thread Cert.ProjIdeal.nD Cert.ProjIdeal.τ).loc Cert.ProjIdeal.main_arg15)
      ∧ r.2.mem ((c.tc : Thread Cert.ProjIdeal.nD Cert.ProjIdeal.τ).loc Cert.ProjIdeal.main_arg16) = m ((c.tc : Thread Cert.ProjIdeal.nD Cert.ProjIdeal.τ).loc Cert.ProjIdeal.main_arg16)
      ∧ r.2.mem ((c.tc : Thread Cert.ProjIdeal.nD Cert.ProjIdeal.τ).loc Cert.ProjIdeal.main_arg17) = m ((c.tc : Thread Cert.ProjIdeal.nD Cert.ProjIdeal.τ).loc Cert.ProjIdeal.main_arg17)
      ∧ r.2.mem ((c.tc : Thread Cert.ProjIdeal.nD Cert.ProjIdeal.τ).loc Cert.ProjIdeal.main_arg18) = m ((c.tc : Thread Cert.ProjIdeal.nD Cert.ProjIdeal.τ).loc Cert.ProjIdeal.main_arg18)
      ∧ r.2.mem ((c.tc : Thread Cert.ProjIdeal.nD Cert.ProjIdeal.τ).loc Cert.ProjIdeal.main_arg19) = m ((c.tc : Thread Cert.ProjIdeal.nD Cert.ProjIdeal.τ).loc Cert.ProjIdeal.main_arg19)
      ∧ r.2.mem ((c.tc : Thread Cert.ProjIdeal.nD Cert.ProjIdeal.τ).loc Cert.ProjIdeal.main_arg20) = m ((c.tc : Thread Cert.ProjIdeal.nD Cert.ProjIdeal.τ).loc Cert.ProjIdeal.main_arg20)
      ∧ r.2.mem ((c.tc : Thread Cert.ProjIdeal.nD Cert.ProjIdeal.τ).loc Cert.ProjIdeal.main_arg21) = m ((c.tc : Thread Cert.ProjIdeal.nD Cert.ProjIdeal.τ).loc Cert.ProjIdeal.main_arg21))
      ∧ r.2.sem = fun _ => 0)

def quiescent_ProjIdeal_pre_usable [hProjIdeal : Cert.ProjIdeal.Facts] [hPre_usable : Cert.Pre_usable.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_usable m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
      ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14)
      ∧ r.2.mem ((c.tc : Thread Cert.ProjIdeal.nD Cert.ProjIdeal.τ).loc Cert.ProjIdeal.main_arg15) = m ((c.tc : Thread Cert.ProjIdeal.nD Cert.ProjIdeal.τ).loc Cert.ProjIdeal.main_arg15)
      ∧ r.2.mem ((c.tc : Thread Cert.ProjIdeal.nD Cert.ProjIdeal.τ).loc Cert.ProjIdeal.main_arg16) = m ((c.tc : Thread Cert.ProjIdeal.nD Cert.ProjIdeal.τ).loc Cert.ProjIdeal.main_arg16)
      ∧ r.2.mem ((c.tc : Thread Cert.ProjIdeal.nD Cert.ProjIdeal.τ).loc Cert.ProjIdeal.main_arg17) = m ((c.tc : Thread Cert.ProjIdeal.nD Cert.ProjIdeal.τ).loc Cert.ProjIdeal.main_arg17)
      ∧ r.2.mem ((c.tc : Thread Cert.ProjIdeal.nD Cert.ProjIdeal.τ).loc Cert.ProjIdeal.main_arg18) = m ((c.tc : Thread Cert.ProjIdeal.nD Cert.ProjIdeal.τ).loc Cert.ProjIdeal.main_arg18)
      ∧ r.2.mem ((c.tc : Thread Cert.ProjIdeal.nD Cert.ProjIdeal.τ).loc Cert.ProjIdeal.main_arg19) = m ((c.tc : Thread Cert.ProjIdeal.nD Cert.ProjIdeal.τ).loc Cert.ProjIdeal.main_arg19)
      ∧ r.2.mem ((c.tc : Thread Cert.ProjIdeal.nD Cert.ProjIdeal.τ).loc Cert.ProjIdeal.main_arg20) = m ((c.tc : Thread Cert.ProjIdeal.nD Cert.ProjIdeal.τ).loc Cert.ProjIdeal.main_arg20)
      ∧ r.2.mem ((c.tc : Thread Cert.ProjIdeal.nD Cert.ProjIdeal.τ).loc Cert.ProjIdeal.main_arg21) = m ((c.tc : Thread Cert.ProjIdeal.nD Cert.ProjIdeal.τ).loc Cert.ProjIdeal.main_arg21))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12)
      ∧ r.2.mem ((c.tc : Thread Cert.ProjReferenceIdeal.nD Cert.ProjReferenceIdeal.τ).loc Cert.ProjReferenceIdeal.main_arg13) = m ((c.tc : Thread Cert.ProjReferenceIdeal.nD Cert.ProjReferenceIdeal.τ).loc Cert.ProjReferenceIdeal.main_arg13)
      ∧ r.2.mem ((c.tc : Thread Cert.ProjReferenceIdeal.nD Cert.ProjReferenceIdeal.τ).loc Cert.ProjReferenceIdeal.main_arg14) = m ((c.tc : Thread Cert.ProjReferenceIdeal.nD Cert.ProjReferenceIdeal.τ).loc Cert.ProjReferenceIdeal.main_arg14)
      ∧ r.2.mem ((c.tc : Thread Cert.ProjReferenceIdeal.nD Cert.ProjReferenceIdeal.τ).loc Cert.ProjReferenceIdeal.main_arg15) = m ((c.tc : Thread Cert.ProjReferenceIdeal.nD Cert.ProjReferenceIdeal.τ).loc Cert.ProjReferenceIdeal.main_arg15)
      ∧ r.2.mem ((c.tc : Thread Cert.ProjReferenceIdeal.nD Cert.ProjReferenceIdeal.τ).loc Cert.ProjReferenceIdeal.main_arg16) = m ((c.tc : Thread Cert.ProjReferenceIdeal.nD Cert.ProjReferenceIdeal.τ).loc Cert.ProjReferenceIdeal.main_arg16)
      ∧ r.2.mem ((c.tc : Thread Cert.ProjReferenceIdeal.nD Cert.ProjReferenceIdeal.τ).loc Cert.ProjReferenceIdeal.main_arg17) = m ((c.tc : Thread Cert.ProjReferenceIdeal.nD Cert.ProjReferenceIdeal.τ).loc Cert.ProjReferenceIdeal.main_arg17)
      ∧ r.2.mem ((c.tc : Thread Cert.ProjReferenceIdeal.nD Cert.ProjReferenceIdeal.τ).loc Cert.ProjReferenceIdeal.main_arg18) = m ((c.tc : Thread Cert.ProjReferenceIdeal.nD Cert.ProjReferenceIdeal.τ).loc Cert.ProjReferenceIdeal.main_arg18)
      ∧ r.2.mem ((c.tc : Thread Cert.ProjReferenceIdeal.nD Cert.ProjReferenceIdeal.τ).loc Cert.ProjReferenceIdeal.main_arg19) = m ((c.tc : Thread Cert.ProjReferenceIdeal.nD Cert.ProjReferenceIdeal.τ).loc Cert.ProjReferenceIdeal.main_arg19)
      ∧ r.2.mem ((c.tc : Thread Cert.ProjReferenceIdeal.nD Cert.ProjReferenceIdeal.τ).loc Cert.ProjReferenceIdeal.main_arg20) = m ((c.tc : Thread Cert.ProjReferenceIdeal.nD Cert.ProjReferenceIdeal.τ).loc Cert.ProjReferenceIdeal.main_arg20)
      ∧ r.2.mem ((c.tc : Thread Cert.ProjReferenceIdeal.nD Cert.ProjReferenceIdeal.τ).loc Cert.ProjReferenceIdeal.main_arg21) = m ((c.tc : Thread Cert.ProjReferenceIdeal.nD Cert.ProjReferenceIdeal.τ).loc Cert.ProjReferenceIdeal.main_arg21))
      ∧ r.2.sem = fun _ => 0)

def quiescent_ProjReferenceIdeal_pre_usable [hProjReferenceIdeal : Cert.ProjReferenceIdeal.Facts] [hPre_usable : Cert.Pre_usable.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_usable m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12)
      ∧ r.2.mem ((c.tc : Thread Cert.ProjReferenceIdeal.nD Cert.ProjReferenceIdeal.τ).loc Cert.ProjReferenceIdeal.main_arg13) = m ((c.tc : Thread Cert.ProjReferenceIdeal.nD Cert.ProjReferenceIdeal.τ).loc Cert.ProjReferenceIdeal.main_arg13)
      ∧ r.2.mem ((c.tc : Thread Cert.ProjReferenceIdeal.nD Cert.ProjReferenceIdeal.τ).loc Cert.ProjReferenceIdeal.main_arg14) = m ((c.tc : Thread Cert.ProjReferenceIdeal.nD Cert.ProjReferenceIdeal.τ).loc Cert.ProjReferenceIdeal.main_arg14)
      ∧ r.2.mem ((c.tc : Thread Cert.ProjReferenceIdeal.nD Cert.ProjReferenceIdeal.τ).loc Cert.ProjReferenceIdeal.main_arg15) = m ((c.tc : Thread Cert.ProjReferenceIdeal.nD Cert.ProjReferenceIdeal.τ).loc Cert.ProjReferenceIdeal.main_arg15)
      ∧ r.2.mem ((c.tc : Thread Cert.ProjReferenceIdeal.nD Cert.ProjReferenceIdeal.τ).loc Cert.ProjReferenceIdeal.main_arg16) = m ((c.tc : Thread Cert.ProjReferenceIdeal.nD Cert.ProjReferenceIdeal.τ).loc Cert.ProjReferenceIdeal.main_arg16)
      ∧ r.2.mem ((c.tc : Thread Cert.ProjReferenceIdeal.nD Cert.ProjReferenceIdeal.τ).loc Cert.ProjReferenceIdeal.main_arg17) = m ((c.tc : Thread Cert.ProjReferenceIdeal.nD Cert.ProjReferenceIdeal.τ).loc Cert.ProjReferenceIdeal.main_arg17)
      ∧ r.2.mem ((c.tc : Thread Cert.ProjReferenceIdeal.nD Cert.ProjReferenceIdeal.τ).loc Cert.ProjReferenceIdeal.main_arg18) = m ((c.tc : Thread Cert.ProjReferenceIdeal.nD Cert.ProjReferenceIdeal.τ).loc Cert.ProjReferenceIdeal.main_arg18)
      ∧ r.2.mem ((c.tc : Thread Cert.ProjReferenceIdeal.nD Cert.ProjReferenceIdeal.τ).loc Cert.ProjReferenceIdeal.main_arg19) = m ((c.tc : Thread Cert.ProjReferenceIdeal.nD Cert.ProjReferenceIdeal.τ).loc Cert.ProjReferenceIdeal.main_arg19)
      ∧ r.2.mem ((c.tc : Thread Cert.ProjReferenceIdeal.nD Cert.ProjReferenceIdeal.τ).loc Cert.ProjReferenceIdeal.main_arg20) = m ((c.tc : Thread Cert.ProjReferenceIdeal.nD Cert.ProjReferenceIdeal.τ).loc Cert.ProjReferenceIdeal.main_arg20)
      ∧ r.2.mem ((c.tc : Thread Cert.ProjReferenceIdeal.nD Cert.ProjReferenceIdeal.τ).loc Cert.ProjReferenceIdeal.main_arg21) = m ((c.tc : Thread Cert.ProjReferenceIdeal.nD Cert.ProjReferenceIdeal.τ).loc Cert.ProjReferenceIdeal.main_arg21))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7))
      ∧ r.2.sem = fun _ => 0)

def quiescent_AttnReferenceIdeal_pre_finite [hAttnReferenceIdeal : Cert.AttnReferenceIdeal.Facts] [hPre_finite : Cert.Pre_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Proj_ProjIdeal : Prop :=
  IdealRules.named_const.Statement Cert.ProjIdeal.κ "inv1536" .f32 0x3A2AAAAB#32 ((1536⁻¹ : ℝ) : EReal)
  ∧ IdealRules.named_const.Statement Cert.ProjIdeal.κ "inv768" .f32 0x3AAAAAAB#32 ((768⁻¹ : ℝ) : EReal)

def algebraic_ProjIdeal_ProjReferenceIdeal_pre_usable [hProjIdeal : Cert.ProjIdeal.Facts] [hProjReferenceIdeal : Cert.ProjReferenceIdeal.Facts] [hPre_usable : Cert.Pre_usable.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_usable m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)
      ∧ m' ((c.tc : Thread Cert.ProjReferenceIdeal.nD Cert.ProjReferenceIdeal.τ).loc Cert.ProjReferenceIdeal.main_arg9) = m ((c.tc : Thread Cert.ProjIdeal.nD Cert.ProjIdeal.τ).loc Cert.ProjIdeal.main_arg9)
      ∧ m' ((c.tc : Thread Cert.ProjReferenceIdeal.nD Cert.ProjReferenceIdeal.τ).loc Cert.ProjReferenceIdeal.main_arg10) = m ((c.tc : Thread Cert.ProjIdeal.nD Cert.ProjIdeal.τ).loc Cert.ProjIdeal.main_arg10)
      ∧ m' ((c.tc : Thread Cert.ProjReferenceIdeal.nD Cert.ProjReferenceIdeal.τ).loc Cert.ProjReferenceIdeal.main_arg11) = m ((c.tc : Thread Cert.ProjIdeal.nD Cert.ProjIdeal.τ).loc Cert.ProjIdeal.main_arg11)
      ∧ m' ((c.tc : Thread Cert.ProjReferenceIdeal.nD Cert.ProjReferenceIdeal.τ).loc Cert.ProjReferenceIdeal.main_arg12) = m ((c.tc : Thread Cert.ProjIdeal.nD Cert.ProjIdeal.τ).loc Cert.ProjIdeal.main_arg12)
      ∧ m' ((c.tc : Thread Cert.ProjReferenceIdeal.nD Cert.ProjReferenceIdeal.τ).loc Cert.ProjReferenceIdeal.main_arg13) = m ((c.tc : Thread Cert.ProjIdeal.nD Cert.ProjIdeal.τ).loc Cert.ProjIdeal.main_arg13)
      ∧ m' ((c.tc : Thread Cert.ProjReferenceIdeal.nD Cert.ProjReferenceIdeal.τ).loc Cert.ProjReferenceIdeal.main_arg14) = m ((c.tc : Thread Cert.ProjIdeal.nD Cert.ProjIdeal.τ).loc Cert.ProjIdeal.main_arg14)
      ∧ m' ((c.tc : Thread Cert.ProjReferenceIdeal.nD Cert.ProjReferenceIdeal.τ).loc Cert.ProjReferenceIdeal.main_arg15) = m ((c.tc : Thread Cert.ProjIdeal.nD Cert.ProjIdeal.τ).loc Cert.ProjIdeal.main_arg15)
      ∧ m' ((c.tc : Thread Cert.ProjReferenceIdeal.nD Cert.ProjReferenceIdeal.τ).loc Cert.ProjReferenceIdeal.main_arg16) = m ((c.tc : Thread Cert.ProjIdeal.nD Cert.ProjIdeal.τ).loc Cert.ProjIdeal.main_arg16)
      ∧ m' ((c.tc : Thread Cert.ProjReferenceIdeal.nD Cert.ProjReferenceIdeal.τ).loc Cert.ProjReferenceIdeal.main_arg17) = m ((c.tc : Thread Cert.ProjIdeal.nD Cert.ProjIdeal.τ).loc Cert.ProjIdeal.main_arg17)
      ∧ m' ((c.tc : Thread Cert.ProjReferenceIdeal.nD Cert.ProjReferenceIdeal.τ).loc Cert.ProjReferenceIdeal.main_arg18) = m ((c.tc : Thread Cert.ProjIdeal.nD Cert.ProjIdeal.τ).loc Cert.ProjIdeal.main_arg18)
      ∧ m' ((c.tc : Thread Cert.ProjReferenceIdeal.nD Cert.ProjReferenceIdeal.τ).loc Cert.ProjReferenceIdeal.main_arg19) = m ((c.tc : Thread Cert.ProjIdeal.nD Cert.ProjIdeal.τ).loc Cert.ProjIdeal.main_arg19)
      ∧ m' ((c.tc : Thread Cert.ProjReferenceIdeal.nD Cert.ProjReferenceIdeal.τ).loc Cert.ProjReferenceIdeal.main_arg20) = m ((c.tc : Thread Cert.ProjIdeal.nD Cert.ProjIdeal.τ).loc Cert.ProjIdeal.main_arg20)
      ∧ m' ((c.tc : Thread Cert.ProjReferenceIdeal.nD Cert.ProjReferenceIdeal.τ).loc Cert.ProjReferenceIdeal.main_arg21) = m ((c.tc : Thread Cert.ProjIdeal.nD Cert.ProjIdeal.τ).loc Cert.ProjIdeal.main_arg21)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
          ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
          ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14)
          ∧ r.2.mem ((c.tc : Thread Cert.ProjIdeal.nD Cert.ProjIdeal.τ).loc Cert.ProjIdeal.main_arg15) = m ((c.tc : Thread Cert.ProjIdeal.nD Cert.ProjIdeal.τ).loc Cert.ProjIdeal.main_arg15)
          ∧ r.2.mem ((c.tc : Thread Cert.ProjIdeal.nD Cert.ProjIdeal.τ).loc Cert.ProjIdeal.main_arg16) = m ((c.tc : Thread Cert.ProjIdeal.nD Cert.ProjIdeal.τ).loc Cert.ProjIdeal.main_arg16)
          ∧ r.2.mem ((c.tc : Thread Cert.ProjIdeal.nD Cert.ProjIdeal.τ).loc Cert.ProjIdeal.main_arg17) = m ((c.tc : Thread Cert.ProjIdeal.nD Cert.ProjIdeal.τ).loc Cert.ProjIdeal.main_arg17)
          ∧ r.2.mem ((c.tc : Thread Cert.ProjIdeal.nD Cert.ProjIdeal.τ).loc Cert.ProjIdeal.main_arg18) = m ((c.tc : Thread Cert.ProjIdeal.nD Cert.ProjIdeal.τ).loc Cert.ProjIdeal.main_arg18)
          ∧ r.2.mem ((c.tc : Thread Cert.ProjIdeal.nD Cert.ProjIdeal.τ).loc Cert.ProjIdeal.main_arg19) = m ((c.tc : Thread Cert.ProjIdeal.nD Cert.ProjIdeal.τ).loc Cert.ProjIdeal.main_arg19)
          ∧ r.2.mem ((c.tc : Thread Cert.ProjIdeal.nD Cert.ProjIdeal.τ).loc Cert.ProjIdeal.main_arg20) = m ((c.tc : Thread Cert.ProjIdeal.nD Cert.ProjIdeal.τ).loc Cert.ProjIdeal.main_arg20)
          ∧ r.2.mem ((c.tc : Thread Cert.ProjIdeal.nD Cert.ProjIdeal.τ).loc Cert.ProjIdeal.main_arg21) = m ((c.tc : Thread Cert.ProjIdeal.nD Cert.ProjIdeal.τ).loc Cert.ProjIdeal.main_arg21))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v149) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10)
          ∧ r.2.mem ((c.tc : Thread Cert.ProjReferenceIdeal.nD Cert.ProjReferenceIdeal.τ).loc Cert.ProjReferenceIdeal.main_arg11) = m' ((c.tc : Thread Cert.ProjReferenceIdeal.nD Cert.ProjReferenceIdeal.τ).loc Cert.ProjReferenceIdeal.main_arg11)
          ∧ r.2.mem ((c.tc : Thread Cert.ProjReferenceIdeal.nD Cert.ProjReferenceIdeal.τ).loc Cert.ProjReferenceIdeal.main_arg12) = m' ((c.tc : Thread Cert.ProjReferenceIdeal.nD Cert.ProjReferenceIdeal.τ).loc Cert.ProjReferenceIdeal.main_arg12)
          ∧ r.2.mem ((c.tc : Thread Cert.ProjReferenceIdeal.nD Cert.ProjReferenceIdeal.τ).loc Cert.ProjReferenceIdeal.main_arg13) = m' ((c.tc : Thread Cert.ProjReferenceIdeal.nD Cert.ProjReferenceIdeal.τ).loc Cert.ProjReferenceIdeal.main_arg13)
          ∧ r.2.mem ((c.tc : Thread Cert.ProjReferenceIdeal.nD Cert.ProjReferenceIdeal.τ).loc Cert.ProjReferenceIdeal.main_arg14) = m' ((c.tc : Thread Cert.ProjReferenceIdeal.nD Cert.ProjReferenceIdeal.τ).loc Cert.ProjReferenceIdeal.main_arg14)
          ∧ r.2.mem ((c.tc : Thread Cert.ProjReferenceIdeal.nD Cert.ProjReferenceIdeal.τ).loc Cert.ProjReferenceIdeal.main_arg15) = m' ((c.tc : Thread Cert.ProjReferenceIdeal.nD Cert.ProjReferenceIdeal.τ).loc Cert.ProjReferenceIdeal.main_arg15)
          ∧ r.2.mem ((c.tc : Thread Cert.ProjReferenceIdeal.nD Cert.ProjReferenceIdeal.τ).loc Cert.ProjReferenceIdeal.main_arg16) = m' ((c.tc : Thread Cert.ProjReferenceIdeal.nD Cert.ProjReferenceIdeal.τ).loc Cert.ProjReferenceIdeal.main_arg16)
          ∧ r.2.mem ((c.tc : Thread Cert.ProjReferenceIdeal.nD Cert.ProjReferenceIdeal.τ).loc Cert.ProjReferenceIdeal.main_arg17) = m' ((c.tc : Thread Cert.ProjReferenceIdeal.nD Cert.ProjReferenceIdeal.τ).loc Cert.ProjReferenceIdeal.main_arg17)
          ∧ r.2.mem ((c.tc : Thread Cert.ProjReferenceIdeal.nD Cert.ProjReferenceIdeal.τ).loc Cert.ProjReferenceIdeal.main_arg18) = m' ((c.tc : Thread Cert.ProjReferenceIdeal.nD Cert.ProjReferenceIdeal.τ).loc Cert.ProjReferenceIdeal.main_arg18)
          ∧ r.2.mem ((c.tc : Thread Cert.ProjReferenceIdeal.nD Cert.ProjReferenceIdeal.τ).loc Cert.ProjReferenceIdeal.main_arg19) = m' ((c.tc : Thread Cert.ProjReferenceIdeal.nD Cert.ProjReferenceIdeal.τ).loc Cert.ProjReferenceIdeal.main_arg19)
          ∧ r.2.mem ((c.tc : Thread Cert.ProjReferenceIdeal.nD Cert.ProjReferenceIdeal.τ).loc Cert.ProjReferenceIdeal.main_arg20) = m' ((c.tc : Thread Cert.ProjReferenceIdeal.nD Cert.ProjReferenceIdeal.τ).loc Cert.ProjReferenceIdeal.main_arg20)
          ∧ r.2.mem ((c.tc : Thread Cert.ProjReferenceIdeal.nD Cert.ProjReferenceIdeal.τ).loc Cert.ProjReferenceIdeal.main_arg21) = m' ((c.tc : Thread Cert.ProjReferenceIdeal.nD Cert.ProjReferenceIdeal.τ).loc Cert.ProjReferenceIdeal.main_arg21))

def preserves_Attn_AttnIdeal : Prop :=
  True

def algebraic_AttnIdeal_AttnReferenceIdeal_pre_finite [hAttnIdeal : Cert.AttnIdeal.Facts] [hAttnReferenceIdeal : Cert.AttnReferenceIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_finite m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)
      ∧ m' ((c.tc : Thread Cert.AttnReferenceIdeal.nD Cert.AttnReferenceIdeal.τ).loc Cert.AttnReferenceIdeal.main_arg5) = m ((c.tc : Thread Cert.AttnIdeal.nD Cert.AttnIdeal.τ).loc Cert.AttnIdeal.main_arg5)
      ∧ m' ((c.tc : Thread Cert.AttnReferenceIdeal.nD Cert.AttnReferenceIdeal.τ).loc Cert.AttnReferenceIdeal.main_arg6) = m ((c.tc : Thread Cert.AttnIdeal.nD Cert.AttnIdeal.τ).loc Cert.AttnIdeal.main_arg6)
      ∧ m' ((c.tc : Thread Cert.AttnReferenceIdeal.nD Cert.AttnReferenceIdeal.τ).loc Cert.AttnReferenceIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v36) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5)
          ∧ r.2.mem ((c.tc : Thread Cert.AttnReferenceIdeal.nD Cert.AttnReferenceIdeal.τ).loc Cert.AttnReferenceIdeal.main_arg6) = m' ((c.tc : Thread Cert.AttnReferenceIdeal.nD Cert.AttnReferenceIdeal.τ).loc Cert.AttnReferenceIdeal.main_arg6)
          ∧ r.2.mem ((c.tc : Thread Cert.AttnReferenceIdeal.nD Cert.AttnReferenceIdeal.τ).loc Cert.AttnReferenceIdeal.main_arg7) = m' ((c.tc : Thread Cert.AttnReferenceIdeal.nD Cert.AttnReferenceIdeal.τ).loc Cert.AttnReferenceIdeal.main_arg7))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hAttn : Cert.Attn.Facts) (hAttnIdeal : Cert.AttnIdeal.Facts) (hAttnReferenceIdeal : Cert.AttnReferenceIdeal.Facts) (hPre_usable : Cert.Pre_usable.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjIdeal_pre_usable (hProjIdeal := hProjIdeal) (hPre_usable := hPre_usable)
    ∧ quiescent_ProjReferenceIdeal (hProjReferenceIdeal := hProjReferenceIdeal)
    ∧ quiescent_ProjReferenceIdeal_pre_usable (hProjReferenceIdeal := hProjReferenceIdeal) (hPre_usable := hPre_usable)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnReferenceIdeal (hAttnReferenceIdeal := hAttnReferenceIdeal)
    ∧ quiescent_AttnReferenceIdeal_pre_finite (hAttnReferenceIdeal := hAttnReferenceIdeal) (hPre_finite := hPre_finite)
    ∧ preserves_Kernel_KernelIdeal
    ∧ algebraic_KernelIdeal_ReferenceIdeal (hKernelIdeal := hKernelIdeal) (hReferenceIdeal := hReferenceIdeal)
    ∧ preserves_Proj_ProjIdeal
    ∧ algebraic_ProjIdeal_ProjReferenceIdeal_pre_usable (hProjIdeal := hProjIdeal) (hProjReferenceIdeal := hProjReferenceIdeal) (hPre_usable := hPre_usable)
    ∧ preserves_Attn_AttnIdeal
    ∧ algebraic_AttnIdeal_AttnReferenceIdeal_pre_finite (hAttnIdeal := hAttnIdeal) (hAttnReferenceIdeal := hAttnReferenceIdeal) (hPre_finite := hPre_finite)
-- ==== Pre_finite.lean ====
abbrev S1024x2304 : Shape := ⟨2, ![1024, 2304]⟩
abbrev S32x256 : Shape := ⟨2, ![32, 256]⟩
abbrev S256x256 : Shape := ⟨2, ![256, 256]⟩
abbrev S1 : Shape := ⟨1, ![1]⟩
abbrev S_ : Shape := ⟨0, ![]⟩

class Facts : Prop where
  bcast_S_S1024x2304 : S_.BroadcastsInDim S1024x2304 (![] : Fin 0 → Fin S1024x2304.rank)
  reducesTo_S1024x2304_S_d0_1 : S1024x2304.ReducesTo [0, 1] S_
  h_S_ : 0 < S_.numel
  bcast_S_S32x256 : S_.BroadcastsInDim S32x256 (![] : Fin 0 → Fin S32x256.rank)
  reducesTo_S32x256_S_d0_1 : S32x256.ReducesTo [0, 1] S_
  bcast_S_S256x256 : S_.BroadcastsInDim S256x256 (![] : Fin 0 → Fin S256x256.rank)
  reducesTo_S256x256_S_d0_1 : S256x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_arg5 : FVec F S1 .f32) (main_arg6 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S1024x2304 .f32) (main_arg1 : FVec F S32x256 .f32) (main_arg2 : FVec F S32x256 .f32) (main_arg3 : FVec F S256x256 .f32) (main_arg4 : FVec F S1 .f32) (main_arg5 : FVec F S1 .f32) (main_arg6 : FVec F S1 .f32) (main_arg7 : FVec F S1 .f32) : IVec S_ 1 :=
  let main_v0 : FVec F S1024x2304 .f32 := Host.absf main_arg0
  let main_cst : FVec F S_ .f32 := constant S_ .f32 0x7F800000#32
  let main_v1 : FVec F S1024x2304 .f32 := broadcastInDim S1024x2304 ![] bcast_S_S1024x2304 main_cst
  let main_v2 : IVec S1024x2304 1 := cmpf .olt main_v0 main_v1
  let main_c : IVec S_ 1 := constantI S_ 1 1#1
  let main_v3 : IVec S_ 1 := (fun x v => Host.reduce IntOp.andi x v reducesTo_S1024x2304_S_d0_1 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32x256 .f32 := Host.absf main_arg2
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Pre_usable.lean ====
abbrev S1024x6x256 : Shape := ⟨3, ![1024, 6, 256]⟩
abbrev S1024x3x349 : Shape := ⟨3, ![1024, 3, 349]⟩
abbrev S6x256x256 : Shape := ⟨3, ![6, 256, 256]⟩
abbrev S6x256 : Shape := ⟨2, ![6, 256]⟩
abbrev S3x349x256 : Shape := ⟨3, ![3, 349, 256]⟩
abbrev S3x256 : Shape := ⟨2, ![3, 256]⟩
abbrev S3x256x256 : Shape := ⟨3, ![3, 256, 256]⟩
abbrev S1 : Shape := ⟨1, ![1]⟩
abbrev S_ : Shape := ⟨0, ![]⟩

class Facts : Prop where
  bcast_S_S1024x6x256 : S_.BroadcastsInDim S1024x6x256 (![] : Fin 0 → Fin S1024x6x256.rank)
  reducesTo_S1024x6x256_S_d0_1_2 : S1024x6x256.ReducesTo [0, 1, 2] S_
  h_S_ : 0 < S_.numel
  bcast_S_S1024x3x349 : S_.BroadcastsInDim S1024x3x349 (![] : Fin 0 → Fin S1024x3x349.rank)
  reducesTo_S1024x3x349_S_d0_1_2 : S1024x3x349.ReducesTo [0, 1, 2] S_
  bcast_S_S6x256x256 : S_.BroadcastsInDim S6x256x256 (![] : Fin 0 → Fin S6x256x256.rank)
  reducesTo_S6x256x256_S_d0_1_2 : S6x256x256.ReducesTo [0, 1, 2] S_
  bcast_S_S6x256 : S_.BroadcastsInDim S6x256 (![] : Fin 0 → Fin S6x256.rank)
  reducesTo_S6x256_S_d0_1 : S6x256.ReducesTo [0, 1] S_
  bcast_S_S3x349x256 : S_.BroadcastsInDim S3x349x256 (![] : Fin 0 → Fin S3x349x256.rank)
  reducesTo_S3x349x256_S_d0_1_2 : S3x349x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S1 : S_.BroadcastsInDim S1 (![] : Fin 0 → Fin S1.rank)
  reducesTo_S1_S_d0 : S1.ReducesTo [0] S_

variable [Facts]

def fn_part4 {F : FTy → Type} [FloatOps F] (main_arg18 : FVec F S1 .f32) (main_arg20 : FVec F S1 .f32) (main_v63 : IVec S_ 1) (main_v67 : IVec S_ 1) : IVec S_ 1 :=
  let main_v68 : IVec S_ 1 := andi main_v63 main_v67
  let main_v69 : FVec F S1 .f32 := Host.absf main_arg18
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S1 .f32 := Host.absf main_arg20
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S6x256 .f32) (main_arg14 : FVec F S3x256 .f32) (main_arg15 : FVec F S3x256 .f32) (main_arg18 : FVec F S1 .f32) (main_arg20 : FVec F S1 .f32) (main_v48 : IVec S_ 1) (main_v49 : FVec F S6x256 .f32) (main_v50 : FVec F S6x256 .f32) : IVec S_ 1 :=
  let main_v51 : IVec S6x256 1 := cmpf .olt main_v49 main_v50
  let main_c_19 : IVec S_ 1 := constantI S_ 1 1#1
  let main_v52 : IVec S_ 1 := (fun x v => Host.reduce IntOp.andi x v reducesTo_S6x256_S_d0_1 h_S_) main_v51 main_c_19
  let main_v53 : IVec S_ 1 := andi main_v48 main_v52
  let main_v54 : FVec F S6x256 .f32 := Host.absf main_arg11
  let main_cst_20 : FVec F S_ .f32 := constant S_ .f32 0x7F800000#32
  let main_v55 : FVec F S6x256 .f32 := broadcastInDim S6x256 ![] bcast_S_S6x256 main_cst_20
  let main_v56 : IVec S6x256 1 := cmpf .olt main_v54 main_v55
  let main_c_21 : IVec S_ 1 := constantI S_ 1 1#1
  let main_v57 : IVec S_ 1 := (fun x v => Host.reduce IntOp.andi x v reducesTo_S6x256_S_d0_1 h_S_) main_v56 main_c_21
  let main_v58 : IVec S_ 1 := andi main_v53 main_v57
  let main_v59 : FVec F S3x256 .f32 := Host.absf main_arg14
  let main_cst_22 : FVec F S_ .f32 := constant S_ .f32 0x7F800000#32
  let main_v60 : FVec F S3x256 .f32 := broadcastInDim S3x256 ![] bcast_S_S3x256 main_cst_22
  let main_v61 : IVec S3x256 1 := cmpf .olt main_v59 main_v60
  let main_c_23 : IVec S_ 1 := constantI S_ 1 1#1
  let main_v62 : IVec S_ 1 := (fun x v => Host.reduce IntOp.andi x v reducesTo_S3x256_S_d0_1 h_S_) main_v61 main_c_23
  let main_v63 : IVec S_ 1 := andi main_v58 main_v62
  let main_v64 : FVec F S3x256 .f32 := Host.absf main_arg15
  let main_cst_24 : FVec F S_ .f32 := constant S_ .f32 0x7F800000#32
  let main_v65 : FVec F S3x256 .f32 := broadcastInDim S3x256 ![] bcast_S_S3x256 main_cst_24
  let main_v66 : IVec S3x256 1 := cmpf .olt main_v64 main_v65
  let main_c_25 : IVec S_ 1 := constantI S_ 1 1#1
  let main_v67 : IVec S_ 1 := (fun x v => Host.reduce IntOp.andi x v reducesTo_S3x256_S_d0_1 h_S_) main_v66 main_c_25
  fn_part4 (F := F) main_arg18 main_arg20 main_v63 main_v67

def fn_part2 {F : FTy → Type} [FloatOps F] (main_arg7 : FVec F S3x256 .f32) (main_arg8 : FVec F S3x256x256 .f32) (main_arg9 : FVec F S3x256 .f32) (main_arg10 : FVec F S6x256 .f32) (main_arg11 : FVec F S6x256 .f32) (main_arg14 : FVec F S3x256 .f32) (main_arg15 : FVec F S3x256 .f32) (main_arg18 : FVec F S1 .f32) (main_arg20 : FVec F S1 .f32) (main_v33 : IVec S_ 1) : IVec S_ 1 :=
  let main_v34 : FVec F S3x256 .f32 := Host.absf main_arg7
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256x256 .f32 := Host.absf main_arg8
  let main_cst_14 : FVec F S_ .f32 := constant S_ .f32 0x7F800000#32
  let main_v40 : FVec F S3x256x256 .f32 := broadcastInDim S3x256x256 ![] bcast_S_S3x256x256 main_cst_14
  let main_v41 : IVec S3x256x256 1 := cmpf .olt main_v39 main_v40
  let main_c_15 : IVec S_ 1 := constantI S_ 1 1#1
  let main_v42 : IVec S_ 1 := (fun x v => Host.reduce IntOp.andi x v reducesTo_S3x256x256_S_d0_1_2 h_S_) main_v41 main_c_15
  let main_v43 : IVec S_ 1 := andi main_v38 main_v42
  let main_v44 : FVec F S3x256 .f32 := Host.absf main_arg9
  let main_cst_16 : FVec F S_ .f32 := constant S_ .f32 0x7F800000#32
  let main_v45 : FVec F S3x256 .f32 := broadcastInDim S3x256 ![] bcast_S_S3x256 main_cst_16
  let main_v46 : IVec S3x256 1 := cmpf .olt main_v44 main_v45
  let main_c_17 : IVec S_ 1 := constantI S_ 1 1#1
  let main_v47 : IVec S_ 1 := (fun x v => Host.reduce IntOp.andi x v reducesTo_S3x256_S_d0_1 h_S_) main_v46 main_c_17
  let main_v48 : IVec S_ 1 := andi main_v43 main_v47
  let main_v49 : FVec F S6x256 .f32 := Host.absf main_arg10
  let main_cst_18 : FVec F S_ .f32 := constant S_ .f32 0x7F800000#32
  let main_v50 : FVec F S6x256 .f32 := broadcastInDim S6x256 ![] bcast_S_S6x256 main_cst_18
  fn_part3 (F := F) main_arg11 main_arg14 main_arg15 main_arg18 main_arg20 main_v48 main_v49 main_v50

def fn_part1 {F : FTy → Type} [FloatOps F] (main_arg4 : FVec F S6x256x256 .f32) (main_arg5 : FVec F S6x256 .f32) (main_arg6 : FVec F S3x349x256 .f32) (main_arg7 : FVec F S3x256 .f32) (main_arg8 : FVec F S3x256x256 .f32) (main_arg9 : FVec F S3x256 .f32) (main_arg10 : FVec F S6x256 .f32) (main_arg11 : FVec F S6x256 .f32) (main_arg14 : FVec F S3x256 .f32) (main_arg15 : FVec F S3x256 .f32) (main_arg18 : FVec F S1 .f32) (main_arg20 : FVec F S1 .f32) (main_v13 : IVec S_ 1) (main_v16 : IVec S6x256 1) : IVec S_ 1 :=
  let main_c_5 : IVec S_ 1 := constantI S_ 1 1#1
  let main_v17 : IVec S_ 1 := (fun x v => Host.reduce IntOp.andi x v reducesTo_S6x256_S_d0_1 h_S_) main_v16 main_c_5
  let main_v18 : IVec S_ 1 := andi main_v13 main_v17
  let main_v19 : FVec F S6x256x256 .f32 := Host.absf main_arg4
  let main_cst_6 : FVec F S_ .f32 := constant S_ .f32 0x7F800000#32
  let main_v20 : FVec F S6x256x256 .f32 := broadcastInDim S6x256x256 ![] bcast_S_S6x256x256 main_cst_6
  let main_v21 : IVec S6x256x256 1 := cmpf .olt main_v19 main_v20
  let main_c_7 : IVec S_ 1 := constantI S_ 1 1#1
  let main_v22 : IVec S_ 1 := (fun x v => Host.reduce IntOp.andi x v reducesTo_S6x256x256_S_d0_1_2 h_S_) main_v21 main_c_7
  let main_v23 : IVec S_ 1 := andi main_v18 main_v22
  let main_v24 : FVec F S6x256 .f32 := Host.absf main_arg5
  let main_cst_8 : FVec F S_ .f32 := constant S_ .f32 0x7F800000#32
  let main_v25 : FVec F S6x256 .f32 := broadcastInDim S6x256 ![] bcast_S_S6x256 main_cst_8
  let main_v26 : IVec S6x256 1 := cmpf .olt main_v24 main_v25
  let main_c_9 : IVec S_ 1 := constantI S_ 1 1#1
  let main_v27 : IVec S_ 1 := (fun x v => Host.reduce IntOp.andi x v reducesTo_S6x256_S_d0_1 h_S_) main_v26 main_c_9
  let main_v28 : IVec S_ 1 := andi main_v23 main_v27
  let main_v29 : FVec F S3x349x256 .f32 := Host.absf main_arg6
  let main_cst_10 : FVec F S_ .f32 := constant S_ .f32 0x7F800000#32
  let main_v30 : FVec F S3x349x256 .f32 := broadcastInDim S3x349x256 ![] bcast_S_S3x349x256 main_cst_10
  let main_v31 : IVec S3x349x256 1 := cmpf .olt main_v29 main_v30
  let main_c_11 : IVec S_ 1 := constantI S_ 1 1#1
  let main_v32 : IVec S_ 1 := (fun x v => Host.reduce IntOp.andi x v reducesTo_S3x349x256_S_d0_1_2 h_S_) main_v31 main_c_11
  let main_v33 : IVec S_ 1 := andi main_v28 main_v32
  fn_part2 (F := F) main_arg7 main_arg8 main_arg9 main_arg10 main_arg11 main_arg14 main_arg15 main_arg18 main_arg20 main_v33

def fn {F : FTy → Type} [FloatOps F] (main_arg0 : FVec F S1024x6x256 .f32) (main_arg1 : FVec F S1024x3x349 .f32) (main_arg2 : FVec F S6x256x256 .f32) (main_arg3 : FVec F S6x256 .f32) (main_arg4 : FVec F S6x256x256 .f32) (main_arg5 : FVec F S6x256 .f32) (main_arg6 : FVec F S3x349x256 .f32) (main_arg7 : FVec F S3x256 .f32) (main_arg8 : FVec F S3x256x256 .f32) (main_arg9 : FVec F S3x256 .f32) (main_arg10 : FVec F S6x256 .f32) (main_arg11 : FVec F S6x256 .f32) (main_arg12 : FVec F S6x256 .f32) (main_arg13 : FVec F S6x256 .f32) (main_arg14 : FVec F S3x256 .f32) (main_arg15 : FVec F S3x256 .f32) (main_arg16 : FVec F S3x256 .f32) (main_arg17 : FVec F S3x256 .f32) (main_arg18 : FVec F S1 .f32) (main_arg19 : FVec F S1 .f32) (main_arg20 : FVec F S1 .f32) (main_arg21 : FVec F S1 .f32) : IVec S_ 1 :=
  let main_v0 : FVec F S1024x6x256 .f32 := Host.absf main_arg0
  let main_cst : FVec F S_ .f32 := constant S_ .f32 0x7F800000#32
  let main_v1 : FVec F S1024x6x256 .f32 := broadcastInDim S1024x6x256 ![] bcast_S_S1024x6x256 main_cst
  let main_v2 : IVec S1024x6x256 1 := cmpf .olt main_v0 main_v1
  let main_c : IVec S_ 1 := constantI S_ 1 1#1
  let main_v3 : IVec S_ 1 := (fun x v => Host.reduce IntOp.andi x v reducesTo_S1024x6x256_S_d0_1_2 h_S_) main_v2 main_c
  let main_v4 : FVec F S1024x3x349 .f32 := Host.absf main_arg1
  let main_cst_0 : FVec F S_ .f32 := constant S_ .f32 0x7F800000#32
  let main_v5 : FVec F S1024x3x349 .f32 := broadcastInDim S1024x3x349 ![] bcast_S_S1024x3x349 main_cst_0
  let main_v6 : IVec S1024x3x349 1 := cmpf .olt main_v4 main_v5
  let main_c_1 : IVec S_ 1 := constantI S_ 1 1#1
  let main_v7 : IVec S_ 1 := (fun x v => Host.reduce IntOp.andi x v reducesTo_S1024x3x349_S_d0_1_2 h_S_) main_v6 main_c_1
  let main_v8 : IVec S_ 1 := andi main_v3 main_v7
  let main_v9 : FVec F S6x256x256 .f32 := Host.absf main_arg2
  let main_cst_2 : FVec F S_ .f32 := constant S_ .f32 0x7F800000#32
  let main_v10 : FVec F S6x256x256 .f32 := broadcastInDim S6x256x256 ![] bcast_S_S6x256x256 main_cst_2
  let main_v11 : IVec S6x256x256 1 := cmpf .olt main_v9 main_v10
  let main_c_3 : IVec S_ 1 := constantI S_ 1 1#1
  let main_v12 : IVec S_ 1 := (fun x v => Host.reduce IntOp.andi x v reducesTo_S6x256x256_S_d0_1_2 h_S_) main_v11 main_c_3
  let main_v13 : IVec S_ 1 := andi main_v8 main_v12
  let main_v14 : FVec F S6x256 .f32 := Host.absf main_arg3
  let main_cst_4 : FVec F S_ .f32 := constant S_ .f32 0x7F800000#32
  let main_v15 : FVec F S6x256 .f32 := broadcastInDim S6x256 ![] bcast_S_S6x256 main_cst_4
  let main_v16 : IVec S6x256 1 := cmpf .olt main_v14 main_v15
  fn_part1 (F := F) main_arg4 main_arg5 main_arg6 main_arg7 main_arg8 main_arg9 main_arg10 main_arg11 main_arg14 main_arg15 main_arg18 main_arg20 main_v13 main_v16
-- ==== Kernel.lean ====
abbrev S1024x2304 : Shape := ⟨2, ![1024, 2304]⟩
abbrev S1024x8 : Shape := ⟨2, ![1024, 8]⟩
abbrev S8x2304x256 : Shape := ⟨3, ![8, 2304, 256]⟩
abbrev S8x256 : Shape := ⟨2, ![8, 256]⟩
abbrev S8x1x256 : Shape := ⟨3, ![8, 1, 256]⟩
abbrev S1024x256 : Shape := ⟨2, ![1024, 256]⟩
abbrev S1x2304x256 : Shape := ⟨3, ![1, 2304, 256]⟩
abbrev S1x1x256 : Shape := ⟨3, ![1, 1, 256]⟩
abbrev S1024 : Shape := ⟨1, ![1024]⟩
abbrev S1024x1 : Shape := ⟨2, ![1024, 1]⟩
abbrev S2304x256 : Shape := ⟨2, ![2304, 256]⟩
abbrev S1x256 : Shape := ⟨2, ![1, 256]⟩

abbrev nBuf : Space → Nat
  | .hbm => 6
  | .vmem => 7
  | .smem => 0
  | _ => 0

abbrev bufTy : (tb : Table) → Fin (tcTables nBuf tb) → BufTy
  | .hbm, ⟨0, _⟩ => ⟨S1024x2304, .f32⟩
  | .hbm, ⟨1, _⟩ => ⟨S1024x8, .f32⟩
  | .hbm, ⟨2, _⟩ => ⟨S8x2304x256, .f32⟩
  | .hbm, ⟨3, _⟩ => ⟨S8x256, .f32⟩
  | .hbm, ⟨4, _⟩ => ⟨S8x1x256, .f32⟩
  | .hbm, ⟨5, _⟩ => ⟨S1024x256, .f32⟩
  | .local _ .vmem, ⟨0, _⟩ => ⟨S1024x2304, .f32⟩
  | .local _ .vmem, ⟨1, _⟩ => ⟨S1024x8, .f32⟩
  | .local _ .vmem, ⟨2, _⟩ => ⟨S1x2304x256, .f32⟩
  | .local _ .vmem, ⟨3, _⟩ => ⟨S1x2304x256, .f32⟩
  | .local _ .vmem, ⟨4, _⟩ => ⟨S1x1x256, .f32⟩
  | .local _ .vmem, ⟨5, _⟩ => ⟨S1x1x256, .f32⟩
  | .local _ .vmem, ⟨6, _⟩ => ⟨S1024x256, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2304 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2304x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S1024x2304 : Shape := ⟨2, ![1024, 2304]⟩
abbrev S1024x8 : Shape := ⟨2, ![1024, 8]⟩
abbrev S8x2304x256 : Shape := ⟨3, ![8, 2304, 256]⟩
abbrev S8x256 : Shape := ⟨2, ![8, 256]⟩
abbrev S1024x8x256 : Shape := ⟨3, ![1024, 8, 256]⟩
abbrev S1x8x256 : Shape := ⟨3, ![1, 8, 256]⟩
abbrev S1024x8x1 : Shape := ⟨3, ![1024, 8, 1]⟩
abbrev S_ : Shape := ⟨0, ![]⟩
abbrev S1024x256 : Shape := ⟨2, ![1024, 256]⟩

abbrev nBuf : Space → Nat
  | .hbm => 13
  | .vmem => 0
  | .smem => 0
  | _ => 0

abbrev bufTy : (tb : Table) → Fin (tcTables nBuf tb) → BufTy
  | .hbm, ⟨0, _⟩ => ⟨S1024x2304, .f32⟩
  | .hbm, ⟨1, _⟩ => ⟨S1024x8, .f32⟩
  | .hbm, ⟨2, _⟩ => ⟨S8x2304x256, .f32⟩
  | .hbm, ⟨3, _⟩ => ⟨S8x256, .f32⟩
  | .hbm, ⟨4, _⟩ => ⟨S1024x8x256, .f32⟩
  | .hbm, ⟨5, _⟩ => ⟨S1x8x256, .f32⟩
  | .hbm, ⟨6, _⟩ => ⟨S1024x8x256, .f32⟩
  | .hbm, ⟨7, _⟩ => ⟨S1024x8x256, .f32⟩
  | .hbm, ⟨8, _⟩ => ⟨S1024x8x1, .f32⟩
  | .hbm, ⟨9, _⟩ => ⟨S1024x8x256, .f32⟩
  | .hbm, ⟨10, _⟩ => ⟨S1024x8x256, .f32⟩
  | .hbm, ⟨11, _⟩ => ⟨S_, .f32⟩
  | .hbm, ⟨12, _⟩ => ⟨S1024x256, .f32⟩
  | _, _ => ⟨S1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proj.lean ====
abbrev S1024x6x256 : Shape := ⟨3, ![1024, 6, 256]⟩
abbrev S1024x3x349 : Shape := ⟨3, ![1024, 3, 349]⟩
abbrev S6x256x256 : Shape := ⟨3, ![6, 256, 256]⟩
abbrev S6x256 : Shape := ⟨2, ![6, 256]⟩
abbrev S3x349x256 : Shape := ⟨3, ![3, 349, 256]⟩
abbrev S3x256 : Shape := ⟨2, ![3, 256]⟩
abbrev S3x256x256 : Shape := ⟨3, ![3, 256, 256]⟩
abbrev S1 : Shape := ⟨1, ![1]⟩
abbrev S1024x2304 : Shape := ⟨2, ![1024, 2304]⟩
abbrev S256x6x256 : Shape := ⟨3, ![256, 6, 256]⟩
abbrev S256x3x349 : Shape := ⟨3, ![256, 3, 349]⟩
abbrev S256x2304 : Shape := ⟨2, ![256, 2304]⟩
abbrev S256x1x256 : Shape := ⟨3, ![256, 1, 256]⟩
abbrev S256x256 : Shape := ⟨2, ![256, 256]⟩
abbrev S1x256x256 : Shape := ⟨3, ![1, 256, 256]⟩
abbrev S1x256 : Shape := ⟨2, ![1, 256]⟩
abbrev S256 : Shape := ⟨1, ![256]⟩
abbrev S256x1 : Shape := ⟨2, ![256, 1]⟩
abbrev S256x1x349 : Shape := ⟨3, ![256, 1, 349]⟩
abbrev S256x349 : Shape := ⟨2, ![256, 349]⟩
abbrev S1x349x256 : Shape := ⟨3, ![1, 349, 256]⟩
abbrev S349x256 : Shape := ⟨2, ![349, 256]⟩

abbrev nBuf : Space → Nat
  | .hbm => 23
  | .vmem => 22
  | .smem => 4
  | _ => 0

abbrev bufTy : (tb : Table) → Fin (tcTables nBuf tb) → BufTy
  | .hbm, ⟨0, _⟩ => ⟨S1024x6x256, .f32⟩
  | .hbm, ⟨1, _⟩ => ⟨S1024x3x349, .f32⟩
  | .hbm, ⟨2, _⟩ => ⟨S6x256x256, .f32⟩
  | .hbm, ⟨3, _⟩ => ⟨S6x256, .f32⟩
  | .hbm, ⟨4, _⟩ => ⟨S6x256x256, .f32⟩
  | .hbm, ⟨5, _⟩ => ⟨S6x256, .f32⟩
  | .hbm, ⟨6, _⟩ => ⟨S3x349x256, .f32⟩
  | .hbm, ⟨7, _⟩ => ⟨S3x256, .f32⟩
  | .hbm, ⟨8, _⟩ => ⟨S3x256x256, .f32⟩
  | .hbm, ⟨9, _⟩ => ⟨S3x256, .f32⟩
  | .hbm, ⟨10, _⟩ => ⟨S6x256, .f32⟩
  | .hbm, ⟨11, _⟩ => ⟨S6x256, .f32⟩
  | .hbm, ⟨12, _⟩ => ⟨S6x256, .f32⟩
  | .hbm, ⟨13, _⟩ => ⟨S6x256, .f32⟩
  | .hbm, ⟨14, _⟩ => ⟨S3x256, .f32⟩
  | .hbm, ⟨15, _⟩ => ⟨S3x256, .f32⟩
  | .hbm, ⟨16, _⟩ => ⟨S3x256, .f32⟩
  | .hbm, ⟨17, _⟩ => ⟨S3x256, .f32⟩
  | .hbm, ⟨18, _⟩ => ⟨S1, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S1024x2304, .f32⟩
  | .local _ .vmem, ⟨0, _⟩ => ⟨S256x6x256, .f32⟩
  | .local _ .vmem, ⟨1, _⟩ => ⟨S256x6x256, .f32⟩
  | .local _ .vmem, ⟨2, _⟩ => ⟨S256x3x349, .f32⟩
  | .local _ .vmem, ⟨3, _⟩ => ⟨S256x3x349, .f32⟩
  | .local _ .vmem, ⟨4, _⟩ => ⟨S6x256x256, .f32⟩
  | .local _ .vmem, ⟨5, _⟩ => ⟨S6x256, .f32⟩
  | .local _ .vmem, ⟨6, _⟩ => ⟨S6x256x256, .f32⟩
  | .local _ .vmem, ⟨7, _⟩ => ⟨S6x256, .f32⟩
  | .local _ .vmem, ⟨8, _⟩ => ⟨S3x349x256, .f32⟩
  | .local _ .vmem, ⟨9, _⟩ => ⟨S3x256, .f32⟩
  | .local _ .vmem, ⟨10, _⟩ => ⟨S3x256x256, .f32⟩
  | .local _ .vmem, ⟨11, _⟩ => ⟨S3x256, .f32⟩
  | .local _ .vmem, ⟨12, _⟩ => ⟨S6x256, .f32⟩
  | .local _ .vmem, ⟨13, _⟩ => ⟨S6x256, .f32⟩
  | .local _ .vmem, ⟨14, _⟩ => ⟨S6x256, .f32⟩
  | .local _ .vmem, ⟨15, _⟩ => ⟨S6x256, .f32⟩
  | .local _ .vmem, ⟨16, _⟩ => ⟨S3x256, .f32⟩
  | .local _ .vmem, ⟨17, _⟩ => ⟨S3x256, .f32⟩
  | .local _ .vmem, ⟨18, _⟩ => ⟨S3x256, .f32⟩
  | .local _ .vmem, ⟨19, _⟩ => ⟨S3x256, .f32⟩
  | .local _ .vmem, ⟨20, _⟩ => ⟨S256x2304, .f32⟩
  | .local _ .vmem, ⟨21, _⟩ => ⟨S256x2304, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S1024x6x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg22_0 : Ref sig .tc := ⟨.vmem, 20, rfl⟩
abbrev cc0_stg22_1 : Ref sig .tc := ⟨.vmem, 21, rfl⟩
abbrev cc0_stg18_0 : Ref sig .tc := ⟨.smem, 0, rfl⟩
abbrev cc0_stg19_0 : Ref sig .tc := ⟨.smem, 1, rfl⟩
abbrev cc0_stg20_0 : Ref sig .tc := ⟨.smem, 2, rfl⟩
abbrev cc0_stg21_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem22_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3x349 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x349x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S6x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .smem S1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .smem S1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .smem S1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .smem S1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S256x2304 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ProjIdeal.lean ====
variable {F : FTy → Type} [FloatOps F] [Named F]
def κ : String → Option EReal := fun
  | "inv1536" => some ((1536⁻¹ : ℝ) : EReal)
  | "inv768" => some ((768⁻¹ : ℝ) : EReal)
  | _ => none
-- ==== ProjReferenceIdeal.lean ====
abbrev S1024x6x256 : Shape := ⟨3, ![1024, 6, 256]⟩
abbrev S1024x3x349 : Shape := ⟨3, ![1024, 3, 349]⟩
abbrev S6x256x256 : Shape := ⟨3, ![6, 256, 256]⟩
abbrev S6x256 : Shape := ⟨2, ![6, 256]⟩
abbrev S3x349x256 : Shape := ⟨3, ![3, 349, 256]⟩
abbrev S3x256 : Shape := ⟨2, ![3, 256]⟩
abbrev S3x256x256 : Shape := ⟨3, ![3, 256, 256]⟩
abbrev S1 : Shape := ⟨1, ![1]⟩
abbrev S6x256x1024 : Shape := ⟨3, ![6, 256, 1024]⟩
abbrev S1x6x256 : Shape := ⟨3, ![1, 6, 256]⟩
abbrev S_ : Shape := ⟨0, ![]⟩
abbrev S1024 : Shape := ⟨1, ![1024]⟩
abbrev S1024x1x1 : Shape := ⟨3, ![1024, 1, 1]⟩
abbrev S1x1x1 : Shape := ⟨3, ![1, 1, 1]⟩
abbrev S3x256x1024 : Shape := ⟨3, ![3, 256, 1024]⟩
abbrev S1024x3x256 : Shape := ⟨3, ![1024, 3, 256]⟩
abbrev S1x3x256 : Shape := ⟨3, ![1, 3, 256]⟩
abbrev S1024x9x256 : Shape := ⟨3, ![1024, 9, 256]⟩
abbrev S1024x2304 : Shape := ⟨2, ![1024, 2304]⟩

abbrev nBuf : Space → Nat
  | .hbm => 196
  | .vmem => 0
  | .smem => 0
  | _ => 0

abbrev hbmTy0_0 (i : Nat) : BufTy := match i % 128 with
  | 0 => ⟨S1024x6x256, .f32⟩
  | 1 => ⟨S1024x3x349, .f32⟩
  | 2 => ⟨S6x256x256, .f32⟩
  | 3 => ⟨S6x256, .f32⟩
  | 4 => ⟨S6x256x256, .f32⟩
  | 5 => ⟨S6x256, .f32⟩
  | 6 => ⟨S3x349x256, .f32⟩
  | 7 => ⟨S3x256, .f32⟩
  | 8 => ⟨S3x256x256, .f32⟩
  | 9 => ⟨S3x256, .f32⟩
  | 10 => ⟨S6x256, .f32⟩
  | 11 => ⟨S6x256, .f32⟩
  | 12 => ⟨S6x256, .f32⟩
  | 13 => ⟨S6x256, .f32⟩
  | 14 => ⟨S3x256, .f32⟩
  | 15 => ⟨S3x256, .f32⟩
  | 16 => ⟨S3x256, .f32⟩
  | 17 => ⟨S3x256, .f32⟩
  | 18 => ⟨S1, .f32⟩
  | 19 => ⟨S1, .f32⟩
  | 20 => ⟨S1, .f32⟩
  | 21 => ⟨S1, .f32⟩
  | 22 => ⟨S6x256x1024, .f32⟩
  | 23 => ⟨S1024x6x256, .f32⟩
  | 24 => ⟨S1x6x256, .f32⟩
  | 25 => ⟨S1024x6x256, .f32⟩
  | 26 => ⟨S1024x6x256, .f32⟩
  | 27 => ⟨S_, .f32⟩
  | 28 => ⟨S1024, .f32⟩
  | 29 => ⟨S1024x1x1, .f32⟩
  | 30 => ⟨S_, .f32⟩
  | 31 => ⟨S1024x1x1, .f32⟩
  | 32 => ⟨S1024x1x1, .f32⟩
  | 33 => ⟨S1024x6x256, .f32⟩
  | 34 => ⟨S1024x6x256, .f32⟩
  | 35 => ⟨S1024x6x256, .f32⟩
  | 36 => ⟨S1024x6x256, .f32⟩
  | 37 => ⟨S1024x6x256, .f32⟩
  | 38 => ⟨S_, .f32⟩
  | 39 => ⟨S1024, .f32⟩
  | 40 => ⟨S1024x1x1, .f32⟩
  | 41 => ⟨S_, .f32⟩
  | 42 => ⟨S1024x1x1, .f32⟩
  | 43 => ⟨S1024x1x1, .f32⟩
  | 44 => ⟨S1024x6x256, .f32⟩
  | 45 => ⟨S1024x6x256, .f32⟩
  | 46 => ⟨S_, .f32⟩
  | 47 => ⟨S1024x1x1, .f32⟩
  | 48 => ⟨S1024x1x1, .f32⟩
  | 49 => ⟨S1024x1x1, .f32⟩
  | 50 => ⟨S1024x6x256, .f32⟩
  | 51 => ⟨S1024x6x256, .f32⟩
  | 52 => ⟨S1x6x256, .f32⟩
  | 53 => ⟨S1024x6x256, .f32⟩
  | 54 => ⟨S1024x6x256, .f32⟩
  | 55 => ⟨S1x6x256, .f32⟩
  | 56 => ⟨S1024x6x256, .f32⟩
  | 57 => ⟨S1024x6x256, .f32⟩
  | 58 => ⟨S_, .f32⟩
  | 59 => ⟨S1024x6x256, .f32⟩
  | 60 => ⟨S1024x6x256, .i1⟩
  | 61 => ⟨S1x1x1, .f32⟩
  | 62 => ⟨S1024x6x256, .f32⟩
  | 63 => ⟨S1024x6x256, .f32⟩
  | 64 => ⟨S1024x6x256, .f32⟩
  | 65 => ⟨S6x256x1024, .f32⟩
  | 66 => ⟨S1024x6x256, .f32⟩
  | 67 => ⟨S1x6x256, .f32⟩
  | 68 => ⟨S1024x6x256, .f32⟩
  | 69 => ⟨S1024x6x256, .f32⟩
  | 70 => ⟨S_, .f32⟩
  | 71 => ⟨S1024, .f32⟩
  | 72 => ⟨S1024x1x1, .f32⟩
  | 73 => ⟨S_, .f32⟩
  | 74 => ⟨S1024x1x1, .f32⟩
  | 75 => ⟨S1024x1x1, .f32⟩
  | 76 => ⟨S1024x6x256, .f32⟩
  | 77 => ⟨S1024x6x256, .f32⟩
  | 78 => ⟨S1024x6x256, .f32⟩
  | 79 => ⟨S1024x6x256, .f32⟩
  | 80 => ⟨S1024x6x256, .f32⟩
  | 81 => ⟨S_, .f32⟩
  | 82 => ⟨S1024, .f32⟩
  | 83 => ⟨S1024x1x1, .f32⟩
  | 84 => ⟨S_, .f32⟩
  | 85 => ⟨S1024x1x1, .f32⟩
  | 86 => ⟨S1024x1x1, .f32⟩
  | 87 => ⟨S1024x6x256, .f32⟩
  | 88 => ⟨S1024x6x256, .f32⟩
  | 89 => ⟨S_, .f32⟩
  | 90 => ⟨S1024x1x1, .f32⟩
  | 91 => ⟨S1024x1x1, .f32⟩
  | 92 => ⟨S1024x1x1, .f32⟩
  | 93 => ⟨S1024x6x256, .f32⟩
  | 94 => ⟨S1024x6x256, .f32⟩
  | 95 => ⟨S1x6x256, .f32⟩
  | 96 => ⟨S1024x6x256, .f32⟩
  | 97 => ⟨S1024x6x256, .f32⟩
  | 98 => ⟨S1x6x256, .f32⟩
  | 99 => ⟨S1024x6x256, .f32⟩
  | 100 => ⟨S1024x6x256, .f32⟩
  | 101 => ⟨S_, .f32⟩
  | 102 => ⟨S1024x6x256, .f32⟩
  | 103 => ⟨S1024x6x256, .i1⟩
  | 104 => ⟨S1x1x1, .f32⟩
  | 105 => ⟨S1024x6x256, .f32⟩
  | 106 => ⟨S1024x6x256, .f32⟩
  | 107 => ⟨S1024x6x256, .f32⟩
  | 108 => ⟨S3x256x1024, .f32⟩
  | 109 => ⟨S1024x3x256, .f32⟩
  | 110 => ⟨S1x3x256, .f32⟩
  | 111 => ⟨S1024x3x256, .f32⟩
  | 112 => ⟨S1024x3x256, .f32⟩
  | 113 => ⟨S_, .f32⟩
  | 114 => ⟨S1024, .f32⟩
  | 115 => ⟨S1024x1x1, .f32⟩
  | 116 => ⟨S_, .f32⟩
  | 117 => ⟨S1024x1x1, .f32⟩
  | 118 => ⟨S1024x1x1, .f32⟩
  | 119 => ⟨S1024x3x256, .f32⟩
  | 120 => ⟨S1024x3x256, .f32⟩
  | 121 => ⟨S1024x3x256, .f32⟩
  | 122 => ⟨S1024x3x256, .f32⟩
  | 123 => ⟨S1024x3x256, .f32⟩
  | 124 => ⟨S_, .f32⟩
  | 125 => ⟨S1024, .f32⟩
  | 126 => ⟨S1024x1x1, .f32⟩
  | 127 => ⟨S_, .f32⟩
  | _ => ⟨S1024x6x256, .f32⟩

abbrev hbmTy0_1 (i : Nat) : BufTy := match i % 128 with
  | 0 => ⟨S1024x1x1, .f32⟩
  | 1 => ⟨S1024x1x1, .f32⟩
  | 2 => ⟨S1024x3x256, .f32⟩
  | 3 => ⟨S1024x3x256, .f32⟩
  | 4 => ⟨S_, .f32⟩
  | 5 => ⟨S1024x1x1, .f32⟩
  | 6 => ⟨S1024x1x1, .f32⟩
  | 7 => ⟨S1024x1x1, .f32⟩
  | 8 => ⟨S1024x3x256, .f32⟩
  | 9 => ⟨S1024x3x256, .f32⟩
  | 10 => ⟨S1x3x256, .f32⟩
  | 11 => ⟨S1024x3x256, .f32⟩
  | 12 => ⟨S1024x3x256, .f32⟩
  | 13 => ⟨S1x3x256, .f32⟩
  | 14 => ⟨S1024x3x256, .f32⟩
  | 15 => ⟨S1024x3x256, .f32⟩
  | 16 => ⟨S_, .f32⟩
  | 17 => ⟨S1024x3x256, .f32⟩
  | 18 => ⟨S1024x3x256, .i1⟩
  | 19 => ⟨S1x1x1, .f32⟩
  | 20 => ⟨S1024x3x256, .f32⟩
  | 21 => ⟨S1024x3x256, .f32⟩
  | 22 => ⟨S1024x3x256, .f32⟩
  | 23 => ⟨S3x256x1024, .f32⟩
  | 24 => ⟨S1024x3x256, .f32⟩
  | 25 => ⟨S1x3x256, .f32⟩
  | 26 => ⟨S1024x3x256, .f32⟩
  | 27 => ⟨S1024x3x256, .f32⟩
  | 28 => ⟨S_, .f32⟩
  | 29 => ⟨S1024, .f32⟩
  | 30 => ⟨S1024x1x1, .f32⟩
  | 31 => ⟨S_, .f32⟩
  | 32 => ⟨S1024x1x1, .f32⟩
  | 33 => ⟨S1024x1x1, .f32⟩
  | 34 => ⟨S1024x3x256, .f32⟩
  | 35 => ⟨S1024x3x256, .f32⟩
  | 36 => ⟨S1024x3x256, .f32⟩
  | 37 => ⟨S1024x3x256, .f32⟩
  | 38 => ⟨S1024x3x256, .f32⟩
  | 39 => ⟨S_, .f32⟩
  | 40 => ⟨S1024, .f32⟩
  | 41 => ⟨S1024x1x1, .f32⟩
  | 42 => ⟨S_, .f32⟩
  | 43 => ⟨S1024x1x1, .f32⟩
  | 44 => ⟨S1024x1x1, .f32⟩
  | 45 => ⟨S1024x3x256, .f32⟩
  | 46 => ⟨S1024x3x256, .f32⟩
  | 47 => ⟨S_, .f32⟩
  | 48 => ⟨S1024x1x1, .f32⟩
  | 49 => ⟨S1024x1x1, .f32⟩
  | 50 => ⟨S1024x1x1, .f32⟩
  | 51 => ⟨S1024x3x256, .f32⟩
  | 52 => ⟨S1024x3x256, .f32⟩
  | 53 => ⟨S1x3x256, .f32⟩
  | 54 => ⟨S1024x3x256, .f32⟩
  | 55 => ⟨S1024x3x256, .f32⟩
  | 56 => ⟨S1x3x256, .f32⟩
  | 57 => ⟨S1024x3x256, .f32⟩
  | 58 => ⟨S1024x3x256, .f32⟩
  | 59 => ⟨S_, .f32⟩
  | 60 => ⟨S1024x3x256, .f32⟩
  | 61 => ⟨S1024x3x256, .i1⟩
  | 62 => ⟨S1x1x1, .f32⟩
  | 63 => ⟨S1024x3x256, .f32⟩
  | 64 => ⟨S1024x3x256, .f32⟩
  | 65 => ⟨S1024x3x256, .f32⟩
  | 66 => ⟨S1024x9x256, .f32⟩
  | 67 => ⟨S1024x2304, .f32⟩
  | _ => ⟨S1024x6x256, .f32⟩

abbrev hbmTy (i : Nat) : BufTy := match i / 128 with
  | 0 => hbmTy0_0 i
  | 1 => hbmTy0_1 i
  | _ => ⟨S1024x6x256, .f32⟩

abbrev bufTy : (tb : Table) → Fin (tcTables nBuf tb) → BufTy
  | .hbm, ⟨i, _⟩ => hbmTy i
  | _, _ => ⟨S1024x6x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_v6 : Ref sig .tc := ⟨.hbm, 29, rfl⟩
abbrev main_cst_0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_v15 : Ref sig .tc := ⟨.hbm, 40, rfl⟩
abbrev main_cst_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_4 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_5 : Ref sig .tc := ⟨.hbm, 70, rfl⟩
abbrev main_v42 : Ref sig .tc := ⟨.hbm, 71, rfl⟩
abbrev main_v43 : Ref sig .tc := ⟨.hbm, 72, rfl⟩
abbrev main_cst_6 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_7 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_9 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_10 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_11 : Ref sig .tc := ⟨.hbm, 113, rfl⟩
abbrev main_v79 : Ref sig .tc := ⟨.hbm, 114, rfl⟩
abbrev main_v80 : Ref sig .tc := ⟨.hbm, 115, rfl⟩
abbrev main_cst_12 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_13 : Ref sig .tc := ⟨.hbm, 124, rfl⟩
abbrev main_v88 : Ref sig .tc := ⟨.hbm, 125, rfl⟩
abbrev main_v89 : Ref sig .tc := ⟨.hbm, 126, rfl⟩
abbrev main_cst_14 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_15 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_16 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_17 : Ref sig .tc := ⟨.hbm, 156, rfl⟩
abbrev main_v116 : Ref sig .tc := ⟨.hbm, 157, rfl⟩
abbrev main_v117 : Ref sig .tc := ⟨.hbm, 158, rfl⟩
abbrev main_cst_18 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_19 : Ref sig .tc := ⟨.hbm, 167, rfl⟩
abbrev main_v125 : Ref sig .tc := ⟨.hbm, 168, rfl⟩
abbrev main_v126 : Ref sig .tc := ⟨.hbm, 169, rfl⟩
abbrev main_cst_20 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_21 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_22 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩

abbrev nD : Nat := 1
abbrev τ : Topo := Topo.v7x

variable {F : FTy → Type} [FloatOps F]
-- ==== Attn.lean ====
abbrev S1024x2304 : Shape := ⟨2, ![1024, 2304]⟩
abbrev S32x256 : Shape := ⟨2, ![32, 256]⟩
abbrev S256x256 : Shape := ⟨2, ![256, 256]⟩
abbrev S1 : Shape := ⟨1, ![1]⟩
abbrev S256x2304 : Shape := ⟨2, ![256, 2304]⟩
abbrev S256x32 : Shape := ⟨2, ![256, 32]⟩
abbrev S256 : Shape := ⟨1, ![256]⟩
abbrev S256x1 : Shape := ⟨2, ![256, 1]⟩
abbrev S256x9 : Shape := ⟨2, ![256, 9]⟩

abbrev nBuf : Space → Nat
  | .hbm => 9
  | .vmem => 7
  | .smem => 4
  | _ => 0

abbrev bufTy : (tb : Table) → Fin (tcTables nBuf tb) → BufTy
  | .hbm, ⟨0, _⟩ => ⟨S1024x2304, .f32⟩
  | .hbm, ⟨1, _⟩ => ⟨S32x256, .f32⟩
  | .hbm, ⟨2, _⟩ => ⟨S32x256, .f32⟩
  | .hbm, ⟨3, _⟩ => ⟨S256x256, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S1024x2304, .f32⟩
  | .local _ .vmem, ⟨0, _⟩ => ⟨S256x2304, .f32⟩
  | .local _ .vmem, ⟨1, _⟩ => ⟨S256x2304, .f32⟩
  | .local _ .vmem, ⟨2, _⟩ => ⟨S32x256, .f32⟩
  | .local _ .vmem, ⟨3, _⟩ => ⟨S32x256, .f32⟩
  | .local _ .vmem, ⟨4, _⟩ => ⟨S256x256, .f32⟩
  | .local _ .vmem, ⟨5, _⟩ => ⟨S256x2304, .f32⟩
  | .local _ .vmem, ⟨6, _⟩ => ⟨S256x2304, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg8_0 : Ref sig .tc := ⟨.vmem, 5, rfl⟩
abbrev cc0_stg8_1 : Ref sig .tc := ⟨.vmem, 6, rfl⟩
abbrev cc0_stg4_0 : Ref sig .tc := ⟨.smem, 0, rfl⟩
abbrev cc0_stg5_0 : Ref sig .tc := ⟨.smem, 1, rfl⟩
abbrev cc0_stg6_0 : Ref sig .tc := ⟨.smem, 2, rfl⟩
abbrev cc0_stg7_0 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2304 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnReferenceIdeal.lean ====
abbrev S1024x2304 : Shape := ⟨2, ![1024, 2304]⟩
abbrev S32x256 : Shape := ⟨2, ![32, 256]⟩
abbrev S256x256 : Shape := ⟨2, ![256, 256]⟩
abbrev S1 : Shape := ⟨1, ![1]⟩
abbrev S1024x9x256 : Shape := ⟨3, ![1024, 9, 256]⟩
abbrev S1024x256x9 : Shape := ⟨3, ![1024, 256, 9]⟩
abbrev S1x1 : Shape := ⟨2, ![1, 1]⟩
abbrev S1024x9x32 : Shape := ⟨3, ![1024, 9, 32]⟩
abbrev S1024x32x9 : Shape := ⟨3, ![1024, 32, 9]⟩
abbrev S1024x9x9 : Shape := ⟨3, ![1024, 9, 9]⟩
abbrev S_ : Shape := ⟨0, ![]⟩
abbrev S1024x9 : Shape := ⟨2, ![1024, 9]⟩
abbrev S1024x1x9 : Shape := ⟨3, ![1024, 1, 9]⟩
abbrev S1x1x1 : Shape := ⟨3, ![1, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S1024x2304, .f32⟩
  | .hbm, ⟨1, _⟩ => ⟨S32x256, .f32⟩
  | .hbm, ⟨2, _⟩ => ⟨S32x256, .f32⟩
  | .hbm, ⟨3, _⟩ => ⟨S256x256, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S1024x9x256, .f32⟩
  | .hbm, ⟨9, _⟩ => ⟨S1024x256x9, .f32⟩
  | .hbm, ⟨10, _⟩ => ⟨S1x1, .f32⟩
  | .hbm, ⟨11, _⟩ => ⟨S32x256, .f32⟩
  | .hbm, ⟨12, _⟩ => ⟨S32x256, .f32⟩
  | .hbm, ⟨13, _⟩ => ⟨S1024x9x32, .f32⟩
  | .hbm, ⟨14, _⟩ => ⟨S1024x32x9, .f32⟩
  | .hbm, ⟨15, _⟩ => ⟨S1x1, .f32⟩
  | .hbm, ⟨16, _⟩ => ⟨S32x256, .f32⟩
  | .hbm, ⟨17, _⟩ => ⟨S32x256, .f32⟩
  | .hbm, ⟨18, _⟩ => ⟨S1024x9x32, .f32⟩
  | .hbm, ⟨19, _⟩ => ⟨S1024x32x9, .f32⟩
  | .hbm, ⟨20, _⟩ => ⟨S1x1, .f32⟩
  | .hbm, ⟨21, _⟩ => ⟨S256x256, .f32⟩
  | .hbm, ⟨22, _⟩ => ⟨S256x256, .f32⟩
  | .hbm, ⟨23, _⟩ => ⟨S1024x9x256, .f32⟩
  | .hbm, ⟨24, _⟩ => ⟨S1024x256x9, .f32⟩
  | .hbm, ⟨25, _⟩ => ⟨S1024x9x9, .f32⟩
  | .hbm, ⟨26, _⟩ => ⟨S_, .f32⟩
  | .hbm, ⟨27, _⟩ => ⟨S1024x9x9, .f32⟩
  | .hbm, ⟨28, _⟩ => ⟨S1024x9x9, .f32⟩
  | .hbm, ⟨29, _⟩ => ⟨S_, .f32⟩
  | .hbm, ⟨30, _⟩ => ⟨S1024x9, .f32⟩
  | .hbm, ⟨31, _⟩ => ⟨S_, .f32⟩
  | .hbm, ⟨32, _⟩ => ⟨S1024x9, .f32⟩
  | .hbm, ⟨33, _⟩ => ⟨S1024x9, .f32⟩
  | .hbm, ⟨34, _⟩ => ⟨S1024x1x9, .f32⟩
  | .hbm, ⟨35, _⟩ => ⟨S1024x9x9, .f32⟩
  | .hbm, ⟨36, _⟩ => ⟨S1024x9x9, .f32⟩
  | .hbm, ⟨37, _⟩ => ⟨S1024x9x9, .f32⟩
  | .hbm, ⟨38, _⟩ => ⟨S_, .f32⟩
  | .hbm, ⟨39, _⟩ => ⟨S1024x9, .f32⟩
  | .hbm, ⟨40, _⟩ => ⟨S1024x1x9, .f32⟩
  | .hbm, ⟨41, _⟩ => ⟨S1024x9x9, .f32⟩
  | .hbm, ⟨42, _⟩ => ⟨S1024x9x9, .f32⟩
  | .hbm, ⟨43, _⟩ => ⟨S1024x256x9, .f32⟩
  | .hbm, ⟨44, _⟩ => ⟨S1x1x1, .f32⟩
  | .hbm, ⟨45, _⟩ => ⟨S1024x256x9, .f32⟩
  | .hbm, ⟨46, _⟩ => ⟨S1024x256x9, .f32⟩
  | .hbm, ⟨47, _⟩ => ⟨S1024x256x9, .f32⟩
  | .hbm, ⟨48, _⟩ => ⟨S1024x9x256, .f32⟩
  | .hbm, ⟨49, _⟩ => ⟨S1024x2304, .f32⟩
  | _, _ => ⟨S1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Moe.lean ====
/- The mixture-of-experts call, read at an index: what one grid point adds to the output, and the output after all
   eight points as the sum over the experts. -/
module

public import proofs.«01_k».proof.Proof.Gen.KernelIdeal.Value
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Moe

open Cert.KernelIdeal Cert.KernelIdeal.Gen

variable (m : (ℓ : Loc nD τ sig) → Buf (Elt Ideal) ℓ)

/-- The zero fill of the first grid point. -/
theorem zero_at (j : S1024x256.Idx) : k0_pay1 (F := Ideal) j = 0 := by pointwise [k0_pay1]

/-- Comparing the column number with the expert's number selects the expert's column. -/
theorem sum_select (e : Fin 8) (f : Fin 8 → EReal) :
    (∑ x : Fin 8, Scalar.select (IntOp.cmpi .eq (BitVec.ofNat 32 x.val) (BitVec.ofNat 32 e.val)) (f x) 0) = f e := by
  have h : ∀ x : Fin 8, Scalar.select (IntOp.cmpi .eq (BitVec.ofNat 32 x.val) (BitVec.ofNat 32 e.val)) (f x) 0
      = if x = e then f x else 0 := by
    intro x; fin_cases e <;> fin_cases x <;> rfl
  simp only [h, Finset.sum_ite_eq', Finset.mem_univ, if_true]

/-- What grid point `e` leaves: the sum so far plus the expert's weight times its output. -/
theorem add_at (i : grid0.Coords) (w : FVec Ideal S1024x8 .f32) (x : FVec Ideal S1024x2304 .f32)
    (We : FVec Ideal S1x2304x256 .f32) (be : FVec Ideal S1x1x256 .f32) (acc : FVec Ideal S1024x256 .f32) (j : S1024x256.Idx) :
    k0_pay2 i w x We be acc j = acc j + w (ix2 (j 0) (i 1)) * (∑ k : Fin 2304, x (ix2 (j 0) k) * We (ix3 0 k (j 1)) + be (ix3 0 0 (j 1))) := by
  pointwise [k0_pay2]
  exact congrArg₂ (· + ·) rfl (congrArg₂ (· * ·) (sum_select (i 1) fun x => w (ix2 (j 0) x)) rfl)

/-- The grid's second coordinate and the windows' block numbers at each point. -/
theorem idx : ∀ t : Fin cfg0.N, (grid0.coords t 1).val = t.val ∧ win0_0.index t = ![0, 0] ∧ win0_1.index t = ![0, 0]
    ∧ win0_2.index t = ![t.val, 0, 0] ∧ win0_3.index t = ![t.val, 0, 0] ∧ win0_4.index t = ![0, 0] :=
  (by decide +kernel : ∀ t : Fin grid0.N, _)

/-- The mixture of experts: the weights times the experts' outputs, summed over the experts. -/
def MOE (x : FVec Ideal S1024x2304 .f32) (w : FVec Ideal S1024x8 .f32) (We : FVec Ideal S8x2304x256 .f32) (be : FVec Ideal S8x256 .f32)
    (p : Fin 1024) (q : Fin 256) : EReal :=
  ∑ e : Fin 8, w (ix2 p e) * (∑ k : Fin 2304, x (ix2 p k) * We (ix3 e k q) + be (ix2 e q))

/-- The result array after the run. -/
theorem final4 (c : Dev nD) : (dats m 0 c).arrAt 4 (cfgs 0).N = fun j =>
    MOE (m ((c : Thread nD τ).loc main_arg0)) (m ((c : Thread nD τ).loc main_arg1)) (m ((c : Thread nD τ).loc main_arg2))
      (m ((c : Thread nD τ).loc main_arg3)) (j 0) (j 1) := by
  refine (dats m 0 c).arrAt_eq_of_after_last 4 t0_7 (by decide +kernel) _ fun j => ?_
  blk_simp
  obtain ⟨p, q, rfl⟩ : ∃ (p : Fin 1024) (q : Fin 256), j = ix2 p q := ⟨j 0, j 1, eq_ix2 j⟩
  rw [after0_4, Pipeline.eq_sum_fin_of_reset_step_apply_last (fun n h => outsAt0 m c n h) 8 (fun _ => 0) _
    (fun t h j => by rw [outsAt0_A m c t h]; frame_out; rw [add_at, zero_at])
    (fun t h j => by rw [outsAt0_B m c t h]; frame_out; rw [add_at])
    (le_of_eq N_0) t0_7 rfl (ix2 p q), zero_add]
  unfold MOE
  refine Fin.sum_fin_congr fun t => ?_
  have ht := (idx t).1
  rw [show grid0.coords t 1 = t from Fin.ext ht]
  blk_point [iblk, V, idx t]

end Cert.KernelIdeal.Moe

end
-- ==== Proof.ProjMath.lean ====
/- The mathematics of one projection layer over the extended reals: a layer norm over all entries of a sample followed
   by a leaky rectifier, once as the kernel computes it (mean of the squares minus the square of the mean, times the
   reciprocal root) and once as the reference writes it (mean of the squared differences, over the root).  They agree
   whenever the normalised entries are real. -/
module

public import Idealize.ShloMosaic.Lib.Pipeline.ValueKit

@[expose] public section

noncomputable section

namespace Cert.ProjMath

open Idealize.ShloMosaic

/-- The leaky rectifier of slope `a`. -/
def prelu (a o : EReal) : EReal := if 0 < o then o else a * o

/-- `y` is a real number. -/
def IsReal (y : EReal) : Prop := ∃ r : ℝ, y = (r : EReal)

/-- `1e-5` as the programs spell it. -/
def eps : EReal := Ideal.ofBits .f32 925353388#32

theorem eps_real : ∃ e : ℝ, 0 < e ∧ eps = (e : EReal) := by
  refine ⟨10995116 * 2⁻¹ ^ 40, by norm_num, ?_⟩
  simp [eps, Ideal.ofBits, Ideal.ieee, -EReal.coe_mul]

theorem ofBits_1536 : Ideal.ofBits .f32 1153433600#32 = ((1536 : ℝ) : EReal) := by
  simp [Ideal.ofBits, Ideal.ieee, -EReal.coe_mul]; norm_num

theorem ofBits_768 : Ideal.ofBits .f32 1145044992#32 = ((768 : ℝ) : EReal) := by
  simp [Ideal.ofBits, Ideal.ieee, -EReal.coe_mul]; norm_num

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

theorem IsReal.prelu {a o : EReal} (ha : IsReal a) (ho : IsReal o) : IsReal (prelu a o) := by
  unfold ProjMath.prelu; split
  · exact ho
  · exact ha.mul ho

/-- The linear map before a layer: one row of `x` against one matrix, plus a bias. -/
def lin {n : ℕ} (x w : Fin n → EReal) (b : EReal) : EReal := (∑ k, x k * w k) + b

theorem IsReal.lin {n : ℕ} {x w : Fin n → EReal} {b : EReal} (hx : ∀ k, IsReal (x k)) (hw : ∀ k, IsReal (w k)) (hb : IsReal b) :
    IsReal (lin x w b) := (IsReal.sum _ fun k => (hx k).mul (hw k)).add hb

variable {n : ℕ}

/-- The sum of all entries of a sample. -/
def total (y : Fin n → Fin 256 → EReal) : EReal := ∑ c, ∑ q, y c q

/-- The mean as the kernel takes it. -/
def meanK (κ : EReal) (y : Fin n → Fin 256 → EReal) : EReal := total y * κ

/-- The reciprocal standard deviation as the kernel takes it. -/
def invK (κ : EReal) (y : Fin n → Fin 256 → EReal) : EReal :=
  Ideal.rsqrt (total (fun c q => y c q * y c q) * κ - meanK κ y * meanK κ y + eps)

/-- The kernel's layer norm. -/
def normK (κ : EReal) (y : Fin n → Fin 256 → EReal) (g b : EReal) (c : Fin n) (q : Fin 256) : EReal :=
  (y c q - meanK κ y) * invK κ y * g + b

/-- The mean as the reference takes it. -/
def meanR (N : EReal) (y : Fin n → Fin 256 → EReal) : EReal := Ideal.div (total y) N

/-- The reference's layer norm. -/
def normR (N : EReal) (y : Fin n → Fin 256 → EReal) (g b : EReal) (c : Fin n) (q : Fin 256) : EReal :=
  Ideal.div (y c q - meanR N y)
    (Ideal.sqrt (Ideal.div (total fun c q => (y c q - meanR N y) * (y c q - meanR N y)) N + eps)) * g + b

/-- Over the reals, the mean of the squared differences is the mean of the squares minus the square of the mean. -/
theorem var_real (N : ℝ) (hN : N = n * 256) (h0 : N ≠ 0) (r : Fin n → Fin 256 → ℝ) (μ : ℝ) (hμ : μ = (∑ c, ∑ q, r c q) * N⁻¹) :
    (∑ c, ∑ q, (r c q - μ) * (r c q - μ)) * N⁻¹ = (∑ c, ∑ q, r c q * r c q) * N⁻¹ - μ * μ := by
  have e : ∀ c q, (r c q - μ) * (r c q - μ) = r c q * r c q - 2 * μ * r c q + μ * μ := fun c q => by ring
  have hs : (∑ c, ∑ q, r c q) = μ * N := by rw [hμ]; field_simp
  simp only [e, Finset.sum_add_distrib, Finset.sum_sub_distrib, ← Finset.mul_sum, hs, Finset.sum_const, Finset.card_univ, Fintype.card_fin, nsmul_eq_mul]
  rw [show ∀ a : ℝ, a - 2 * μ * (μ * N) + μ * (((256 : ℕ) : ℝ) * ((n : ℝ) * μ)) = a - μ * μ * N from fun a => by rw [hN]; push_cast; ring]
  field_simp

theorem total_coe (r : Fin n → Fin 256 → ℝ) : total (fun c q => (r c q : EReal)) = ((∑ c, ∑ q, r c q : ℝ) : EReal) := by
  simp only [total, coe_sum]

/-- On real entries the two layer norms agree, whatever the scale and the shift; with a real scale and shift the
    result is real. -/
theorem norm_eq (N : ℝ) (hN : N = n * 256) (h0 : 0 < N) (y : Fin n → Fin 256 → EReal) (hy : ∀ c q, IsReal (y c q)) :
    (∀ g b c q, normK ((N⁻¹ : ℝ) : EReal) y g b c q = normR (N : EReal) y g b c q)
    ∧ (∀ g b c q, IsReal g → IsReal b → IsReal (normK ((N⁻¹ : ℝ) : EReal) y g b c q)) := by
  choose r hr using hy
  obtain rfl : y = fun c q => (r c q : EReal) := funext fun c => funext fun q => hr c q
  obtain ⟨e, he, hE⟩ := eps_real
  obtain ⟨μ, hμ⟩ : ∃ μ : ℝ, μ = (∑ c, ∑ q, r c q) * N⁻¹ := ⟨_, rfl⟩
  obtain ⟨v, hv⟩ : ∃ v : ℝ, v = (∑ c, ∑ q, (r c q - μ) * (r c q - μ)) * N⁻¹ := ⟨_, rfl⟩
  have hvar := var_real N hN h0.ne' r μ hμ
  have v0 : 0 ≤ v := hv ▸ mul_nonneg (Finset.sum_nonneg fun c _ => Finset.sum_nonneg fun q _ => mul_self_nonneg _) (inv_nonneg.mpr h0.le)
  have hmK : meanK ((N⁻¹ : ℝ) : EReal) (fun c q => (r c q : EReal)) = (μ : EReal) := by
    rw [meanK, total_coe, ← EReal.coe_mul, hμ]
  have hmR : meanR (N : EReal) (fun c q => (r c q : EReal)) = (μ : EReal) := by
    rw [meanR, total_coe, Ideal.div_coe h0.ne', one_div, ← EReal.coe_mul, hμ]
  have hinv : invK ((N⁻¹ : ℝ) : EReal) (fun c q => (r c q : EReal)) = (((Real.sqrt (v + e))⁻¹ : ℝ) : EReal) := by
    have : (fun c q => ((r c q : ℝ) : EReal) * ((r c q : ℝ) : EReal)) = fun c q => ((r c q * r c q : ℝ) : EReal) := by
      funext c q; rw [EReal.coe_mul]
    rw [invK, hmK, this, total_coe, hE, ← EReal.coe_mul, ← EReal.coe_mul, ← EReal.coe_sub, ← EReal.coe_add, ← hvar, ← hv, Ideal.rsqrt_coe,
      if_neg (by linarith), if_neg (by linarith)]
  have hsq : Ideal.sqrt (Ideal.div (total fun c q => (((r c q : ℝ) : EReal) - μ) * (((r c q : ℝ) : EReal) - μ)) (N : EReal) + eps)
      = ((Real.sqrt (v + e) : ℝ) : EReal) := by
    have : (fun c q => (((r c q : ℝ) : EReal) - μ) * (((r c q : ℝ) : EReal) - μ)) = fun c q => (((r c q - μ) * (r c q - μ) : ℝ) : EReal) := by
      funext c q; rw [EReal.coe_mul, EReal.coe_sub]
    rw [this, total_coe, Ideal.div_coe h0.ne', one_div, hE, ← EReal.coe_mul, ← EReal.coe_add, ← hv, Ideal.sqrt_coe, if_neg (by linarith)]
  have hpos : Real.sqrt (v + e) ≠ 0 := (Real.sqrt_pos.mpr (by linarith)).ne'
  refine ⟨fun g b c q => ?_, fun g b c q hg hb => ?_⟩
  · rw [normK, normR, hmK, hmR, hinv, hsq, Ideal.div_coe hpos, one_div]
  · rw [normK, hmK, hinv]
    exact ((((IsReal.sub ⟨_, rfl⟩ ⟨_, rfl⟩).mul ⟨_, rfl⟩).mul hg).add hb)

/-- One linear map per channel, each with its own matrix and bias. -/
def linear {d : ℕ} (x : Fin n → Fin d → EReal) (W : Fin n → Fin d → Fin 256 → EReal) (b : Fin n → Fin 256 → EReal)
    (c : Fin n) (q : Fin 256) : EReal := lin (x c) (fun k => W c k q) (b c q)

/-- A layer of the kernel: its norm, scale, shift and rectifier. -/
def layerK (κ : EReal) (y : Fin n → Fin 256 → EReal) (g s : Fin n → Fin 256 → EReal) (a : EReal) (c : Fin n) (q : Fin 256) : EReal :=
  prelu a (normK κ y (g c q) (s c q) c q)

/-- A layer of the reference. -/
def layerR (N : EReal) (y : Fin n → Fin 256 → EReal) (g s : Fin n → Fin 256 → EReal) (a : EReal) (c : Fin n) (q : Fin 256) : EReal :=
  prelu a (normR N y (g c q) (s c q) c q)

/-- A matrix read by row and column. -/
def mat2 {a b : ℕ} (x : FVec Ideal ⟨2, ![a, b]⟩ .f32) (i : Fin a) (j : Fin b) : EReal := x (ix2 i j)

/-- A rank-three array read by its three indices. -/
def mat3 {a b c : ℕ} (x : FVec Ideal ⟨3, ![a, b, c]⟩ .f32) (i : Fin a) (j : Fin b) (k : Fin c) : EReal := x (ix3 i j k)

/-- Both projection layers of one sample on real data: the kernel's and the reference's results agree.  The second
    layer's scale, shift and slope are arbitrary. -/
theorem proj_eq {d : ℕ} (N : ℝ) (hN : N = n * 256) (h0 : 0 < N) (x : Fin n → Fin d → EReal) (W : Fin n → Fin d → Fin 256 → EReal)
    (b g s : Fin n → Fin 256 → EReal) (a : EReal) (W' : Fin n → Fin 256 → Fin 256 → EReal) (b' g' s' : Fin n → Fin 256 → EReal) (a' : EReal)
    (hx : ∀ c k, IsReal (x c k)) (hW : ∀ c k q, IsReal (W c k q)) (hb : ∀ c q, IsReal (b c q)) (hg : ∀ c q, IsReal (g c q))
    (hs : ∀ c q, IsReal (s c q)) (ha : IsReal a) (hW' : ∀ c k q, IsReal (W' c k q)) (hb' : ∀ c q, IsReal (b' c q)) :
    layerK ((N⁻¹ : ℝ) : EReal) (linear (layerK ((N⁻¹ : ℝ) : EReal) (linear x W b) g s a) W' b') g' s' a'
      = layerR (N : EReal) (linear (layerR (N : EReal) (linear x W b) g s a) W' b') g' s' a' := by
  have h1 := norm_eq N hN h0 (linear x W b) fun c q => IsReal.lin (hx c) (fun k => hW c k q) (hb c q)
  have e1 : layerK ((N⁻¹ : ℝ) : EReal) (linear x W b) g s a = layerR (N : EReal) (linear x W b) g s a := by
    funext c q; rw [layerK, layerR, h1.1]
  have r1 : ∀ c q, IsReal (layerK ((N⁻¹ : ℝ) : EReal) (linear x W b) g s a c q) := fun c q =>
    IsReal.prelu ha (h1.2 _ _ _ _ (hg c q) (hs c q))
  rw [← e1]
  funext c q
  have h2 := (norm_eq N hN h0 (linear (layerK ((N⁻¹ : ℝ) : EReal) (linear x W b) g s a) W' b')
    fun c q => IsReal.lin (r1 c) (fun k => hW' c k q) (hb' c q)).1 (g' c q) (s' c q) c q
  exact congrArg (prelu a') h2

end Cert.ProjMath

end
-- ==== Proof.ProjRef.lean ====
/- The projections' reference read at an index: two layers per channel, each a linear map, a layer norm over all channels
   and features of the sample, and a rectifier. -/
module

public import proofs.«01_k».proof.Proof.Gen.ProjReferenceIdeal.Run
public import proofs.«01_k».proof.Proof.ProjMath
public import Idealize.ShloMosaic.Lib.Pipeline.ValueKit

@[expose] public section

set_option maxRecDepth 16384

noncomputable section

namespace Cert.ProjReferenceIdeal.Rows

open Cert.ProjReferenceIdeal Cert.ProjReferenceIdeal.Gen Cert.ProjReferenceIdeal.Value Cert.ProjMath Idealize.ShloMosaic Idealize.ShloMosaic.Tactic

variable (V0 : Valuation τ sig (Elt Ideal))

/-- A linear map with the factors in the other order. -/
theorem linear_comm {n d : ℕ} (x : Fin n → Fin d → EReal) (W : Fin n → Fin d → Fin 256 → EReal) (b : Fin n → Fin 256 → EReal) (c : Fin n) (q : Fin 256) :
    (∑ k, W c k q * x c k) + b c q = linear x W b c q := by
  simp only [linear, lin, mul_comm]

/-- The rectifier spelt as a comparison and a choice. -/
theorem prelu_open (a o : EReal) : (if 0 < o then o else a * o) = prelu a o := rfl

/-- The first linear map of sample `p`. -/
def Y1X (p : Fin 1024) : Fin 6 → Fin 256 → EReal := linear (mat3 (V0 (Proc.devRef .tc main_arg0)) p) (mat3 (V0 (Proc.devRef .tc main_arg2))) (mat2 (V0 (Proc.devRef .tc main_arg3)))
/-- The first layer of sample `p`. -/
def H1X (p : Fin 1024) : Fin 6 → Fin 256 → EReal := layerR ((1536 : ℝ) : EReal) (Y1X V0 p) (mat2 (V0 (Proc.devRef .tc main_arg10))) (mat2 (V0 (Proc.devRef .tc main_arg11))) ((V0 (Proc.devRef .tc main_arg18)) (ix1 0))
/-- The second linear map of sample `p`. -/
def Y2X (p : Fin 1024) : Fin 6 → Fin 256 → EReal := linear (H1X V0 p) (mat3 (V0 (Proc.devRef .tc main_arg4))) (mat2 (V0 (Proc.devRef .tc main_arg5)))
/-- The second layer of sample `p`. -/
def H2X (p : Fin 1024) : Fin 6 → Fin 256 → EReal := layerR ((1536 : ℝ) : EReal) (Y2X V0 p) (mat2 (V0 (Proc.devRef .tc main_arg12))) (mat2 (V0 (Proc.devRef .tc main_arg13))) ((V0 (Proc.devRef .tc main_arg19)) (ix1 0))

theorem y1X (p : Fin 1024) (c : Fin 6) (q : Fin 256) : res_main_v4 V0 (ix3 p c q) = Y1X V0 p c q := by
  pointwise [res_main_v4]
  exact linear_comm (mat3 (V0 (Proc.devRef .tc main_arg0)) p) (mat3 (V0 (Proc.devRef .tc main_arg2))) (mat2 (V0 (Proc.devRef .tc main_arg3))) c q

theorem m1X (p : Fin 1024) : res_main_v8 V0 (ix3 p 0 0) = meanR ((1536 : ℝ) : EReal) (Y1X V0 p) := by
  pointwise [res_main_v8]
  simp only [y1X, ofBits_1536]
  rfl

theorem n1X (p : Fin 1024) (c : Fin 6) (q : Fin 256) : res_main_v30 V0 (ix3 p c q)
    = normR ((1536 : ℝ) : EReal) (Y1X V0 p) (mat2 (V0 (Proc.devRef .tc main_arg10)) c q) (mat2 (V0 (Proc.devRef .tc main_arg11)) c q) c q := by
  pointwise [res_main_v30]
  simp only [y1X, m1X, ofBits_1536]
  rfl

theorem y2X (p : Fin 1024) (c : Fin 6) (q : Fin 256) : res_main_v41 V0 (ix3 p c q) = Y2X V0 p c q := by
  pointwise [res_main_v41]
  simp only [n1X, prelu_open]
  exact linear_comm (H1X V0 p) (mat3 (V0 (Proc.devRef .tc main_arg4))) (mat2 (V0 (Proc.devRef .tc main_arg5))) c q

theorem m2X (p : Fin 1024) : res_main_v45 V0 (ix3 p 0 0) = meanR ((1536 : ℝ) : EReal) (Y2X V0 p) := by
  pointwise [res_main_v45]
  simp only [y2X, ofBits_1536]
  rfl

theorem n2X (p : Fin 1024) (c : Fin 6) (q : Fin 256) : res_main_v67 V0 (ix3 p c q)
    = normR ((1536 : ℝ) : EReal) (Y2X V0 p) (mat2 (V0 (Proc.devRef .tc main_arg12)) c q) (mat2 (V0 (Proc.devRef .tc main_arg13)) c q) c q := by
  pointwise [res_main_v67]
  simp only [y2X, m2X, ofBits_1536]
  rfl

/-- The first linear map of sample `p`. -/
def Y1L (p : Fin 1024) : Fin 3 → Fin 256 → EReal := linear (mat3 (V0 (Proc.devRef .tc main_arg1)) p) (mat3 (V0 (Proc.devRef .tc main_arg6))) (mat2 (V0 (Proc.devRef .tc main_arg7)))
/-- The first layer of sample `p`. -/
def H1L (p : Fin 1024) : Fin 3 → Fin 256 → EReal := layerR ((768 : ℝ) : EReal) (Y1L V0 p) (mat2 (V0 (Proc.devRef .tc main_arg14))) (mat2 (V0 (Proc.devRef .tc main_arg15))) ((V0 (Proc.devRef .tc main_arg20)) (ix1 0))
/-- The second linear map of sample `p`. -/
def Y2L (p : Fin 1024) : Fin 3 → Fin 256 → EReal := linear (H1L V0 p) (mat3 (V0 (Proc.devRef .tc main_arg8))) (mat2 (V0 (Proc.devRef .tc main_arg9)))
/-- The second layer of sample `p`. -/
def H2L (p : Fin 1024) : Fin 3 → Fin 256 → EReal := layerR ((768 : ℝ) : EReal) (Y2L V0 p) (mat2 (V0 (Proc.devRef .tc main_arg16))) (mat2 (V0 (Proc.devRef .tc main_arg17))) ((V0 (Proc.devRef .tc main_arg21)) (ix1 0))

theorem y1L (p : Fin 1024) (c : Fin 3) (q : Fin 256) : res_main_v78 V0 (ix3 p c q) = Y1L V0 p c q := by
  pointwise [res_main_v78]
  exact linear_comm (mat3 (V0 (Proc.devRef .tc main_arg1)) p) (mat3 (V0 (Proc.devRef .tc main_arg6))) (mat2 (V0 (Proc.devRef .tc main_arg7))) c q

theorem m1L (p : Fin 1024) : res_main_v82 V0 (ix3 p 0 0) = meanR ((768 : ℝ) : EReal) (Y1L V0 p) := by
  pointwise [res_main_v82]
  simp only [y1L, ofBits_768]
  rfl

theorem n1L (p : Fin 1024) (c : Fin 3) (q : Fin 256) : res_main_v104 V0 (ix3 p c q)
    = normR ((768 : ℝ) : EReal) (Y1L V0 p) (mat2 (V0 (Proc.devRef .tc main_arg14)) c q) (mat2 (V0 (Proc.devRef .tc main_arg15)) c q) c q := by
  pointwise [res_main_v104]
  simp only [y1L, m1L, ofBits_768]
  rfl

theorem y2L (p : Fin 1024) (c : Fin 3) (q : Fin 256) : res_main_v115 V0 (ix3 p c q) = Y2L V0 p c q := by
  pointwise [res_main_v115]
  simp only [n1L, prelu_open]
  exact linear_comm (H1L V0 p) (mat3 (V0 (Proc.devRef .tc main_arg8))) (mat2 (V0 (Proc.devRef .tc main_arg9))) c q

theorem m2L (p : Fin 1024) : res_main_v119 V0 (ix3 p 0 0) = meanR ((768 : ℝ) : EReal) (Y2L V0 p) := by
  pointwise [res_main_v119]
  simp only [y2L, ofBits_768]
  rfl

theorem n2L (p : Fin 1024) (c : Fin 3) (q : Fin 256) : res_main_v141 V0 (ix3 p c q)
    = normR ((768 : ℝ) : EReal) (Y2L V0 p) (mat2 (V0 (Proc.devRef .tc main_arg16)) c q) (mat2 (V0 (Proc.devRef .tc main_arg17)) c q) c q := by
  pointwise [res_main_v141]
  simp only [y2L, m2L, ofBits_768]
  rfl

end Cert.ProjReferenceIdeal.Rows

end
-- ==== Proof.ProjRowsX.lean ====
/- Rows of the projection kernel's values, read at an index: the feature branch.  Each value the body computes is named
   there; the statements below say what a row of it is as a function of the input blocks. -/
module

public import proofs.«01_k».proof.Proof.Gen.ProjIdeal.Frame
public import proofs.«01_k».proof.Proof.ProjMath

@[expose] public section

set_option maxRecDepth 16384

noncomputable section

namespace Cert.ProjIdeal.RowsX

open Cert.ProjIdeal Cert.ProjIdeal.Gen Cert.ProjMath Idealize.ShloMosaic Idealize.ShloMosaic.Tactic Idealize.ShloMosaic.TcCoe

/-- The named constant of this branch is the reciprocal of the number of entries. -/
theorem named_1536 : Named.named (F := Ideal) κ "inv1536" (φ := .f32) 975874731#32 = ((1536⁻¹ : ℝ) : EReal) :=
  IdealRules.named_const.ideal_named_scalar _ _ _ _ rfl

/-- The reciprocal standard deviation spelt out as the body computes it. -/
theorem inv_open (Y : Fin 6 → Fin 256 → EReal) :
    Ideal.rsqrt (((∑ x, Y 0 x * Y 0 x) + (∑ x, Y 1 x * Y 1 x) + (∑ x, Y 2 x * Y 2 x) + (∑ x, Y 3 x * Y 3 x) + (∑ x, Y 4 x * Y 4 x) + (∑ x, Y 5 x * Y 5 x)) * Named.named (F := Ideal) κ "inv1536" (φ := .f32) 975874731#32
      - meanK ((1536⁻¹ : ℝ) : EReal) Y * meanK ((1536⁻¹ : ℝ) : EReal) Y + Ideal.ofBits .f32 925353388#32) = invK ((1536⁻¹ : ℝ) : EReal) Y := by
  simp only [invK, total, Fin.sum_univ_six, named_1536]
  rfl

/-- Row `p` after the first linear map. -/
def Y1 (x0 : Vec Ideal S256x6x256 .f32) (x2 : Vec Ideal S6x256x256 .f32) (x3 : Vec Ideal S6x256 .f32) (p : Fin 256) := linear (mat3 x0 p) (mat3 x2) (mat2 x3)
/-- Row `p` after the first layer. -/
def H1 (x0 : Vec Ideal S256x6x256 .f32) (x2 : Vec Ideal S6x256x256 .f32) (x3 : Vec Ideal S6x256 .f32) (x10 : Vec Ideal S6x256 .f32) (x11 : Vec Ideal S6x256 .f32) (x18 : Vec Ideal S1 .f32) (p : Fin 256) := layerK ((1536⁻¹ : ℝ) : EReal) (Y1 x0 x2 x3 p) (mat2 x10) (mat2 x11) (x18 (ix1 0))
/-- Row `p` after the second linear map. -/
def Y2 (x0 : Vec Ideal S256x6x256 .f32) (x2 : Vec Ideal S6x256x256 .f32) (x3 : Vec Ideal S6x256 .f32) (x10 : Vec Ideal S6x256 .f32) (x11 : Vec Ideal S6x256 .f32) (x18 : Vec Ideal S1 .f32) (x4 : Vec Ideal S6x256x256 .f32) (x5 : Vec Ideal S6x256 .f32) (p : Fin 256) := linear (H1 x0 x2 x3 x10 x11 x18 p) (mat3 x4) (mat2 x5)
/-- Row `p` after the second layer. -/
def H2 (x0 : Vec Ideal S256x6x256 .f32) (x2 : Vec Ideal S6x256x256 .f32) (x3 : Vec Ideal S6x256 .f32) (x10 : Vec Ideal S6x256 .f32) (x11 : Vec Ideal S6x256 .f32) (x18 : Vec Ideal S1 .f32) (x4 : Vec Ideal S6x256x256 .f32) (x5 : Vec Ideal S6x256 .f32) (x12 : Vec Ideal S6x256 .f32) (x13 : Vec Ideal S6x256 .f32) (x19 : Vec Ideal S1 .f32) (p : Fin 256) := layerK ((1536⁻¹ : ℝ) : EReal) (Y2 x0 x2 x3 x10 x11 x18 x4 x5 p) (mat2 x12) (mat2 x13) (x19 (ix1 0))

theorem r_at (c : Dev nD) (arg19 : Memref sig .tc .smem S1 .f32) (harg19 : arg19.IsWhole) (x18 : Vec Ideal S1 .f32) : kernelRun0_A.sl.r (F := Ideal) c arg19 harg19 x18 = x18 (ix1 0) := by
  simp only [kernelRun0_A.sl.r, View.readAt_eq_ld, Memref.IsWhole.read_unread]
  exact View.ld_unit_apply_of _ _ _ _ _ _ (by decide)

theorem r_4_at (c : Dev nD) (arg20 : Memref sig .tc .smem S1 .f32) (harg20 : arg20.IsWhole) (x19 : Vec Ideal S1 .f32) : kernelRun0_A.sl.r_4 (F := Ideal) c arg20 harg20 x19 = x19 (ix1 0) := by
  simp only [kernelRun0_A.sl.r_4, View.readAt_eq_ld, Memref.IsWhole.read_unread]
  exact View.ld_unit_apply_of _ _ _ _ _ _ (by decide)

theorem v18_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (x0 : Vec Ideal S256x6x256 .f32) (x2 : Vec Ideal S6x256x256 .f32) (x3 : Vec Ideal S6x256 .f32) (p q : Fin 256) :
    kernelRun0_A.sl.v18 (F := Ideal) c arg1 harg1 arg3 harg3 arg4 harg4 x0 x2 x3 (ix2 p q) = Y1 x0 x2 x3 p 0 q := by
  pointwise [kernelRun0_A.sl.v18, kernelRun0_A.sl.v15, kernelRun0_A.sl.cst, kernelRun0_A.sl.v1, kernelRun0_A.sl.v14, kernelRun0_A.sl.v17, View.readAt_eq_ld, Memref.IsWhole.read_unread, View.ld_unit]
  rfl

theorem v24_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (x0 : Vec Ideal S256x6x256 .f32) (x2 : Vec Ideal S6x256x256 .f32) (x3 : Vec Ideal S6x256 .f32) (p q : Fin 256) :
    kernelRun0_A.sl.v24 (F := Ideal) c arg1 harg1 arg3 harg3 arg4 harg4 x0 x2 x3 (ix2 p q) = Y1 x0 x2 x3 p 1 q := by
  pointwise [kernelRun0_A.sl.v24, kernelRun0_A.sl.v21, kernelRun0_A.sl.cst, kernelRun0_A.sl.v20, kernelRun0_A.sl.v3, kernelRun0_A.sl.v23, View.readAt_eq_ld, Memref.IsWhole.read_unread, View.ld_unit]
  rfl

theorem v30_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (x0 : Vec Ideal S256x6x256 .f32) (x2 : Vec Ideal S6x256x256 .f32) (x3 : Vec Ideal S6x256 .f32) (p q : Fin 256) :
    kernelRun0_A.sl.v30 (F := Ideal) c arg1 harg1 arg3 harg3 arg4 harg4 x0 x2 x3 (ix2 p q) = Y1 x0 x2 x3 p 2 q := by
  pointwise [kernelRun0_A.sl.v30, kernelRun0_A.sl.v27, kernelRun0_A.sl.cst, kernelRun0_A.sl.v26, kernelRun0_A.sl.v5, kernelRun0_A.sl.v29, View.readAt_eq_ld, Memref.IsWhole.read_unread, View.ld_unit]
  rfl

theorem v36_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (x0 : Vec Ideal S256x6x256 .f32) (x2 : Vec Ideal S6x256x256 .f32) (x3 : Vec Ideal S6x256 .f32) (p q : Fin 256) :
    kernelRun0_A.sl.v36 (F := Ideal) c arg1 harg1 arg3 harg3 arg4 harg4 x0 x2 x3 (ix2 p q) = Y1 x0 x2 x3 p 3 q := by
  pointwise [kernelRun0_A.sl.v36, kernelRun0_A.sl.v33, kernelRun0_A.sl.cst, kernelRun0_A.sl.v32, kernelRun0_A.sl.v7, kernelRun0_A.sl.v35, View.readAt_eq_ld, Memref.IsWhole.read_unread, View.ld_unit]
  rfl

theorem v42_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (x0 : Vec Ideal S256x6x256 .f32) (x2 : Vec Ideal S6x256x256 .f32) (x3 : Vec Ideal S6x256 .f32) (p q : Fin 256) :
    kernelRun0_A.sl.v42 (F := Ideal) c arg1 harg1 arg3 harg3 arg4 harg4 x0 x2 x3 (ix2 p q) = Y1 x0 x2 x3 p 4 q := by
  pointwise [kernelRun0_A.sl.v42, kernelRun0_A.sl.v39, kernelRun0_A.sl.cst, kernelRun0_A.sl.v38, kernelRun0_A.sl.v9, kernelRun0_A.sl.v41, View.readAt_eq_ld, Memref.IsWhole.read_unread, View.ld_unit]
  rfl

theorem v48_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (x0 : Vec Ideal S256x6x256 .f32) (x2 : Vec Ideal S6x256x256 .f32) (x3 : Vec Ideal S6x256 .f32) (p q : Fin 256) :
    kernelRun0_A.sl.v48 (F := Ideal) c arg1 harg1 arg3 harg3 arg4 harg4 x0 x2 x3 (ix2 p q) = Y1 x0 x2 x3 p 5 q := by
  pointwise [kernelRun0_A.sl.v48, kernelRun0_A.sl.v45, kernelRun0_A.sl.cst, kernelRun0_A.sl.v11, kernelRun0_A.sl.v44, kernelRun0_A.sl.v47, View.readAt_eq_ld, Memref.IsWhole.read_unread, View.ld_unit]
  rfl

theorem r_1_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (x0 : Vec Ideal S256x6x256 .f32) (x2 : Vec Ideal S6x256x256 .f32) (x3 : Vec Ideal S6x256 .f32) (p : Fin 256) :
    kernelRun0_A.sl.r_1 (F := Ideal) c arg1 harg1 arg3 harg3 arg4 harg4 x0 x2 x3 (ix2 p 0) = meanK ((1536⁻¹ : ℝ) : EReal) (Y1 x0 x2 x3 p) := by
  pointwise [kernelRun0_A.sl.r_1, kernelRun0_A.sl.v58, kernelRun0_A.sl.v55, kernelRun0_A.sl.v52, kernelRun0_A.sl.v50, kernelRun0_A.sl.v49, kernelRun0_A.sl.v51, kernelRun0_A.sl.cst_49, kernelRun0_A.sl.v54, kernelRun0_A.sl.v53, kernelRun0_A.sl.v57, kernelRun0_A.sl.v56, k0_pay12, View.readAt_eq_ld, Memref.IsWhole.read_unread, View.ld_unit]
  simp only [v18_at, v24_at, v30_at, v36_at, v42_at, v48_at]
  simp only [meanK, total, Fin.sum_univ_six, named_1536]

theorem r_2_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (x0 : Vec Ideal S256x6x256 .f32) (x2 : Vec Ideal S6x256x256 .f32) (x3 : Vec Ideal S6x256 .f32) (p : Fin 256) :
    kernelRun0_A.sl.r_2 (F := Ideal) c arg1 harg1 arg3 harg3 arg4 harg4 x0 x2 x3 (ix2 p 0) = invK ((1536⁻¹ : ℝ) : EReal) (Y1 x0 x2 x3 p) := by
  pointwise [kernelRun0_A.sl.r_2, kernelRun0_A.sl.v58, kernelRun0_A.sl.v55, kernelRun0_A.sl.v52, kernelRun0_A.sl.v50, kernelRun0_A.sl.v49, kernelRun0_A.sl.v51, kernelRun0_A.sl.cst_49, kernelRun0_A.sl.v54, kernelRun0_A.sl.v53, kernelRun0_A.sl.v57, kernelRun0_A.sl.v56, k0_pay12, k0_pay13, View.readAt_eq_ld, Memref.IsWhole.read_unread, View.ld_unit]
  simp only [v18_at, v24_at, v30_at, v36_at, v42_at, v48_at]
  simp only [invK, meanK, total, Fin.sum_univ_six, named_1536]; rfl

theorem r_3_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (x0 : Vec Ideal S256x6x256 .f32) (x2 : Vec Ideal S6x256x256 .f32) (x3 : Vec Ideal S6x256 .f32) (p q : Fin 256) :
    kernelRun0_A.sl.r_3 (F := Ideal) c arg1 harg1 arg3 harg3 arg4 harg4 x0 x2 x3 (ix2 p q) = (Y1 x0 x2 x3 p 0 q - meanK ((1536⁻¹ : ℝ) : EReal) (Y1 x0 x2 x3 p)) * invK ((1536⁻¹ : ℝ) : EReal) (Y1 x0 x2 x3 p) := by
  pointwise [kernelRun0_A.sl.r_3, kernelRun0_A.sl.v58, kernelRun0_A.sl.v55, kernelRun0_A.sl.v52, kernelRun0_A.sl.v50, kernelRun0_A.sl.v49, kernelRun0_A.sl.v51, kernelRun0_A.sl.cst_49, kernelRun0_A.sl.v54, kernelRun0_A.sl.v53, kernelRun0_A.sl.v57, kernelRun0_A.sl.v56, k0_pay12, k0_pay13, k0_pay14, View.readAt_eq_ld, Memref.IsWhole.read_unread, View.ld_unit]
  simp only [v18_at, v24_at, v30_at, v36_at, v42_at, v48_at]
  simp only [invK, meanK, total, Fin.sum_univ_six, named_1536]; rfl

theorem v116_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg11 : Memref sig .tc .vmem S6x256 .f32) (harg11 : arg11.IsWhole) (arg12 : Memref sig .tc .vmem S6x256 .f32) (harg12 : arg12.IsWhole) (arg19 : Memref sig .tc .smem S1 .f32) (harg19 : arg19.IsWhole) (x0 : Vec Ideal S256x6x256 .f32) (x2 : Vec Ideal S6x256x256 .f32) (x3 : Vec Ideal S6x256 .f32) (x10 : Vec Ideal S6x256 .f32) (x11 : Vec Ideal S6x256 .f32) (x18 : Vec Ideal S1 .f32) (p q : Fin 256) :
    kernelRun0_A.sl.v116 (F := Ideal) c arg1 harg1 arg3 harg3 arg4 harg4 arg11 harg11 arg12 harg12 arg19 harg19 x0 x2 x3 x10 x11 x18 (ix2 p q) = H1 x0 x2 x3 x10 x11 x18 p 0 q := by
  pointwise [kernelRun0_A.sl.v116, kernelRun0_A.sl.v111, kernelRun0_A.sl.v108, kernelRun0_A.sl.v107, kernelRun0_A.sl.v110, kernelRun0_A.sl.v113, kernelRun0_A.sl.v112, kernelRun0_A.sl.cst_49, kernelRun0_A.sl.v115, kernelRun0_A.sl.v114, View.readAt_eq_ld, Memref.IsWhole.read_unread, View.ld_unit]
  simp only [r_at, r_3_at]
  rfl

theorem v131_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg11 : Memref sig .tc .vmem S6x256 .f32) (harg11 : arg11.IsWhole) (arg12 : Memref sig .tc .vmem S6x256 .f32) (harg12 : arg12.IsWhole) (arg19 : Memref sig .tc .smem S1 .f32) (harg19 : arg19.IsWhole) (x0 : Vec Ideal S256x6x256 .f32) (x2 : Vec Ideal S6x256x256 .f32) (x3 : Vec Ideal S6x256 .f32) (x10 : Vec Ideal S6x256 .f32) (x11 : Vec Ideal S6x256 .f32) (x18 : Vec Ideal S1 .f32) (p q : Fin 256) :
    kernelRun0_A.sl.v131 (F := Ideal) c arg1 harg1 arg3 harg3 arg4 harg4 arg11 harg11 arg12 harg12 arg19 harg19 x0 x2 x3 x10 x11 x18 (ix2 p q) = H1 x0 x2 x3 x10 x11 x18 p 1 q := by
  pointwise [kernelRun0_A.sl.v131, kernelRun0_A.sl.v126, kernelRun0_A.sl.v123, kernelRun0_A.sl.v120, kernelRun0_A.sl.v118, kernelRun0_A.sl.v117, kernelRun0_A.sl.v119, kernelRun0_A.sl.v122, kernelRun0_A.sl.v125, kernelRun0_A.sl.v128, kernelRun0_A.sl.v112, kernelRun0_A.sl.cst_49, kernelRun0_A.sl.v130, kernelRun0_A.sl.v114, View.readAt_eq_ld, Memref.IsWhole.read_unread, View.ld_unit]
  simp only [r_at, r_1_at, r_2_at, v24_at]
  rfl

theorem v146_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg11 : Memref sig .tc .vmem S6x256 .f32) (harg11 : arg11.IsWhole) (arg12 : Memref sig .tc .vmem S6x256 .f32) (harg12 : arg12.IsWhole) (arg19 : Memref sig .tc .smem S1 .f32) (harg19 : arg19.IsWhole) (x0 : Vec Ideal S256x6x256 .f32) (x2 : Vec Ideal S6x256x256 .f32) (x3 : Vec Ideal S6x256 .f32) (x10 : Vec Ideal S6x256 .f32) (x11 : Vec Ideal S6x256 .f32) (x18 : Vec Ideal S1 .f32) (p q : Fin 256) :
    kernelRun0_A.sl.v146 (F := Ideal) c arg1 harg1 arg3 harg3 arg4 harg4 arg11 harg11 arg12 harg12 arg19 harg19 x0 x2 x3 x10 x11 x18 (ix2 p q) = H1 x0 x2 x3 x10 x11 x18 p 2 q := by
  pointwise [kernelRun0_A.sl.v146, kernelRun0_A.sl.v141, kernelRun0_A.sl.v138, kernelRun0_A.sl.v135, kernelRun0_A.sl.v119, kernelRun0_A.sl.v133, kernelRun0_A.sl.v117, kernelRun0_A.sl.v137, kernelRun0_A.sl.v140, kernelRun0_A.sl.v143, kernelRun0_A.sl.v112, kernelRun0_A.sl.cst_49, kernelRun0_A.sl.v145, kernelRun0_A.sl.v114, View.readAt_eq_ld, Memref.IsWhole.read_unread, View.ld_unit]
  simp only [r_at, r_1_at, r_2_at, v30_at]
  rfl

theorem v161_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg11 : Memref sig .tc .vmem S6x256 .f32) (harg11 : arg11.IsWhole) (arg12 : Memref sig .tc .vmem S6x256 .f32) (harg12 : arg12.IsWhole) (arg19 : Memref sig .tc .smem S1 .f32) (harg19 : arg19.IsWhole) (x0 : Vec Ideal S256x6x256 .f32) (x2 : Vec Ideal S6x256x256 .f32) (x3 : Vec Ideal S6x256 .f32) (x10 : Vec Ideal S6x256 .f32) (x11 : Vec Ideal S6x256 .f32) (x18 : Vec Ideal S1 .f32) (p q : Fin 256) :
    kernelRun0_A.sl.v161 (F := Ideal) c arg1 harg1 arg3 harg3 arg4 harg4 arg11 harg11 arg12 harg12 arg19 harg19 x0 x2 x3 x10 x11 x18 (ix2 p q) = H1 x0 x2 x3 x10 x11 x18 p 3 q := by
  pointwise [kernelRun0_A.sl.v161, kernelRun0_A.sl.v156, kernelRun0_A.sl.v153, kernelRun0_A.sl.v150, kernelRun0_A.sl.v119, kernelRun0_A.sl.v148, kernelRun0_A.sl.v117, kernelRun0_A.sl.v152, kernelRun0_A.sl.v155, kernelRun0_A.sl.v158, kernelRun0_A.sl.v112, kernelRun0_A.sl.cst_49, kernelRun0_A.sl.v160, kernelRun0_A.sl.v114, View.readAt_eq_ld, Memref.IsWhole.read_unread, View.ld_unit]
  simp only [r_at, r_1_at, r_2_at, v36_at]
  rfl

theorem v176_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg11 : Memref sig .tc .vmem S6x256 .f32) (harg11 : arg11.IsWhole) (arg12 : Memref sig .tc .vmem S6x256 .f32) (harg12 : arg12.IsWhole) (arg19 : Memref sig .tc .smem S1 .f32) (harg19 : arg19.IsWhole) (x0 : Vec Ideal S256x6x256 .f32) (x2 : Vec Ideal S6x256x256 .f32) (x3 : Vec Ideal S6x256 .f32) (x10 : Vec Ideal S6x256 .f32) (x11 : Vec Ideal S6x256 .f32) (x18 : Vec Ideal S1 .f32) (p q : Fin 256) :
    kernelRun0_A.sl.v176 (F := Ideal) c arg1 harg1 arg3 harg3 arg4 harg4 arg11 harg11 arg12 harg12 arg19 harg19 x0 x2 x3 x10 x11 x18 (ix2 p q) = H1 x0 x2 x3 x10 x11 x18 p 4 q := by
  pointwise [kernelRun0_A.sl.v176, kernelRun0_A.sl.v171, kernelRun0_A.sl.v168, kernelRun0_A.sl.v165, kernelRun0_A.sl.v119, kernelRun0_A.sl.v163, kernelRun0_A.sl.v117, kernelRun0_A.sl.v167, kernelRun0_A.sl.v170, kernelRun0_A.sl.v173, kernelRun0_A.sl.v112, kernelRun0_A.sl.cst_49, kernelRun0_A.sl.v175, kernelRun0_A.sl.v114, View.readAt_eq_ld, Memref.IsWhole.read_unread, View.ld_unit]
  simp only [r_at, r_1_at, r_2_at, v42_at]
  rfl

theorem v191_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg11 : Memref sig .tc .vmem S6x256 .f32) (harg11 : arg11.IsWhole) (arg12 : Memref sig .tc .vmem S6x256 .f32) (harg12 : arg12.IsWhole) (arg19 : Memref sig .tc .smem S1 .f32) (harg19 : arg19.IsWhole) (x0 : Vec Ideal S256x6x256 .f32) (x2 : Vec Ideal S6x256x256 .f32) (x3 : Vec Ideal S6x256 .f32) (x10 : Vec Ideal S6x256 .f32) (x11 : Vec Ideal S6x256 .f32) (x18 : Vec Ideal S1 .f32) (p q : Fin 256) :
    kernelRun0_A.sl.v191 (F := Ideal) c arg1 harg1 arg3 harg3 arg4 harg4 arg11 harg11 arg12 harg12 arg19 harg19 x0 x2 x3 x10 x11 x18 (ix2 p q) = H1 x0 x2 x3 x10 x11 x18 p 5 q := by
  pointwise [kernelRun0_A.sl.v191, kernelRun0_A.sl.v186, kernelRun0_A.sl.v183, kernelRun0_A.sl.v180, kernelRun0_A.sl.v119, kernelRun0_A.sl.v178, kernelRun0_A.sl.v117, kernelRun0_A.sl.v182, kernelRun0_A.sl.v185, kernelRun0_A.sl.v188, kernelRun0_A.sl.v112, kernelRun0_A.sl.cst_49, kernelRun0_A.sl.v190, kernelRun0_A.sl.v114, View.readAt_eq_ld, Memref.IsWhole.read_unread, View.ld_unit]
  simp only [r_at, r_1_at, r_2_at, v48_at]
  rfl

theorem v198_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg5 : Memref sig .tc .vmem S6x256x256 .f32) (harg5 : arg5.IsWhole) (arg6 : Memref sig .tc .vmem S6x256 .f32) (harg6 : arg6.IsWhole) (arg11 : Memref sig .tc .vmem S6x256 .f32) (harg11 : arg11.IsWhole) (arg12 : Memref sig .tc .vmem S6x256 .f32) (harg12 : arg12.IsWhole) (arg19 : Memref sig .tc .smem S1 .f32) (harg19 : arg19.IsWhole) (x0 : Vec Ideal S256x6x256 .f32) (x2 : Vec Ideal S6x256x256 .f32) (x3 : Vec Ideal S6x256 .f32) (x4 : Vec Ideal S6x256x256 .f32) (x5 : Vec Ideal S6x256 .f32) (x10 : Vec Ideal S6x256 .f32) (x11 : Vec Ideal S6x256 .f32) (x18 : Vec Ideal S1 .f32) (p q : Fin 256) :
    kernelRun0_A.sl.v198 (F := Ideal) c arg1 harg1 arg3 harg3 arg4 harg4 arg5 harg5 arg6 harg6 arg11 harg11 arg12 harg12 arg19 harg19 x0 x2 x3 x4 x5 x10 x11 x18 (ix2 p q) = Y2 x0 x2 x3 x10 x11 x18 x4 x5 p 0 q := by
  pointwise [kernelRun0_A.sl.v198, kernelRun0_A.sl.v195, kernelRun0_A.sl.cst, kernelRun0_A.sl.v194, kernelRun0_A.sl.v197, View.readAt_eq_ld, Memref.IsWhole.read_unread, View.ld_unit]
  simp only [v116_at]
  rfl

theorem v204_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg5 : Memref sig .tc .vmem S6x256x256 .f32) (harg5 : arg5.IsWhole) (arg6 : Memref sig .tc .vmem S6x256 .f32) (harg6 : arg6.IsWhole) (arg11 : Memref sig .tc .vmem S6x256 .f32) (harg11 : arg11.IsWhole) (arg12 : Memref sig .tc .vmem S6x256 .f32) (harg12 : arg12.IsWhole) (arg19 : Memref sig .tc .smem S1 .f32) (harg19 : arg19.IsWhole) (x0 : Vec Ideal S256x6x256 .f32) (x2 : Vec Ideal S6x256x256 .f32) (x3 : Vec Ideal S6x256 .f32) (x4 : Vec Ideal S6x256x256 .f32) (x5 : Vec Ideal S6x256 .f32) (x10 : Vec Ideal S6x256 .f32) (x11 : Vec Ideal S6x256 .f32) (x18 : Vec Ideal S1 .f32) (p q : Fin 256) :
    kernelRun0_A.sl.v204 (F := Ideal) c arg1 harg1 arg3 harg3 arg4 harg4 arg5 harg5 arg6 harg6 arg11 harg11 arg12 harg12 arg19 harg19 x0 x2 x3 x4 x5 x10 x11 x18 (ix2 p q) = Y2 x0 x2 x3 x10 x11 x18 x4 x5 p 1 q := by
  pointwise [kernelRun0_A.sl.v204, kernelRun0_A.sl.v201, kernelRun0_A.sl.cst, kernelRun0_A.sl.v200, kernelRun0_A.sl.v203, View.readAt_eq_ld, Memref.IsWhole.read_unread, View.ld_unit]
  simp only [v131_at]
  rfl

theorem v210_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg5 : Memref sig .tc .vmem S6x256x256 .f32) (harg5 : arg5.IsWhole) (arg6 : Memref sig .tc .vmem S6x256 .f32) (harg6 : arg6.IsWhole) (arg11 : Memref sig .tc .vmem S6x256 .f32) (harg11 : arg11.IsWhole) (arg12 : Memref sig .tc .vmem S6x256 .f32) (harg12 : arg12.IsWhole) (arg19 : Memref sig .tc .smem S1 .f32) (harg19 : arg19.IsWhole) (x0 : Vec Ideal S256x6x256 .f32) (x2 : Vec Ideal S6x256x256 .f32) (x3 : Vec Ideal S6x256 .f32) (x4 : Vec Ideal S6x256x256 .f32) (x5 : Vec Ideal S6x256 .f32) (x10 : Vec Ideal S6x256 .f32) (x11 : Vec Ideal S6x256 .f32) (x18 : Vec Ideal S1 .f32) (p q : Fin 256) :
    kernelRun0_A.sl.v210 (F := Ideal) c arg1 harg1 arg3 harg3 arg4 harg4 arg5 harg5 arg6 harg6 arg11 harg11 arg12 harg12 arg19 harg19 x0 x2 x3 x4 x5 x10 x11 x18 (ix2 p q) = Y2 x0 x2 x3 x10 x11 x18 x4 x5 p 2 q := by
  pointwise [kernelRun0_A.sl.v210, kernelRun0_A.sl.v207, kernelRun0_A.sl.cst, kernelRun0_A.sl.v206, kernelRun0_A.sl.v209, View.readAt_eq_ld, Memref.IsWhole.read_unread, View.ld_unit]
  simp only [v146_at]
  rfl

theorem v216_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg5 : Memref sig .tc .vmem S6x256x256 .f32) (harg5 : arg5.IsWhole) (arg6 : Memref sig .tc .vmem S6x256 .f32) (harg6 : arg6.IsWhole) (arg11 : Memref sig .tc .vmem S6x256 .f32) (harg11 : arg11.IsWhole) (arg12 : Memref sig .tc .vmem S6x256 .f32) (harg12 : arg12.IsWhole) (arg19 : Memref sig .tc .smem S1 .f32) (harg19 : arg19.IsWhole) (x0 : Vec Ideal S256x6x256 .f32) (x2 : Vec Ideal S6x256x256 .f32) (x3 : Vec Ideal S6x256 .f32) (x4 : Vec Ideal S6x256x256 .f32) (x5 : Vec Ideal S6x256 .f32) (x10 : Vec Ideal S6x256 .f32) (x11 : Vec Ideal S6x256 .f32) (x18 : Vec Ideal S1 .f32) (p q : Fin 256) :
    kernelRun0_A.sl.v216 (F := Ideal) c arg1 harg1 arg3 harg3 arg4 harg4 arg5 harg5 arg6 harg6 arg11 harg11 arg12 harg12 arg19 harg19 x0 x2 x3 x4 x5 x10 x11 x18 (ix2 p q) = Y2 x0 x2 x3 x10 x11 x18 x4 x5 p 3 q := by
  pointwise [kernelRun0_A.sl.v216, kernelRun0_A.sl.v213, kernelRun0_A.sl.cst, kernelRun0_A.sl.v212, kernelRun0_A.sl.v215, View.readAt_eq_ld, Memref.IsWhole.read_unread, View.ld_unit]
  simp only [v161_at]
  rfl

theorem v222_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg5 : Memref sig .tc .vmem S6x256x256 .f32) (harg5 : arg5.IsWhole) (arg6 : Memref sig .tc .vmem S6x256 .f32) (harg6 : arg6.IsWhole) (arg11 : Memref sig .tc .vmem S6x256 .f32) (harg11 : arg11.IsWhole) (arg12 : Memref sig .tc .vmem S6x256 .f32) (harg12 : arg12.IsWhole) (arg19 : Memref sig .tc .smem S1 .f32) (harg19 : arg19.IsWhole) (x0 : Vec Ideal S256x6x256 .f32) (x2 : Vec Ideal S6x256x256 .f32) (x3 : Vec Ideal S6x256 .f32) (x4 : Vec Ideal S6x256x256 .f32) (x5 : Vec Ideal S6x256 .f32) (x10 : Vec Ideal S6x256 .f32) (x11 : Vec Ideal S6x256 .f32) (x18 : Vec Ideal S1 .f32) (p q : Fin 256) :
    kernelRun0_A.sl.v222 (F := Ideal) c arg1 harg1 arg3 harg3 arg4 harg4 arg5 harg5 arg6 harg6 arg11 harg11 arg12 harg12 arg19 harg19 x0 x2 x3 x4 x5 x10 x11 x18 (ix2 p q) = Y2 x0 x2 x3 x10 x11 x18 x4 x5 p 4 q := by
  pointwise [kernelRun0_A.sl.v222, kernelRun0_A.sl.v219, kernelRun0_A.sl.cst, kernelRun0_A.sl.v218, kernelRun0_A.sl.v221, View.readAt_eq_ld, Memref.IsWhole.read_unread, View.ld_unit]
  simp only [v176_at]
  rfl

theorem r_5_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg5 : Memref sig .tc .vmem S6x256x256 .f32) (harg5 : arg5.IsWhole) (arg6 : Memref sig .tc .vmem S6x256 .f32) (harg6 : arg6.IsWhole) (arg11 : Memref sig .tc .vmem S6x256 .f32) (harg11 : arg11.IsWhole) (arg12 : Memref sig .tc .vmem S6x256 .f32) (harg12 : arg12.IsWhole) (arg19 : Memref sig .tc .smem S1 .f32) (harg19 : arg19.IsWhole) (x0 : Vec Ideal S256x6x256 .f32) (x2 : Vec Ideal S6x256x256 .f32) (x3 : Vec Ideal S6x256 .f32) (x4 : Vec Ideal S6x256x256 .f32) (x5 : Vec Ideal S6x256 .f32) (x10 : Vec Ideal S6x256 .f32) (x11 : Vec Ideal S6x256 .f32) (x18 : Vec Ideal S1 .f32) (p q : Fin 256) :
    kernelRun0_A.sl.r_5 (F := Ideal) c arg1 harg1 arg3 harg3 arg4 harg4 arg5 harg5 arg6 harg6 arg11 harg11 arg12 harg12 arg19 harg19 x0 x2 x3 x4 x5 x10 x11 x18 (ix2 p q) = Y2 x0 x2 x3 x10 x11 x18 x4 x5 p 5 q := by
  pointwise [kernelRun0_A.sl.r_5, k0_pay27, View.readAt_eq_ld, Memref.IsWhole.read_unread, View.ld_unit]
  simp only [v191_at]
  rfl

theorem r_6_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg5 : Memref sig .tc .vmem S6x256x256 .f32) (harg5 : arg5.IsWhole) (arg6 : Memref sig .tc .vmem S6x256 .f32) (harg6 : arg6.IsWhole) (arg11 : Memref sig .tc .vmem S6x256 .f32) (harg11 : arg11.IsWhole) (arg12 : Memref sig .tc .vmem S6x256 .f32) (harg12 : arg12.IsWhole) (arg19 : Memref sig .tc .smem S1 .f32) (harg19 : arg19.IsWhole) (x0 : Vec Ideal S256x6x256 .f32) (x2 : Vec Ideal S6x256x256 .f32) (x3 : Vec Ideal S6x256 .f32) (x4 : Vec Ideal S6x256x256 .f32) (x5 : Vec Ideal S6x256 .f32) (x10 : Vec Ideal S6x256 .f32) (x11 : Vec Ideal S6x256 .f32) (x18 : Vec Ideal S1 .f32) (p : Fin 256) :
    kernelRun0_A.sl.r_6 (F := Ideal) c arg1 harg1 arg3 harg3 arg4 harg4 arg5 harg5 arg6 harg6 arg11 harg11 arg12 harg12 arg19 harg19 x0 x2 x3 x4 x5 x10 x11 x18 (ix2 p 0) = meanK ((1536⁻¹ : ℝ) : EReal) (Y2 x0 x2 x3 x10 x11 x18 x4 x5 p) := by
  pointwise [kernelRun0_A.sl.r_6, k0_pay27, k0_pay28, View.readAt_eq_ld, Memref.IsWhole.read_unread, View.ld_unit]
  simp only [v191_at, v198_at, v204_at, v210_at, v216_at, v222_at]
  simp only [meanK, total, Fin.sum_univ_six, named_1536]; rfl

theorem r_8_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg5 : Memref sig .tc .vmem S6x256x256 .f32) (harg5 : arg5.IsWhole) (arg6 : Memref sig .tc .vmem S6x256 .f32) (harg6 : arg6.IsWhole) (arg11 : Memref sig .tc .vmem S6x256 .f32) (harg11 : arg11.IsWhole) (arg12 : Memref sig .tc .vmem S6x256 .f32) (harg12 : arg12.IsWhole) (arg19 : Memref sig .tc .smem S1 .f32) (harg19 : arg19.IsWhole) (x0 : Vec Ideal S256x6x256 .f32) (x2 : Vec Ideal S6x256x256 .f32) (x3 : Vec Ideal S6x256 .f32) (x4 : Vec Ideal S6x256x256 .f32) (x5 : Vec Ideal S6x256 .f32) (x10 : Vec Ideal S6x256 .f32) (x11 : Vec Ideal S6x256 .f32) (x18 : Vec Ideal S1 .f32) (p : Fin 256) :
    kernelRun0_A.sl.r_8 (F := Ideal) c arg1 harg1 arg3 harg3 arg4 harg4 arg5 harg5 arg6 harg6 arg11 harg11 arg12 harg12 arg19 harg19 x0 x2 x3 x4 x5 x10 x11 x18 (ix2 p 0) = invK ((1536⁻¹ : ℝ) : EReal) (Y2 x0 x2 x3 x10 x11 x18 x4 x5 p) := by
  pointwise [kernelRun0_A.sl.r_8, kernelRun0_A.sl.r_7, k0_pay29, k0_pay30, View.readAt_eq_ld, Memref.IsWhole.read_unread, View.ld_unit]
  simp only [r_5_at, r_6_at, v198_at, v204_at, v210_at, v216_at, v222_at]
  simp only [invK, meanK, total, Fin.sum_univ_six, named_1536]; rfl

theorem r_9_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg5 : Memref sig .tc .vmem S6x256x256 .f32) (harg5 : arg5.IsWhole) (arg6 : Memref sig .tc .vmem S6x256 .f32) (harg6 : arg6.IsWhole) (arg11 : Memref sig .tc .vmem S6x256 .f32) (harg11 : arg11.IsWhole) (arg12 : Memref sig .tc .vmem S6x256 .f32) (harg12 : arg12.IsWhole) (arg13 : Memref sig .tc .vmem S6x256 .f32) (harg13 : arg13.IsWhole) (arg14 : Memref sig .tc .vmem S6x256 .f32) (harg14 : arg14.IsWhole) (arg19 : Memref sig .tc .smem S1 .f32) (harg19 : arg19.IsWhole) (arg20 : Memref sig .tc .smem S1 .f32) (harg20 : arg20.IsWhole) (x0 : Vec Ideal S256x6x256 .f32) (x2 : Vec Ideal S6x256x256 .f32) (x3 : Vec Ideal S6x256 .f32) (x4 : Vec Ideal S6x256x256 .f32) (x5 : Vec Ideal S6x256 .f32) (x10 : Vec Ideal S6x256 .f32) (x11 : Vec Ideal S6x256 .f32) (x12 : Vec Ideal S6x256 .f32) (x13 : Vec Ideal S6x256 .f32) (x18 : Vec Ideal S1 .f32) (x19 : Vec Ideal S1 .f32) (p q : Fin 256) :
    kernelRun0_A.sl.r_9 (F := Ideal) c arg1 harg1 arg3 harg3 arg4 harg4 arg5 harg5 arg6 harg6 arg11 harg11 arg12 harg12 arg13 harg13 arg14 harg14 arg19 harg19 arg20 harg20 x0 x2 x3 x4 x5 x10 x11 x12 x13 x18 x19 (ix2 p q) = H2 x0 x2 x3 x10 x11 x18 x4 x5 x12 x13 x19 p 0 q := by
  pointwise [kernelRun0_A.sl.r_9, kernelRun0_A.sl.r_7, k0_pay29, k0_pay30, k0_pay31, View.readAt_eq_ld, Memref.IsWhole.read_unread, View.ld_unit]
  simp only [r_4_at, r_5_at, r_6_at, v198_at, v204_at, v210_at, v216_at, v222_at, inv_open]
  rfl

theorem r_10_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg5 : Memref sig .tc .vmem S6x256x256 .f32) (harg5 : arg5.IsWhole) (arg6 : Memref sig .tc .vmem S6x256 .f32) (harg6 : arg6.IsWhole) (arg11 : Memref sig .tc .vmem S6x256 .f32) (harg11 : arg11.IsWhole) (arg12 : Memref sig .tc .vmem S6x256 .f32) (harg12 : arg12.IsWhole) (arg13 : Memref sig .tc .vmem S6x256 .f32) (harg13 : arg13.IsWhole) (arg14 : Memref sig .tc .vmem S6x256 .f32) (harg14 : arg14.IsWhole) (arg19 : Memref sig .tc .smem S1 .f32) (harg19 : arg19.IsWhole) (arg20 : Memref sig .tc .smem S1 .f32) (harg20 : arg20.IsWhole) (x0 : Vec Ideal S256x6x256 .f32) (x2 : Vec Ideal S6x256x256 .f32) (x3 : Vec Ideal S6x256 .f32) (x4 : Vec Ideal S6x256x256 .f32) (x5 : Vec Ideal S6x256 .f32) (x10 : Vec Ideal S6x256 .f32) (x11 : Vec Ideal S6x256 .f32) (x12 : Vec Ideal S6x256 .f32) (x13 : Vec Ideal S6x256 .f32) (x18 : Vec Ideal S1 .f32) (x19 : Vec Ideal S1 .f32) (p q : Fin 256) :
    kernelRun0_A.sl.r_10 (F := Ideal) c arg1 harg1 arg3 harg3 arg4 harg4 arg5 harg5 arg6 harg6 arg11 harg11 arg12 harg12 arg13 harg13 arg14 harg14 arg19 harg19 arg20 harg20 x0 x2 x3 x4 x5 x10 x11 x12 x13 x18 x19 (ix2 p q) = H2 x0 x2 x3 x10 x11 x18 x4 x5 x12 x13 x19 p 1 q := by
  pointwise [kernelRun0_A.sl.r_10, kernelRun0_A.sl.r_7, k0_pay29, k0_pay30, k0_pay32, View.readAt_eq_ld, Memref.IsWhole.read_unread, View.ld_unit]
  simp only [r_4_at, r_5_at, r_6_at, v198_at, v204_at, v210_at, v216_at, v222_at, inv_open]
  rfl

theorem v326_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg5 : Memref sig .tc .vmem S6x256x256 .f32) (harg5 : arg5.IsWhole) (arg6 : Memref sig .tc .vmem S6x256 .f32) (harg6 : arg6.IsWhole) (arg11 : Memref sig .tc .vmem S6x256 .f32) (harg11 : arg11.IsWhole) (arg12 : Memref sig .tc .vmem S6x256 .f32) (harg12 : arg12.IsWhole) (arg13 : Memref sig .tc .vmem S6x256 .f32) (harg13 : arg13.IsWhole) (arg14 : Memref sig .tc .vmem S6x256 .f32) (harg14 : arg14.IsWhole) (arg19 : Memref sig .tc .smem S1 .f32) (harg19 : arg19.IsWhole) (arg20 : Memref sig .tc .smem S1 .f32) (harg20 : arg20.IsWhole) (x0 : Vec Ideal S256x6x256 .f32) (x2 : Vec Ideal S6x256x256 .f32) (x3 : Vec Ideal S6x256 .f32) (x4 : Vec Ideal S6x256x256 .f32) (x5 : Vec Ideal S6x256 .f32) (x10 : Vec Ideal S6x256 .f32) (x11 : Vec Ideal S6x256 .f32) (x12 : Vec Ideal S6x256 .f32) (x13 : Vec Ideal S6x256 .f32) (x18 : Vec Ideal S1 .f32) (x19 : Vec Ideal S1 .f32) (p q : Fin 256) :
    kernelRun0_A.sl.v326 (F := Ideal) c arg1 harg1 arg3 harg3 arg4 harg4 arg5 harg5 arg6 harg6 arg11 harg11 arg12 harg12 arg13 harg13 arg14 harg14 arg19 harg19 arg20 harg20 x0 x2 x3 x4 x5 x10 x11 x12 x13 x18 x19 (ix2 p q) = H2 x0 x2 x3 x10 x11 x18 x4 x5 x12 x13 x19 p 2 q := by
  pointwise [kernelRun0_A.sl.v326, kernelRun0_A.sl.v321, kernelRun0_A.sl.v318, kernelRun0_A.sl.v315, kernelRun0_A.sl.v313, kernelRun0_A.sl.r_11, kernelRun0_A.sl.v314, kernelRun0_A.sl.v317, kernelRun0_A.sl.v320, kernelRun0_A.sl.v323, kernelRun0_A.sl.v112, kernelRun0_A.sl.cst_49, kernelRun0_A.sl.v325, kernelRun0_A.sl.v324, k0_pay33, View.readAt_eq_ld, Memref.IsWhole.read_unread, View.ld_unit]
  simp only [r_4_at, r_6_at, r_8_at, v210_at, inv_open]
  rfl

theorem v341_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg5 : Memref sig .tc .vmem S6x256x256 .f32) (harg5 : arg5.IsWhole) (arg6 : Memref sig .tc .vmem S6x256 .f32) (harg6 : arg6.IsWhole) (arg11 : Memref sig .tc .vmem S6x256 .f32) (harg11 : arg11.IsWhole) (arg12 : Memref sig .tc .vmem S6x256 .f32) (harg12 : arg12.IsWhole) (arg13 : Memref sig .tc .vmem S6x256 .f32) (harg13 : arg13.IsWhole) (arg14 : Memref sig .tc .vmem S6x256 .f32) (harg14 : arg14.IsWhole) (arg19 : Memref sig .tc .smem S1 .f32) (harg19 : arg19.IsWhole) (arg20 : Memref sig .tc .smem S1 .f32) (harg20 : arg20.IsWhole) (x0 : Vec Ideal S256x6x256 .f32) (x2 : Vec Ideal S6x256x256 .f32) (x3 : Vec Ideal S6x256 .f32) (x4 : Vec Ideal S6x256x256 .f32) (x5 : Vec Ideal S6x256 .f32) (x10 : Vec Ideal S6x256 .f32) (x11 : Vec Ideal S6x256 .f32) (x12 : Vec Ideal S6x256 .f32) (x13 : Vec Ideal S6x256 .f32) (x18 : Vec Ideal S1 .f32) (x19 : Vec Ideal S1 .f32) (p q : Fin 256) :
    kernelRun0_A.sl.v341 (F := Ideal) c arg1 harg1 arg3 harg3 arg4 harg4 arg5 harg5 arg6 harg6 arg11 harg11 arg12 harg12 arg13 harg13 arg14 harg14 arg19 harg19 arg20 harg20 x0 x2 x3 x4 x5 x10 x11 x12 x13 x18 x19 (ix2 p q) = H2 x0 x2 x3 x10 x11 x18 x4 x5 x12 x13 x19 p 3 q := by
  pointwise [kernelRun0_A.sl.v341, kernelRun0_A.sl.v336, kernelRun0_A.sl.v333, kernelRun0_A.sl.v330, kernelRun0_A.sl.v314, kernelRun0_A.sl.v328, kernelRun0_A.sl.v327, kernelRun0_A.sl.v332, kernelRun0_A.sl.v335, kernelRun0_A.sl.v338, kernelRun0_A.sl.v112, kernelRun0_A.sl.cst_49, kernelRun0_A.sl.v340, kernelRun0_A.sl.v324, View.readAt_eq_ld, Memref.IsWhole.read_unread, View.ld_unit]
  simp only [r_4_at, r_6_at, r_8_at, v216_at, inv_open]
  rfl

theorem v356_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg5 : Memref sig .tc .vmem S6x256x256 .f32) (harg5 : arg5.IsWhole) (arg6 : Memref sig .tc .vmem S6x256 .f32) (harg6 : arg6.IsWhole) (arg11 : Memref sig .tc .vmem S6x256 .f32) (harg11 : arg11.IsWhole) (arg12 : Memref sig .tc .vmem S6x256 .f32) (harg12 : arg12.IsWhole) (arg13 : Memref sig .tc .vmem S6x256 .f32) (harg13 : arg13.IsWhole) (arg14 : Memref sig .tc .vmem S6x256 .f32) (harg14 : arg14.IsWhole) (arg19 : Memref sig .tc .smem S1 .f32) (harg19 : arg19.IsWhole) (arg20 : Memref sig .tc .smem S1 .f32) (harg20 : arg20.IsWhole) (x0 : Vec Ideal S256x6x256 .f32) (x2 : Vec Ideal S6x256x256 .f32) (x3 : Vec Ideal S6x256 .f32) (x4 : Vec Ideal S6x256x256 .f32) (x5 : Vec Ideal S6x256 .f32) (x10 : Vec Ideal S6x256 .f32) (x11 : Vec Ideal S6x256 .f32) (x12 : Vec Ideal S6x256 .f32) (x13 : Vec Ideal S6x256 .f32) (x18 : Vec Ideal S1 .f32) (x19 : Vec Ideal S1 .f32) (p q : Fin 256) :
    kernelRun0_A.sl.v356 (F := Ideal) c arg1 harg1 arg3 harg3 arg4 harg4 arg5 harg5 arg6 harg6 arg11 harg11 arg12 harg12 arg13 harg13 arg14 harg14 arg19 harg19 arg20 harg20 x0 x2 x3 x4 x5 x10 x11 x12 x13 x18 x19 (ix2 p q) = H2 x0 x2 x3 x10 x11 x18 x4 x5 x12 x13 x19 p 4 q := by
  pointwise [kernelRun0_A.sl.v356, kernelRun0_A.sl.v351, kernelRun0_A.sl.v348, kernelRun0_A.sl.v345, kernelRun0_A.sl.v314, kernelRun0_A.sl.v343, kernelRun0_A.sl.v327, kernelRun0_A.sl.v347, kernelRun0_A.sl.v350, kernelRun0_A.sl.v353, kernelRun0_A.sl.v112, kernelRun0_A.sl.cst_49, kernelRun0_A.sl.v355, kernelRun0_A.sl.v324, View.readAt_eq_ld, Memref.IsWhole.read_unread, View.ld_unit]
  simp only [r_4_at, r_6_at, r_8_at, v222_at, inv_open]
  rfl

theorem v371_at (c : Dev nD) (arg1 : Memref sig .tc .vmem S256x6x256 .f32) (harg1 : arg1.IsWhole) (arg3 : Memref sig .tc .vmem S6x256x256 .f32) (harg3 : arg3.IsWhole) (arg4 : Memref sig .tc .vmem S6x256 .f32) (harg4 : arg4.IsWhole) (arg5 : Memref sig .tc .vmem S6x256x256 .f32) (harg5 : arg5.IsWhole) (arg6 : Memref sig .tc .vmem S6x256 .f32) (harg6 : arg6.IsWhole) (arg11 : Memref sig .tc .vmem S6x256 .f32) (harg11 : arg11.IsWhole) (arg12 : Memref sig .tc .vmem S6x256 .f32) (harg12 : arg12.IsWhole) (arg13 : Memref sig .tc .vmem S6x256 .f32) (harg13 : arg13.IsWhole) (arg14 : Memref sig .tc .vmem S6x256 .f32) (harg14 : arg14.IsWhole) (arg19 : Memref sig .tc .smem S1 .f32) (harg19 : arg19.IsWhole) (arg20 : Memref sig .tc .smem S1 .f32) (harg20 : arg20.IsWhole) (x0 : Vec Ideal S256x6x256 .f32) (x2 : Vec Ideal S6x256x256 .f32) (x3 : Vec Ideal S6x256 .f32) (x4 : Vec Ideal S6x256x256 .f32) (x5 : Vec Ideal S6x256 .f32) (x10 : Vec Ideal S6x256 .f32) (x11 : Vec Ideal S6x256 .f32) (x12 : Vec Ideal S6x256 .f32) (x13 : Vec Ideal S6x256 .f32) (x18 : Vec Ideal S1 .f32) (x19 : Vec Ideal S1 .f32) (p q : Fin 256) :
    kernelRun0_A.sl.v371 (F := Ideal) c arg1 harg1 arg3 harg3 arg4 harg4 arg5 harg5 arg6 harg6 arg11 harg11 arg12 harg12 arg13 harg13 arg14 harg14 arg19 harg19 arg20 harg20 x0 x2 x3 x4 x5 x10 x11 x12 x13 x18 x19 (ix2 p q) = H2 x0 x2 x3 x10 x11 x18 x4 x5 x12 x13 x19 p 5 q := by
  pointwise [kernelRun0_A.sl.v371, kernelRun0_A.sl.v366, kernelRun0_A.sl.v363, kernelRun0_A.sl.v360, kernelRun0_A.sl.v314, kernelRun0_A.sl.v358, kernelRun0_A.sl.v327, kernelRun0_A.sl.v362, kernelRun0_A.sl.v365, kernelRun0_A.sl.v368, kernelRun0_A.sl.v112, kernelRun0_A.sl.cst_49, kernelRun0_A.sl.v370, kernelRun0_A.sl.v324, View.readAt_eq_ld, Memref.IsWhole.read_unread, View.ld_unit]
  simp only [r_4_at, r_5_at, r_6_at, r_8_at, inv_open]
  rfl

end Cert.ProjIdeal.RowsX

end
-- ==== Proof.ProjRowsL.lean ====
/- Rows of the projection kernel's values, read at an index: the label branch.  Each value the body computes is named
   there; the statements below say what a row of it is as a function of the input blocks. -/
module

public import proofs.«01_k».proof.Proof.Gen.ProjIdeal.Frame
public import proofs.«01_k».proof.Proof.ProjMath

@[expose] public section

set_option maxRecDepth 16384

noncomputable section

namespace Cert.ProjIdeal.RowsL

open Cert.ProjIdeal Cert.ProjIdeal.Gen Cert.ProjMath Idealize.ShloMosaic Idealize.ShloMosaic.Tactic Idealize.ShloMosaic.TcCoe

/-- The named constant of this branch is the reciprocal of the number of entries. -/
theorem named_768 : Named.named (F := Ideal) κ "inv768" (φ := .f32) 984263339#32 = ((768⁻¹ : ℝ) : EReal) :=
  IdealRules.named_const.ideal_named_scalar _ _ _ _ rfl

/-- The reciprocal standard deviation spelt out as the body computes it. -/
theorem inv_open (Y : Fin 3 → Fin 256 → EReal) :
    Ideal.rsqrt (((∑ x, Y 0 x * Y 0 x) + (∑ x, Y 1 x * Y 1 x) + (∑ x, Y 2 x * Y 2 x)) * Named.named (F := Ideal) κ "inv768" (φ := .f32) 984263339#32
      - meanK ((768⁻¹ : ℝ) : EReal) Y * meanK ((768⁻¹ : ℝ) : EReal) Y + Ideal.ofBits .f32 925353388#32) = invK ((768⁻¹ : ℝ) : EReal) Y := by
  simp only [invK, total, Fin.sum_univ_three, named_768]
  rfl

/-- Row `p` after the first linear map. -/
def Y1 (x1 : Vec Ideal S256x3x349 .f32) (x6 : Vec Ideal S3x349x256 .f32) (x7 : Vec Ideal S3x256 .f32) (p : Fin 256) := linear (mat3 x1 p) (mat3 x6) (mat2 x7)
/-- Row `p` after the first layer. -/
def H1 (x1 : Vec Ideal S256x3x349 .f32) (x6 : Vec Ideal S3x349x256 .f32) (x7 : Vec Ideal S3x256 .f32) (x14 : Vec Ideal S3x256 .f32) (x15 : Vec Ideal S3x256 .f32) (x20 : Vec Ideal S1 .f32) (p : Fin 256) := layerK ((768⁻¹ : ℝ) : EReal) (Y1 x1 x6 x7 p) (mat2 x14) (mat2 x15) (x20 (ix1 0))
/-- Row `p` after the second linear map. -/
def Y2 (x1 : Vec Ideal S256x3x349 .f32) (x6 : Vec Ideal S3x349x256 .f32) (x7 : Vec Ideal S3x256 .f32) (x14 : Vec Ideal S3x256 .f32) (x15 : Vec Ideal S3x256 .f32) (x20 : Vec Ideal S1 .f32) (x8 : Vec Ideal S3x256x256 .f32) (x9 : Vec Ideal S3x256 .f32) (p : Fin 256) := linear (H1 x1 x6 x7 x14 x15 x20 p) (mat3 x8) (mat2 x9)
/-- Row `p` after the second layer. -/
def H2 (x1 : Vec Ideal S256x3x349 .f32) (x6 : Vec Ideal S3x349x256 .f32) (x7 : Vec Ideal S3x256 .f32) (x14 : Vec Ideal S3x256 .f32) (x15 : Vec Ideal S3x256 .f32) (x20 : Vec Ideal S1 .f32) (x8 : Vec Ideal S3x256x256 .f32) (x9 : Vec Ideal S3x256 .f32) (x16 : Vec Ideal S3x256 .f32) (x17 : Vec Ideal S3x256 .f32) (x21 : Vec Ideal S1 .f32) (p : Fin 256) := layerK ((768⁻¹ : ℝ) : EReal) (Y2 x1 x6 x7 x14 x15 x20 x8 x9 p) (mat2 x16) (mat2 x17) (x21 (ix1 0))

theorem r_12_at (c : Dev nD) (arg21 : Memref sig .tc .smem S1 .f32) (harg21 : arg21.IsWhole) (x20 : Vec Ideal S1 .f32) : kernelRun0_A.sl.r_12 (F := Ideal) c arg21 harg21 x20 = x20 (ix1 0) := by
  simp only [kernelRun0_A.sl.r_12, View.readAt_eq_ld, Memref.IsWhole.read_unread]
  exact View.ld_unit_apply_of _ _ _ _ _ _ (by decide)

theorem r_17_at (c : Dev nD) (arg22 : Memref sig .tc .smem S1 .f32) (harg22 : arg22.IsWhole) (x21 : Vec Ideal S1 .f32) : kernelRun0_A.sl.r_17 (F := Ideal) c arg22 harg22 x21 = x21 (ix1 0) := by
  simp only [kernelRun0_A.sl.r_17, View.readAt_eq_ld, Memref.IsWhole.read_unread]
  exact View.ld_unit_apply_of _ _ _ _ _ _ (by decide)

theorem v384_at (c : Dev nD) (arg2 : Memref sig .tc .vmem S256x3x349 .f32) (harg2 : arg2.IsWhole) (arg7 : Memref sig .tc .vmem S3x349x256 .f32) (harg7 : arg7.IsWhole) (arg8 : Memref sig .tc .vmem S3x256 .f32) (harg8 : arg8.IsWhole) (x1 : Vec Ideal S256x3x349 .f32) (x6 : Vec Ideal S3x349x256 .f32) (x7 : Vec Ideal S3x256 .f32) (p q : Fin 256) :
    kernelRun0_A.sl.v384 (F := Ideal) c arg2 harg2 arg7 harg7 arg8 harg8 x1 x6 x7 (ix2 p q) = Y1 x1 x6 x7 p 0 q := by
  pointwise [kernelRun0_A.sl.v384, kernelRun0_A.sl.v381, kernelRun0_A.sl.cst, kernelRun0_A.sl.v373, kernelRun0_A.sl.v380, kernelRun0_A.sl.v383, View.readAt_eq_ld, Memref.IsWhole.read_unread, View.ld_unit]
  rfl

theorem v390_at (c : Dev nD) (arg2 : Memref sig .tc .vmem S256x3x349 .f32) (harg2 : arg2.IsWhole) (arg7 : Memref sig .tc .vmem S3x349x256 .f32) (harg7 : arg7.IsWhole) (arg8 : Memref sig .tc .vmem S3x256 .f32) (harg8 : arg8.IsWhole) (x1 : Vec Ideal S256x3x349 .f32) (x6 : Vec Ideal S3x349x256 .f32) (x7 : Vec Ideal S3x256 .f32) (p q : Fin 256) :
    kernelRun0_A.sl.v390 (F := Ideal) c arg2 harg2 arg7 harg7 arg8 harg8 x1 x6 x7 (ix2 p q) = Y1 x1 x6 x7 p 1 q := by
  pointwise [kernelRun0_A.sl.v390, kernelRun0_A.sl.v387, kernelRun0_A.sl.cst, kernelRun0_A.sl.v375, kernelRun0_A.sl.v386, kernelRun0_A.sl.v389, View.readAt_eq_ld, Memref.IsWhole.read_unread, View.ld_unit]
  rfl

theorem r_13_at (c : Dev nD) (arg2 : Memref sig .tc .vmem S256x3x349 .f32) (harg2 : arg2.IsWhole) (arg7 : Memref sig .tc .vmem S3x349x256 .f32) (harg7 : arg7.IsWhole) (arg8 : Memref sig .tc .vmem S3x256 .f32) (harg8 : arg8.IsWhole) (x1 : Vec Ideal S256x3x349 .f32) (x6 : Vec Ideal S3x349x256 .f32) (x7 : Vec Ideal S3x256 .f32) (p q : Fin 256) :
    kernelRun0_A.sl.r_13 (F := Ideal) c arg2 harg2 arg7 harg7 arg8 harg8 x1 x6 x7 (ix2 p q) = Y1 x1 x6 x7 p 2 q := by
  pointwise [kernelRun0_A.sl.r_13, kernelRun0_A.sl.v377, k0_pay42, View.readAt_eq_ld, Memref.IsWhole.read_unread, View.ld_unit]
  rfl

theorem r_14_at (c : Dev nD) (arg2 : Memref sig .tc .vmem S256x3x349 .f32) (harg2 : arg2.IsWhole) (arg7 : Memref sig .tc .vmem S3x349x256 .f32) (harg7 : arg7.IsWhole) (arg8 : Memref sig .tc .vmem S3x256 .f32) (harg8 : arg8.IsWhole) (x1 : Vec Ideal S256x3x349 .f32) (x6 : Vec Ideal S3x349x256 .f32) (x7 : Vec Ideal S3x256 .f32) (p : Fin 256) :
    kernelRun0_A.sl.r_14 (F := Ideal) c arg2 harg2 arg7 harg7 arg8 harg8 x1 x6 x7 (ix2 p 0) = meanK ((768⁻¹ : ℝ) : EReal) (Y1 x1 x6 x7 p) := by
  pointwise [kernelRun0_A.sl.r_14, kernelRun0_A.sl.v377, k0_pay42, k0_pay43, View.readAt_eq_ld, Memref.IsWhole.read_unread, View.ld_unit]
  simp only [v384_at, v390_at]
  simp only [meanK, total, Fin.sum_univ_three, named_768]; rfl

theorem r_15_at (c : Dev nD) (arg2 : Memref sig .tc .vmem S256x3x349 .f32) (harg2 : arg2.IsWhole) (arg7 : Memref sig .tc .vmem S3x349x256 .f32) (harg7 : arg7.IsWhole) (arg8 : Memref sig .tc .vmem S3x256 .f32) (harg8 : arg8.IsWhole) (x1 : Vec Ideal S256x3x349 .f32) (x6 : Vec Ideal S3x349x256 .f32) (x7 : Vec Ideal S3x256 .f32) (p : Fin 256) :
    kernelRun0_A.sl.r_15 (F := Ideal) c arg2 harg2 arg7 harg7 arg8 harg8 x1 x6 x7 (ix2 p 0) = invK ((768⁻¹ : ℝ) : EReal) (Y1 x1 x6 x7 p) := by
  pointwise [kernelRun0_A.sl.r_15, kernelRun0_A.sl.v377, k0_pay42, k0_pay43, k0_pay44, View.readAt_eq_ld, Memref.IsWhole.read_unread, View.ld_unit]
  simp only [v384_at, v390_at]
  simp only [invK, meanK, total, Fin.sum_univ_three, named_768]; rfl

theorem r_16_at (c : Dev nD) (arg2 : Memref sig .tc .vmem S256x3x349 .f32) (harg2 : arg2.IsWhole) (arg7 : Memref sig .tc .vmem S3x349x256 .f32) (harg7 : arg7.IsWhole) (arg8 : Memref sig .tc .vmem S3x256 .f32) (harg8 : arg8.IsWhole) (x1 : Vec Ideal S256x3x349 .f32) (x6 : Vec Ideal S3x349x256 .f32) (x7 : Vec Ideal S3x256 .f32) (p q : Fin 256) :
    kernelRun0_A.sl.r_16 (F := Ideal) c arg2 harg2 arg7 harg7 arg8 harg8 x1 x6 x7 (ix2 p q) = (Y1 x1 x6 x7 p 0 q - meanK ((768⁻¹ : ℝ) : EReal) (Y1 x1 x6 x7 p)) * invK ((768⁻¹ : ℝ) : EReal) (Y1 x1 x6 x7 p) := by
  pointwise [kernelRun0_A.sl.r_16, kernelRun0_A.sl.v377, k0_pay42, k0_pay43, k0_pay44, k0_pay45, View.readAt_eq_ld, Memref.IsWhole.read_unread, View.ld_unit]
  simp only [v384_at, v390_at]
  simp only [invK, meanK, total, Fin.sum_univ_three, named_768]; rfl

theorem v443_at (c : Dev nD) (arg2 : Memref sig .tc .vmem S256x3x349 .f32) (harg2 : arg2.IsWhole) (arg7 : Memref sig .tc .vmem S3x349x256 .f32) (harg7 : arg7.IsWhole) (arg8 : Memref sig .tc .vmem S3x256 .f32) (harg8 : arg8.IsWhole) (arg15 : Memref sig .tc .vmem S3x256 .f32) (harg15 : arg15.IsWhole) (arg16 : Memref sig .tc .vmem S3x256 .f32) (harg16 : arg16.IsWhole) (arg21 : Memref sig .tc .smem S1 .f32) (harg21 : arg21.IsWhole) (x1 : Vec Ideal S256x3x349 .f32) (x6 : Vec Ideal S3x349x256 .f32) (x7 : Vec Ideal S3x256 .f32) (x14 : Vec Ideal S3x256 .f32) (x15 : Vec Ideal S3x256 .f32) (x20 : Vec Ideal S1 .f32) (p q : Fin 256) :
    kernelRun0_A.sl.v443 (F := Ideal) c arg2 harg2 arg7 harg7 arg8 harg8 arg15 harg15 arg16 harg16 arg21 harg21 x1 x6 x7 x14 x15 x20 (ix2 p q) = H1 x1 x6 x7 x14 x15 x20 p 0 q := by
  pointwise [kernelRun0_A.sl.v443, kernelRun0_A.sl.v438, kernelRun0_A.sl.v435, kernelRun0_A.sl.v434, kernelRun0_A.sl.v437, kernelRun0_A.sl.v440, kernelRun0_A.sl.v112, kernelRun0_A.sl.cst_49, kernelRun0_A.sl.v442, kernelRun0_A.sl.v441, View.readAt_eq_ld, Memref.IsWhole.read_unread, View.ld_unit]
  simp only [r_12_at, r_16_at]
  rfl

theorem v458_at (c : Dev nD) (arg2 : Memref sig .tc .vmem S256x3x349 .f32) (harg2 : arg2.IsWhole) (arg7 : Memref sig .tc .vmem S3x349x256 .f32) (harg7 : arg7.IsWhole) (arg8 : Memref sig .tc .vmem S3x256 .f32) (harg8 : arg8.IsWhole) (arg15 : Memref sig .tc .vmem S3x256 .f32) (harg15 : arg15.IsWhole) (arg16 : Memref sig .tc .vmem S3x256 .f32) (harg16 : arg16.IsWhole) (arg21 : Memref sig .tc .smem S1 .f32) (harg21 : arg21.IsWhole) (x1 : Vec Ideal S256x3x349 .f32) (x6 : Vec Ideal S3x349x256 .f32) (x7 : Vec Ideal S3x256 .f32) (x14 : Vec Ideal S3x256 .f32) (x15 : Vec Ideal S3x256 .f32) (x20 : Vec Ideal S1 .f32) (p q : Fin 256) :
    kernelRun0_A.sl.v458 (F := Ideal) c arg2 harg2 arg7 harg7 arg8 harg8 arg15 harg15 arg16 harg16 arg21 harg21 x1 x6 x7 x14 x15 x20 (ix2 p q) = H1 x1 x6 x7 x14 x15 x20 p 1 q := by
  pointwise [kernelRun0_A.sl.v458, kernelRun0_A.sl.v453, kernelRun0_A.sl.v450, kernelRun0_A.sl.v447, kernelRun0_A.sl.v445, kernelRun0_A.sl.v444, kernelRun0_A.sl.v446, kernelRun0_A.sl.v449, kernelRun0_A.sl.v452, kernelRun0_A.sl.v455, kernelRun0_A.sl.v112, kernelRun0_A.sl.cst_49, kernelRun0_A.sl.v457, kernelRun0_A.sl.v441, View.readAt_eq_ld, Memref.IsWhole.read_unread, View.ld_unit]
  simp only [r_12_at, r_14_at, r_15_at, v390_at]
  rfl

theorem v473_at (c : Dev nD) (arg2 : Memref sig .tc .vmem S256x3x349 .f32) (harg2 : arg2.IsWhole) (arg7 : Memref sig .tc .vmem S3x349x256 .f32) (harg7 : arg7.IsWhole) (arg8 : Memref sig .tc .vmem S3x256 .f32) (harg8 : arg8.IsWhole) (arg15 : Memref sig .tc .vmem S3x256 .f32) (harg15 : arg15.IsWhole) (arg16 : Memref sig .tc .vmem S3x256 .f32) (harg16 : arg16.IsWhole) (arg21 : Memref sig .tc .smem S1 .f32) (harg21 : arg21.IsWhole) (x1 : Vec Ideal S256x3x349 .f32) (x6 : Vec Ideal S3x349x256 .f32) (x7 : Vec Ideal S3x256 .f32) (x14 : Vec Ideal S3x256 .f32) (x15 : Vec Ideal S3x256 .f32) (x20 : Vec Ideal S1 .f32) (p q : Fin 256) :
    kernelRun0_A.sl.v473 (F := Ideal) c arg2 harg2 arg7 harg7 arg8 harg8 arg15 harg15 arg16 harg16 arg21 harg21 x1 x6 x7 x14 x15 x20 (ix2 p q) = H1 x1 x6 x7 x14 x15 x20 p 2 q := by
  pointwise [kernelRun0_A.sl.v473, kernelRun0_A.sl.v468, kernelRun0_A.sl.v465, kernelRun0_A.sl.v462, kernelRun0_A.sl.v446, kernelRun0_A.sl.v460, kernelRun0_A.sl.v444, kernelRun0_A.sl.v464, kernelRun0_A.sl.v467, kernelRun0_A.sl.v470, kernelRun0_A.sl.v112, kernelRun0_A.sl.cst_49, kernelRun0_A.sl.v472, kernelRun0_A.sl.v441, View.readAt_eq_ld, Memref.IsWhole.read_unread, View.ld_unit]
  simp only [r_12_at, r_13_at, r_14_at, r_15_at]
  rfl

theorem r_18_at (c : Dev nD) (arg2 : Memref sig .tc .vmem S256x3x349 .f32) (harg2 : arg2.IsWhole) (arg7 : Memref sig .tc .vmem S3x349x256 .f32) (harg7 : arg7.IsWhole) (arg8 : Memref sig .tc .vmem S3x256 .f32) (harg8 : arg8.IsWhole) (arg9 : Memref sig .tc .vmem S3x256x256 .f32) (harg9 : arg9.IsWhole) (arg10 : Memref sig .tc .vmem S3x256 .f32) (harg10 : arg10.IsWhole) (arg15 : Memref sig .tc .vmem S3x256 .f32) (harg15 : arg15.IsWhole) (arg16 : Memref sig .tc .vmem S3x256 .f32) (harg16 : arg16.IsWhole) (arg21 : Memref sig .tc .smem S1 .f32) (harg21 : arg21.IsWhole) (x1 : Vec Ideal S256x3x349 .f32) (x6 : Vec Ideal S3x349x256 .f32) (x7 : Vec Ideal S3x256 .f32) (x8 : Vec Ideal S3x256x256 .f32) (x9 : Vec Ideal S3x256 .f32) (x14 : Vec Ideal S3x256 .f32) (x15 : Vec Ideal S3x256 .f32) (x20 : Vec Ideal S1 .f32) (p q : Fin 256) :
    kernelRun0_A.sl.r_18 (F := Ideal) c arg2 harg2 arg7 harg7 arg8 harg8 arg9 harg9 arg10 harg10 arg15 harg15 arg16 harg16 arg21 harg21 x1 x6 x7 x8 x9 x14 x15 x20 (ix2 p q) = Y2 x1 x6 x7 x14 x15 x20 x8 x9 p 0 q := by
  pointwise [kernelRun0_A.sl.r_18, k0_pay49, View.readAt_eq_ld, Memref.IsWhole.read_unread, View.ld_unit]
  simp only [v443_at]
  rfl

theorem r_19_at (c : Dev nD) (arg2 : Memref sig .tc .vmem S256x3x349 .f32) (harg2 : arg2.IsWhole) (arg7 : Memref sig .tc .vmem S3x349x256 .f32) (harg7 : arg7.IsWhole) (arg8 : Memref sig .tc .vmem S3x256 .f32) (harg8 : arg8.IsWhole) (arg9 : Memref sig .tc .vmem S3x256x256 .f32) (harg9 : arg9.IsWhole) (arg10 : Memref sig .tc .vmem S3x256 .f32) (harg10 : arg10.IsWhole) (arg15 : Memref sig .tc .vmem S3x256 .f32) (harg15 : arg15.IsWhole) (arg16 : Memref sig .tc .vmem S3x256 .f32) (harg16 : arg16.IsWhole) (arg21 : Memref sig .tc .smem S1 .f32) (harg21 : arg21.IsWhole) (x1 : Vec Ideal S256x3x349 .f32) (x6 : Vec Ideal S3x349x256 .f32) (x7 : Vec Ideal S3x256 .f32) (x8 : Vec Ideal S3x256x256 .f32) (x9 : Vec Ideal S3x256 .f32) (x14 : Vec Ideal S3x256 .f32) (x15 : Vec Ideal S3x256 .f32) (x20 : Vec Ideal S1 .f32) (p q : Fin 256) :
    kernelRun0_A.sl.r_19 (F := Ideal) c arg2 harg2 arg7 harg7 arg8 harg8 arg9 harg9 arg10 harg10 arg15 harg15 arg16 harg16 arg21 harg21 x1 x6 x7 x8 x9 x14 x15 x20 (ix2 p q) = Y2 x1 x6 x7 x14 x15 x20 x8 x9 p 1 q := by
  pointwise [kernelRun0_A.sl.r_19, k0_pay50, View.readAt_eq_ld, Memref.IsWhole.read_unread, View.ld_unit]
  simp only [v458_at]
  rfl

theorem r_20_at (c : Dev nD) (arg2 : Memref sig .tc .vmem S256x3x349 .f32) (harg2 : arg2.IsWhole) (arg7 : Memref sig .tc .vmem S3x349x256 .f32) (harg7 : arg7.IsWhole) (arg8 : Memref sig .tc .vmem S3x256 .f32) (harg8 : arg8.IsWhole) (arg9 : Memref sig .tc .vmem S3x256x256 .f32) (harg9 : arg9.IsWhole) (arg10 : Memref sig .tc .vmem S3x256 .f32) (harg10 : arg10.IsWhole) (arg15 : Memref sig .tc .vmem S3x256 .f32) (harg15 : arg15.IsWhole) (arg16 : Memref sig .tc .vmem S3x256 .f32) (harg16 : arg16.IsWhole) (arg21 : Memref sig .tc .smem S1 .f32) (harg21 : arg21.IsWhole) (x1 : Vec Ideal S256x3x349 .f32) (x6 : Vec Ideal S3x349x256 .f32) (x7 : Vec Ideal S3x256 .f32) (x8 : Vec Ideal S3x256x256 .f32) (x9 : Vec Ideal S3x256 .f32) (x14 : Vec Ideal S3x256 .f32) (x15 : Vec Ideal S3x256 .f32) (x20 : Vec Ideal S1 .f32) (p q : Fin 256) :
    kernelRun0_A.sl.r_20 (F := Ideal) c arg2 harg2 arg7 harg7 arg8 harg8 arg9 harg9 arg10 harg10 arg15 harg15 arg16 harg16 arg21 harg21 x1 x6 x7 x8 x9 x14 x15 x20 (ix2 p q) = Y2 x1 x6 x7 x14 x15 x20 x8 x9 p 2 q := by
  pointwise [kernelRun0_A.sl.r_20, k0_pay51, View.readAt_eq_ld, Memref.IsWhole.read_unread, View.ld_unit]
  simp only [v473_at]
  rfl

theorem r_21_at (c : Dev nD) (arg2 : Memref sig .tc .vmem S256x3x349 .f32) (harg2 : arg2.IsWhole) (arg7 : Memref sig .tc .vmem S3x349x256 .f32) (harg7 : arg7.IsWhole) (arg8 : Memref sig .tc .vmem S3x256 .f32) (harg8 : arg8.IsWhole) (arg9 : Memref sig .tc .vmem S3x256x256 .f32) (harg9 : arg9.IsWhole) (arg10 : Memref sig .tc .vmem S3x256 .f32) (harg10 : arg10.IsWhole) (arg15 : Memref sig .tc .vmem S3x256 .f32) (harg15 : arg15.IsWhole) (arg16 : Memref sig .tc .vmem S3x256 .f32) (harg16 : arg16.IsWhole) (arg21 : Memref sig .tc .smem S1 .f32) (harg21 : arg21.IsWhole) (x1 : Vec Ideal S256x3x349 .f32) (x6 : Vec Ideal S3x349x256 .f32) (x7 : Vec Ideal S3x256 .f32) (x8 : Vec Ideal S3x256x256 .f32) (x9 : Vec Ideal S3x256 .f32) (x14 : Vec Ideal S3x256 .f32) (x15 : Vec Ideal S3x256 .f32) (x20 : Vec Ideal S1 .f32) (p : Fin 256) :
    kernelRun0_A.sl.r_21 (F := Ideal) c arg2 harg2 arg7 harg7 arg8 harg8 arg9 harg9 arg10 harg10 arg15 harg15 arg16 harg16 arg21 harg21 x1 x6 x7 x8 x9 x14 x15 x20 (ix2 p 0) = meanK ((768⁻¹ : ℝ) : EReal) (Y2 x1 x6 x7 x14 x15 x20 x8 x9 p) := by
  pointwise [kernelRun0_A.sl.r_21, k0_pay49, k0_pay50, k0_pay51, k0_pay52, View.readAt_eq_ld, Memref.IsWhole.read_unread, View.ld_unit]
  simp only [v443_at, v458_at, v473_at]
  simp only [meanK, total, Fin.sum_univ_three, named_768]; rfl

theorem r_22_at (c : Dev nD) (arg2 : Memref sig .tc .vmem S256x3x349 .f32) (harg2 : arg2.IsWhole) (arg7 : Memref sig .tc .vmem S3x349x256 .f32) (harg7 : arg7.IsWhole) (arg8 : Memref sig .tc .vmem S3x256 .f32) (harg8 : arg8.IsWhole) (arg9 : Memref sig .tc .vmem S3x256x256 .f32) (harg9 : arg9.IsWhole) (arg10 : Memref sig .tc .vmem S3x256 .f32) (harg10 : arg10.IsWhole) (arg15 : Memref sig .tc .vmem S3x256 .f32) (harg15 : arg15.IsWhole) (arg16 : Memref sig .tc .vmem S3x256 .f32) (harg16 : arg16.IsWhole) (arg21 : Memref sig .tc .smem S1 .f32) (harg21 : arg21.IsWhole) (x1 : Vec Ideal S256x3x349 .f32) (x6 : Vec Ideal S3x349x256 .f32) (x7 : Vec Ideal S3x256 .f32) (x8 : Vec Ideal S3x256x256 .f32) (x9 : Vec Ideal S3x256 .f32) (x14 : Vec Ideal S3x256 .f32) (x15 : Vec Ideal S3x256 .f32) (x20 : Vec Ideal S1 .f32) (p : Fin 256) :
    kernelRun0_A.sl.r_22 (F := Ideal) c arg2 harg2 arg7 harg7 arg8 harg8 arg9 harg9 arg10 harg10 arg15 harg15 arg16 harg16 arg21 harg21 x1 x6 x7 x8 x9 x14 x15 x20 (ix2 p 0) = ∑ x, Y2 x1 x6 x7 x14 x15 x20 x8 x9 p 0 x * Y2 x1 x6 x7 x14 x15 x20 x8 x9 p 0 x := by
  pointwise [kernelRun0_A.sl.r_22, k0_pay49, k0_pay53, View.readAt_eq_ld, Memref.IsWhole.read_unread, View.ld_unit]
  simp only [v443_at]
  rfl

theorem r_23_at (c : Dev nD) (arg2 : Memref sig .tc .vmem S256x3x349 .f32) (harg2 : arg2.IsWhole) (arg7 : Memref sig .tc .vmem S3x349x256 .f32) (harg7 : arg7.IsWhole) (arg8 : Memref sig .tc .vmem S3x256 .f32) (harg8 : arg8.IsWhole) (arg9 : Memref sig .tc .vmem S3x256x256 .f32) (harg9 : arg9.IsWhole) (arg10 : Memref sig .tc .vmem S3x256 .f32) (harg10 : arg10.IsWhole) (arg15 : Memref sig .tc .vmem S3x256 .f32) (harg15 : arg15.IsWhole) (arg16 : Memref sig .tc .vmem S3x256 .f32) (harg16 : arg16.IsWhole) (arg21 : Memref sig .tc .smem S1 .f32) (harg21 : arg21.IsWhole) (x1 : Vec Ideal S256x3x349 .f32) (x6 : Vec Ideal S3x349x256 .f32) (x7 : Vec Ideal S3x256 .f32) (x8 : Vec Ideal S3x256x256 .f32) (x9 : Vec Ideal S3x256 .f32) (x14 : Vec Ideal S3x256 .f32) (x15 : Vec Ideal S3x256 .f32) (x20 : Vec Ideal S1 .f32) (p : Fin 256) :
    kernelRun0_A.sl.r_23 (F := Ideal) c arg2 harg2 arg7 harg7 arg8 harg8 arg9 harg9 arg10 harg10 arg15 harg15 arg16 harg16 arg21 harg21 x1 x6 x7 x8 x9 x14 x15 x20 (ix1 p) = ∑ x, Y2 x1 x6 x7 x14 x15 x20 x8 x9 p 1 x * Y2 x1 x6 x7 x14 x15 x20 x8 x9 p 1 x := by
  pointwise [kernelRun0_A.sl.r_23, k0_pay50, k0_pay54, View.readAt_eq_ld, Memref.IsWhole.read_unread, View.ld_unit]
  simp only [v458_at]
  rfl

theorem r_24_at (c : Dev nD) (arg2 : Memref sig .tc .vmem S256x3x349 .f32) (harg2 : arg2.IsWhole) (arg7 : Memref sig .tc .vmem S3x349x256 .f32) (harg7 : arg7.IsWhole) (arg8 : Memref sig .tc .vmem S3x256 .f32) (harg8 : arg8.IsWhole) (arg9 : Memref sig .tc .vmem S3x256x256 .f32) (harg9 : arg9.IsWhole) (arg10 : Memref sig .tc .vmem S3x256 .f32) (harg10 : arg10.IsWhole) (arg15 : Memref sig .tc .vmem S3x256 .f32) (harg15 : arg15.IsWhole) (arg16 : Memref sig .tc .vmem S3x256 .f32) (harg16 : arg16.IsWhole) (arg17 : Memref sig .tc .vmem S3x256 .f32) (harg17 : arg17.IsWhole) (arg18 : Memref sig .tc .vmem S3x256 .f32) (harg18 : arg18.IsWhole) (arg21 : Memref sig .tc .smem S1 .f32) (harg21 : arg21.IsWhole) (arg22 : Memref sig .tc .smem S1 .f32) (harg22 : arg22.IsWhole) (x1 : Vec Ideal S256x3x349 .f32) (x6 : Vec Ideal S3x349x256 .f32) (x7 : Vec Ideal S3x256 .f32) (x8 : Vec Ideal S3x256x256 .f32) (x9 : Vec Ideal S3x256 .f32) (x14 : Vec Ideal S3x256 .f32) (x15 : Vec Ideal S3x256 .f32) (x16 : Vec Ideal S3x256 .f32) (x17 : Vec Ideal S3x256 .f32) (x20 : Vec Ideal S1 .f32) (x21 : Vec Ideal S1 .f32) (p q : Fin 256) :
    kernelRun0_A.sl.r_24 (F := Ideal) c arg2 harg2 arg7 harg7 arg8 harg8 arg9 harg9 arg10 harg10 arg15 harg15 arg16 harg16 arg17 harg17 arg18 harg18 arg21 harg21 arg22 harg22 x1 x6 x7 x8 x9 x14 x15 x16 x17 x20 x21 (ix2 p q) = H2 x1 x6 x7 x14 x15 x20 x8 x9 x16 x17 x21 p 0 q := by
  pointwise [kernelRun0_A.sl.r_24, k0_pay55, k0_pay56, View.readAt_eq_ld, Memref.IsWhole.read_unread, View.ld_unit]
  simp only [r_17_at, r_18_at, r_20_at, r_21_at, r_22_at, r_23_at, inv_open]
  rfl

theorem r_25_at (c : Dev nD) (arg2 : Memref sig .tc .vmem S256x3x349 .f32) (harg2 : arg2.IsWhole) (arg7 : Memref sig .tc .vmem S3x349x256 .f32) (harg7 : arg7.IsWhole) (arg8 : Memref sig .tc .vmem S3x256 .f32) (harg8 : arg8.IsWhole) (arg9 : Memref sig .tc .vmem S3x256x256 .f32) (harg9 : arg9.IsWhole) (arg10 : Memref sig .tc .vmem S3x256 .f32) (harg10 : arg10.IsWhole) (arg15 : Memref sig .tc .vmem S3x256 .f32) (harg15 : arg15.IsWhole) (arg16 : Memref sig .tc .vmem S3x256 .f32) (harg16 : arg16.IsWhole) (arg17 : Memref sig .tc .vmem S3x256 .f32) (harg17 : arg17.IsWhole) (arg18 : Memref sig .tc .vmem S3x256 .f32) (harg18 : arg18.IsWhole) (arg21 : Memref sig .tc .smem S1 .f32) (harg21 : arg21.IsWhole) (arg22 : Memref sig .tc .smem S1 .f32) (harg22 : arg22.IsWhole) (x1 : Vec Ideal S256x3x349 .f32) (x6 : Vec Ideal S3x349x256 .f32) (x7 : Vec Ideal S3x256 .f32) (x8 : Vec Ideal S3x256x256 .f32) (x9 : Vec Ideal S3x256 .f32) (x14 : Vec Ideal S3x256 .f32) (x15 : Vec Ideal S3x256 .f32) (x16 : Vec Ideal S3x256 .f32) (x17 : Vec Ideal S3x256 .f32) (x20 : Vec Ideal S1 .f32) (x21 : Vec Ideal S1 .f32) (p q : Fin 256) :
    kernelRun0_A.sl.r_25 (F := Ideal) c arg2 harg2 arg7 harg7 arg8 harg8 arg9 harg9 arg10 harg10 arg15 harg15 arg16 harg16 arg17 harg17 arg18 harg18 arg21 harg21 arg22 harg22 x1 x6 x7 x8 x9 x14 x15 x16 x17 x20 x21 (ix2 p q) = H2 x1 x6 x7 x14 x15 x20 x8 x9 x16 x17 x21 p 1 q := by
  pointwise [kernelRun0_A.sl.r_25, k0_pay55, k0_pay57, View.readAt_eq_ld, Memref.IsWhole.read_unread, View.ld_unit]
  simp only [r_17_at, r_19_at, r_20_at, r_21_at, r_22_at, r_23_at, inv_open]
  rfl

theorem r_27_at (c : Dev nD) (arg2 : Memref sig .tc .vmem S256x3x349 .f32) (harg2 : arg2.IsWhole) (arg7 : Memref sig .tc .vmem S3x349x256 .f32) (harg7 : arg7.IsWhole) (arg8 : Memref sig .tc .vmem S3x256 .f32) (harg8 : arg8.IsWhole) (arg9 : Memref sig .tc .vmem S3x256x256 .f32) (harg9 : arg9.IsWhole) (arg10 : Memref sig .tc .vmem S3x256 .f32) (harg10 : arg10.IsWhole) (arg15 : Memref sig .tc .vmem S3x256 .f32) (harg15 : arg15.IsWhole) (arg16 : Memref sig .tc .vmem S3x256 .f32) (harg16 : arg16.IsWhole) (arg17 : Memref sig .tc .vmem S3x256 .f32) (harg17 : arg17.IsWhole) (arg18 : Memref sig .tc .vmem S3x256 .f32) (harg18 : arg18.IsWhole) (arg21 : Memref sig .tc .smem S1 .f32) (harg21 : arg21.IsWhole) (arg22 : Memref sig .tc .smem S1 .f32) (harg22 : arg22.IsWhole) (x1 : Vec Ideal S256x3x349 .f32) (x6 : Vec Ideal S3x349x256 .f32) (x7 : Vec Ideal S3x256 .f32) (x8 : Vec Ideal S3x256x256 .f32) (x9 : Vec Ideal S3x256 .f32) (x14 : Vec Ideal S3x256 .f32) (x15 : Vec Ideal S3x256 .f32) (x16 : Vec Ideal S3x256 .f32) (x17 : Vec Ideal S3x256 .f32) (x20 : Vec Ideal S1 .f32) (x21 : Vec Ideal S1 .f32) (p q : Fin 256) :
    kernelRun0_A.sl.r_27 (F := Ideal) c arg2 harg2 arg7 harg7 arg8 harg8 arg9 harg9 arg10 harg10 arg15 harg15 arg16 harg16 arg17 harg17 arg18 harg18 arg21 harg21 arg22 harg22 x1 x6 x7 x8 x9 x14 x15 x16 x17 x20 x21 (ix2 p q) = H2 x1 x6 x7 x14 x15 x20 x8 x9 x16 x17 x21 p 2 q := by
  pointwise [kernelRun0_A.sl.r_27, kernelRun0_A.sl.r_26, k0_pay55, k0_pay58, k0_pay59, View.readAt_eq_ld, Memref.IsWhole.read_unread, View.ld_unit]
  simp only [r_17_at, r_20_at, r_21_at, r_22_at, r_23_at, inv_open]
  rfl

end Cert.ProjIdeal.RowsL

end
-- ==== Proof.ProjOut.lean ====
/- The block of one grid point of the projection kernel: nine stores side by side, six from the feature branch and three
   from the label branch. -/
module

public import proofs.«01_k».proof.Proof.ProjRowsX
public import proofs.«01_k».proof.Proof.ProjRowsL

@[expose] public section

set_option maxRecDepth 16384

noncomputable section

namespace Cert.ProjIdeal.Out

open Cert.ProjIdeal Cert.ProjIdeal.Gen Cert.ProjMath Idealize.ShloMosaic Idealize.ShloMosaic.Tactic Idealize.ShloMosaic.TcCoe

/-- Column `q` of the nine channels laid side by side. -/
def side (f : Fin 6 → Fin 256 → EReal) (g : Fin 3 → Fin 256 → EReal) (q : Fin 2304) : EReal :=
  if h : q.val < 1536 then f ⟨q.val / 256, by omega⟩ ⟨q.val % 256, by omega⟩ else g ⟨q.val / 256 - 6, by omega⟩ ⟨q.val % 256, by omega⟩

/-- A column of the feature branch. -/
theorem side_feature (f : Fin 6 → Fin 256 → EReal) (g : Fin 3 → Fin 256 → EReal) (q : Fin 2304) (c : Fin 6) (r : Fin 256)
    (h : (q : ℕ) = c.val * 256 + r.val) : side f g q = f c r := by
  unfold side
  rw [dif_pos (by omega)]
  exact congrArg₂ f (Fin.ext (by show q.val / 256 = c.val; omega)) (Fin.ext (by show q.val % 256 = r.val; omega))

/-- A column of the label branch. -/
theorem side_label (f : Fin 6 → Fin 256 → EReal) (g : Fin 3 → Fin 256 → EReal) (q : Fin 2304) (c : Fin 3) (r : Fin 256)
    (h : (q : ℕ) = (c.val + 6) * 256 + r.val) : side f g q = g c r := by
  unfold side
  rw [dif_neg (by omega)]
  exact congrArg₂ g (Fin.ext (by show q.val / 256 - 6 = c.val; omega)) (Fin.ext (by show q.val % 256 = r.val; omega))

/-- What a grid point's block holds at row `y 0` and column `y 1`. -/
theorem out_at (c : Dev nD) (i : grid0.Coords) (arg1 : Memref sig .tc .vmem S256x6x256 .f32) (harg1 : arg1.IsWhole) (arg2 : Memref sig .tc .vmem S256x3x349 .f32) (harg2 : arg2.IsWhole) (arg3 : Memref sig .tc .vmem S6x256x256 .f32) (harg3 : arg3.IsWhole) (arg4 : Memref sig .tc .vmem S6x256 .f32) (harg4 : arg4.IsWhole) (arg5 : Memref sig .tc .vmem S6x256x256 .f32) (harg5 : arg5.IsWhole) (arg6 : Memref sig .tc .vmem S6x256 .f32) (harg6 : arg6.IsWhole) (arg7 : Memref sig .tc .vmem S3x349x256 .f32) (harg7 : arg7.IsWhole) (arg8 : Memref sig .tc .vmem S3x256 .f32) (harg8 : arg8.IsWhole) (arg9 : Memref sig .tc .vmem S3x256x256 .f32) (harg9 : arg9.IsWhole) (arg10 : Memref sig .tc .vmem S3x256 .f32) (harg10 : arg10.IsWhole) (arg11 : Memref sig .tc .vmem S6x256 .f32) (harg11 : arg11.IsWhole) (arg12 : Memref sig .tc .vmem S6x256 .f32) (harg12 : arg12.IsWhole) (arg13 : Memref sig .tc .vmem S6x256 .f32) (harg13 : arg13.IsWhole) (arg14 : Memref sig .tc .vmem S6x256 .f32) (harg14 : arg14.IsWhole) (arg15 : Memref sig .tc .vmem S3x256 .f32) (harg15 : arg15.IsWhole) (arg16 : Memref sig .tc .vmem S3x256 .f32) (harg16 : arg16.IsWhole) (arg17 : Memref sig .tc .vmem S3x256 .f32) (harg17 : arg17.IsWhole) (arg18 : Memref sig .tc .vmem S3x256 .f32) (harg18 : arg18.IsWhole) (arg19 : Memref sig .tc .smem S1 .f32) (harg19 : arg19.IsWhole) (arg20 : Memref sig .tc .smem S1 .f32) (harg20 : arg20.IsWhole) (arg21 : Memref sig .tc .smem S1 .f32) (harg21 : arg21.IsWhole) (arg22 : Memref sig .tc .smem S1 .f32) (harg22 : arg22.IsWhole) (arg23 : Memref sig .tc .vmem S256x2304 .f32) (harg23 : arg23.IsWhole)     (x0 : Vec Ideal S256x6x256 .f32) (x1 : Vec Ideal S256x3x349 .f32) (x2 : Vec Ideal S6x256x256 .f32) (x3 : Vec Ideal S6x256 .f32) (x4 : Vec Ideal S6x256x256 .f32) (x5 : Vec Ideal S6x256 .f32) (x6 : Vec Ideal S3x349x256 .f32) (x7 : Vec Ideal S3x256 .f32) (x8 : Vec Ideal S3x256x256 .f32) (x9 : Vec Ideal S3x256 .f32) (x10 : Vec Ideal S6x256 .f32) (x11 : Vec Ideal S6x256 .f32) (x12 : Vec Ideal S6x256 .f32) (x13 : Vec Ideal S6x256 .f32) (x14 : Vec Ideal S3x256 .f32) (x15 : Vec Ideal S3x256 .f32) (x16 : Vec Ideal S3x256 .f32) (x17 : Vec Ideal S3x256 .f32) (x18 : Vec Ideal S1 .f32) (x19 : Vec Ideal S1 .f32) (x20 : Vec Ideal S1 .f32) (x21 : Vec Ideal S1 .f32) (y : S256x2304.Idx) :
    out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 x21 y = side (RowsX.H2 x0 x2 x3 x10 x11 x18 x4 x5 x12 x13 x19 (y 0)) (RowsL.H2 x1 x6 x7 x14 x15 x20 x8 x9 x16 x17 x21 (y 0)) (y 1) := by
  unfold out0_A_22
  unfold kernelRun0_A
  dsimp only
  rw [View.read_writes_junk_eq_canon]
  canon_tiles x h
  · obtain ⟨p, q, rfl⟩ : ∃ (p : Fin 256) (q : Fin 256), x = ix2 p q := ⟨x 0, x 1, eq_ix2 x⟩
    have hp : y 0 = p := Fin.ext (by simpa using h0)
    refine (RowsL.r_27_at c arg2 harg2 arg7 harg7 arg8 harg8 arg9 harg9 arg10 harg10 arg15 harg15 arg16 harg16 arg17 harg17 arg18 harg18 arg21 harg21 arg22 harg22 x1 x6 x7 x8 x9 x14 x15 x16 x17 x20 x21 p q).trans ?_
    rw [hp]
    exact (side_label _ _ (y 1) 2 q (by simpa using h1)).symm
  · obtain ⟨p, q, rfl⟩ : ∃ (p : Fin 256) (q : Fin 256), x = ix2 p q := ⟨x 0, x 1, eq_ix2 x⟩
    have hp : y 0 = p := Fin.ext (by simpa using h0)
    refine (RowsL.r_25_at c arg2 harg2 arg7 harg7 arg8 harg8 arg9 harg9 arg10 harg10 arg15 harg15 arg16 harg16 arg17 harg17 arg18 harg18 arg21 harg21 arg22 harg22 x1 x6 x7 x8 x9 x14 x15 x16 x17 x20 x21 p q).trans ?_
    rw [hp]
    exact (side_label _ _ (y 1) 1 q (by simpa using h1)).symm
  · obtain ⟨p, q, rfl⟩ : ∃ (p : Fin 256) (q : Fin 256), x = ix2 p q := ⟨x 0, x 1, eq_ix2 x⟩
    have hp : y 0 = p := Fin.ext (by simpa using h0)
    refine (RowsL.r_24_at c arg2 harg2 arg7 harg7 arg8 harg8 arg9 harg9 arg10 harg10 arg15 harg15 arg16 harg16 arg17 harg17 arg18 harg18 arg21 harg21 arg22 harg22 x1 x6 x7 x8 x9 x14 x15 x16 x17 x20 x21 p q).trans ?_
    rw [hp]
    exact (side_label _ _ (y 1) 0 q (by simpa using h1)).symm
  · obtain ⟨p, q, rfl⟩ : ∃ (p : Fin 256) (q : Fin 256), x = ix2 p q := ⟨x 0, x 1, eq_ix2 x⟩
    have hp : y 0 = p := Fin.ext (by simpa using h0)
    refine (RowsX.v371_at c arg1 harg1 arg3 harg3 arg4 harg4 arg5 harg5 arg6 harg6 arg11 harg11 arg12 harg12 arg13 harg13 arg14 harg14 arg19 harg19 arg20 harg20 x0 x2 x3 x4 x5 x10 x11 x12 x13 x18 x19 p q).trans ?_
    rw [hp]
    exact (side_feature _ _ (y 1) 5 q (by simpa using h1)).symm
  · obtain ⟨p, q, rfl⟩ : ∃ (p : Fin 256) (q : Fin 256), x = ix2 p q := ⟨x 0, x 1, eq_ix2 x⟩
    have hp : y 0 = p := Fin.ext (by simpa using h0)
    refine (RowsX.v356_at c arg1 harg1 arg3 harg3 arg4 harg4 arg5 harg5 arg6 harg6 arg11 harg11 arg12 harg12 arg13 harg13 arg14 harg14 arg19 harg19 arg20 harg20 x0 x2 x3 x4 x5 x10 x11 x12 x13 x18 x19 p q).trans ?_
    rw [hp]
    exact (side_feature _ _ (y 1) 4 q (by simpa using h1)).symm
  · obtain ⟨p, q, rfl⟩ : ∃ (p : Fin 256) (q : Fin 256), x = ix2 p q := ⟨x 0, x 1, eq_ix2 x⟩
    have hp : y 0 = p := Fin.ext (by simpa using h0)
    refine (RowsX.v341_at c arg1 harg1 arg3 harg3 arg4 harg4 arg5 harg5 arg6 harg6 arg11 harg11 arg12 harg12 arg13 harg13 arg14 harg14 arg19 harg19 arg20 harg20 x0 x2 x3 x4 x5 x10 x11 x12 x13 x18 x19 p q).trans ?_
    rw [hp]
    exact (side_feature _ _ (y 1) 3 q (by simpa using h1)).symm
  · obtain ⟨p, q, rfl⟩ : ∃ (p : Fin 256) (q : Fin 256), x = ix2 p q := ⟨x 0, x 1, eq_ix2 x⟩
    have hp : y 0 = p := Fin.ext (by simpa using h0)
    refine (RowsX.v326_at c arg1 harg1 arg3 harg3 arg4 harg4 arg5 harg5 arg6 harg6 arg11 harg11 arg12 harg12 arg13 harg13 arg14 harg14 arg19 harg19 arg20 harg20 x0 x2 x3 x4 x5 x10 x11 x12 x13 x18 x19 p q).trans ?_
    rw [hp]
    exact (side_feature _ _ (y 1) 2 q (by simpa using h1)).symm
  · obtain ⟨p, q, rfl⟩ : ∃ (p : Fin 256) (q : Fin 256), x = ix2 p q := ⟨x 0, x 1, eq_ix2 x⟩
    have hp : y 0 = p := Fin.ext (by simpa using h0)
    refine (RowsX.r_10_at c arg1 harg1 arg3 harg3 arg4 harg4 arg5 harg5 arg6 harg6 arg11 harg11 arg12 harg12 arg13 harg13 arg14 harg14 arg19 harg19 arg20 harg20 x0 x2 x3 x4 x5 x10 x11 x12 x13 x18 x19 p q).trans ?_
    rw [hp]
    exact (side_feature _ _ (y 1) 1 q (by simpa using h1)).symm
  · obtain ⟨p, q, rfl⟩ : ∃ (p : Fin 256) (q : Fin 256), x = ix2 p q := ⟨x 0, x 1, eq_ix2 x⟩
    have hp : y 0 = p := Fin.ext (by simpa using h0)
    refine (RowsX.r_9_at c arg1 harg1 arg3 harg3 arg4 harg4 arg5 harg5 arg6 harg6 arg11 harg11 arg12 harg12 arg13 harg13 arg14 harg14 arg19 harg19 arg20 harg20 x0 x2 x3 x4 x5 x10 x11 x12 x13 x18 x19 p q).trans ?_
    rw [hp]
    exact (side_feature _ _ (y 1) 0 q (by simpa using h1)).symm

end Cert.ProjIdeal.Out

end
-- ==== Proof.ProjFinal.lean ====
/- The projection kernel's result array: every grid point writes its own 256 rows, and a row is the two projection layers
   of that sample, with the layer norm as the kernel computes it. -/
module

public import proofs.«01_k».proof.Proof.ProjOut
public import Idealize.ShloMosaic.Lib.Pipeline.ValueKit

@[expose] public section

set_option maxRecDepth 16384

noncomputable section

namespace Cert.ProjIdeal.Final

open Cert.ProjIdeal Cert.ProjIdeal.Gen Cert.ProjIdeal.Out Cert.ProjMath Idealize.ShloMosaic Idealize.ShloMosaic.TcCoe Idealize.SL.Sem
open Idealize.ShloMosaic.Pipeline (Dat)

variable (m : (ℓ : Loc nD τ sig) → Buf (Elt Ideal) ℓ)

/-- The windows' block numbers at each point. -/
theorem idx : ∀ t : Fin cfg0.N, win0_0.index t = ![t.val, 0, 0]
    ∧ win0_1.index t = ![t.val, 0, 0]
    ∧ win0_2.index t = ![0, 0, 0]
    ∧ win0_3.index t = ![0, 0]
    ∧ win0_4.index t = ![0, 0, 0]
    ∧ win0_5.index t = ![0, 0]
    ∧ win0_6.index t = ![0, 0, 0]
    ∧ win0_7.index t = ![0, 0]
    ∧ win0_8.index t = ![0, 0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0]
    ∧ win0_19.index t = ![0]
    ∧ win0_20.index t = ![0]
    ∧ win0_21.index t = ![0]
    ∧ win0_22.index t = ![t.val, 0] :=
  (by decide +kernel : ∀ t : Fin grid0.N, _)

/-- The feature branch of sample `p`. -/
def KX (a0 : FVec Ideal S1024x6x256 .f32) (a2 : FVec Ideal S6x256x256 .f32) (a3 : FVec Ideal S6x256 .f32) (a10 : FVec Ideal S6x256 .f32) (a11 : FVec Ideal S6x256 .f32) (a18 : FVec Ideal S1 .f32) (a4 : FVec Ideal S6x256x256 .f32) (a5 : FVec Ideal S6x256 .f32) (a12 : FVec Ideal S6x256 .f32) (a13 : FVec Ideal S6x256 .f32) (a19 : FVec Ideal S1 .f32) (p : Fin 1024) : Fin 6 → Fin 256 → EReal :=
  layerK ((1536⁻¹ : ℝ) : EReal) (linear (layerK ((1536⁻¹ : ℝ) : EReal) (linear (mat3 a0 p) (mat3 a2) (mat2 a3)) (mat2 a10) (mat2 a11) (a18 (ix1 0)))
    (mat3 a4) (mat2 a5)) (mat2 a12) (mat2 a13) (a19 (ix1 0))

/-- The label branch of sample `p`. -/
def KL (a1 : FVec Ideal S1024x3x349 .f32) (a6 : FVec Ideal S3x349x256 .f32) (a7 : FVec Ideal S3x256 .f32) (a14 : FVec Ideal S3x256 .f32) (a15 : FVec Ideal S3x256 .f32) (a20 : FVec Ideal S1 .f32) (a8 : FVec Ideal S3x256x256 .f32) (a9 : FVec Ideal S3x256 .f32) (a16 : FVec Ideal S3x256 .f32) (a17 : FVec Ideal S3x256 .f32) (a21 : FVec Ideal S1 .f32) (p : Fin 1024) : Fin 3 → Fin 256 → EReal :=
  layerK ((768⁻¹ : ℝ) : EReal) (linear (layerK ((768⁻¹ : ℝ) : EReal) (linear (mat3 a1 p) (mat3 a6) (mat2 a7)) (mat2 a14) (mat2 a15) (a20 (ix1 0)))
    (mat3 a8) (mat2 a9)) (mat2 a16) (mat2 a17) (a21 (ix1 0))

theorem b0 (c : Dev nD) (t : Fin cfg0.N) (p : Fin 256) (p' : Fin 1024) (h : (p' : ℕ) = t.val * 256 + p.val) :
    mat3 (iblk m c 0 t) p = mat3 (m ((c : Thread nD τ).loc main_arg0)) p' := by
  funext i j
  unfold mat3
  blk_point [iblk, V, idx t]

theorem b1 (c : Dev nD) (t : Fin cfg0.N) (p : Fin 256) (p' : Fin 1024) (h : (p' : ℕ) = t.val * 256 + p.val) :
    mat3 (iblk m c 1 t) p = mat3 (m ((c : Thread nD τ).loc main_arg1)) p' := by
  funext i j
  unfold mat3
  blk_point [iblk, V, idx t]

theorem b2 (c : Dev nD) (t : Fin cfg0.N) : mat3 (iblk m c 2 t) = mat3 (m ((c : Thread nD τ).loc main_arg2)) := by
  funext i j k
  unfold mat3
  blk_point [iblk, V, idx t]

theorem b3 (c : Dev nD) (t : Fin cfg0.N) : mat2 (iblk m c 3 t) = mat2 (m ((c : Thread nD τ).loc main_arg3)) := by
  funext i j
  unfold mat2
  blk_point [iblk, V, idx t]

theorem b4 (c : Dev nD) (t : Fin cfg0.N) : mat3 (iblk m c 4 t) = mat3 (m ((c : Thread nD τ).loc main_arg4)) := by
  funext i j k
  unfold mat3
  blk_point [iblk, V, idx t]

theorem b5 (c : Dev nD) (t : Fin cfg0.N) : mat2 (iblk m c 5 t) = mat2 (m ((c : Thread nD τ).loc main_arg5)) := by
  funext i j
  unfold mat2
  blk_point [iblk, V, idx t]

theorem b6 (c : Dev nD) (t : Fin cfg0.N) : mat3 (iblk m c 6 t) = mat3 (m ((c : Thread nD τ).loc main_arg6)) := by
  funext i j k
  unfold mat3
  blk_point [iblk, V, idx t]

theorem b7 (c : Dev nD) (t : Fin cfg0.N) : mat2 (iblk m c 7 t) = mat2 (m ((c : Thread nD τ).loc main_arg7)) := by
  funext i j
  unfold mat2
  blk_point [iblk, V, idx t]

theorem b8 (c : Dev nD) (t : Fin cfg0.N) : mat3 (iblk m c 8 t) = mat3 (m ((c : Thread nD τ).loc main_arg8)) := by
  funext i j k
  unfold mat3
  blk_point [iblk, V, idx t]

theorem b9 (c : Dev nD) (t : Fin cfg0.N) : mat2 (iblk m c 9 t) = mat2 (m ((c : Thread nD τ).loc main_arg9)) := by
  funext i j
  unfold mat2
  blk_point [iblk, V, idx t]

theorem b10 (c : Dev nD) (t : Fin cfg0.N) : mat2 (iblk m c 10 t) = mat2 (m ((c : Thread nD τ).loc main_arg10)) := by
  funext i j
  unfold mat2
  blk_point [iblk, V, idx t]

theorem b11 (c : Dev nD) (t : Fin cfg0.N) : mat2 (iblk m c 11 t) = mat2 (m ((c : Thread nD τ).loc main_arg11)) := by
  funext i j
  unfold mat2
  blk_point [iblk, V, idx t]

theorem b12 (c : Dev nD) (t : Fin cfg0.N) : mat2 (iblk m c 12 t) = mat2 (m ((c : Thread nD τ).loc main_arg12)) := by
  funext i j
  unfold mat2
  blk_point [iblk, V, idx t]

theorem b13 (c : Dev nD) (t : Fin cfg0.N) : mat2 (iblk m c 13 t) = mat2 (m ((c : Thread nD τ).loc main_arg13)) := by
  funext i j
  unfold mat2
  blk_point [iblk, V, idx t]

theorem b14 (c : Dev nD) (t : Fin cfg0.N) : mat2 (iblk m c 14 t) = mat2 (m ((c : Thread nD τ).loc main_arg14)) := by
  funext i j
  unfold mat2
  blk_point [iblk, V, idx t]

theorem b15 (c : Dev nD) (t : Fin cfg0.N) : mat2 (iblk m c 15 t) = mat2 (m ((c : Thread nD τ).loc main_arg15)) := by
  funext i j
  unfold mat2
  blk_point [iblk, V, idx t]

theorem b16 (c : Dev nD) (t : Fin cfg0.N) : mat2 (iblk m c 16 t) = mat2 (m ((c : Thread nD τ).loc main_arg16)) := by
  funext i j
  unfold mat2
  blk_point [iblk, V, idx t]

theorem b17 (c : Dev nD) (t : Fin cfg0.N) : mat2 (iblk m c 17 t) = mat2 (m ((c : Thread nD τ).loc main_arg17)) := by
  funext i j
  unfold mat2
  blk_point [iblk, V, idx t]

theorem b18 (c : Dev nD) (t : Fin cfg0.N) : iblk m c 18 t (ix1 0) = (m ((c : Thread nD τ).loc main_arg18)) (ix1 0) := by
  blk_point [iblk, V, idx t]

theorem b19 (c : Dev nD) (t : Fin cfg0.N) : iblk m c 19 t (ix1 0) = (m ((c : Thread nD τ).loc main_arg19)) (ix1 0) := by
  blk_point [iblk, V, idx t]

theorem b20 (c : Dev nD) (t : Fin cfg0.N) : iblk m c 20 t (ix1 0) = (m ((c : Thread nD τ).loc main_arg20)) (ix1 0) := by
  blk_point [iblk, V, idx t]

theorem b21 (c : Dev nD) (t : Fin cfg0.N) : iblk m c 21 t (ix1 0) = (m ((c : Thread nD τ).loc main_arg21)) (ix1 0) := by
  blk_point [iblk, V, idx t]

theorem rowX (c : Dev nD) (t : Fin cfg0.N) (p : Fin 256) (p' : Fin 1024) (h : (p' : ℕ) = t.val * 256 + p.val) :
    RowsX.H2 (iblk m c 0 t) (iblk m c 2 t) (iblk m c 3 t) (iblk m c 10 t) (iblk m c 11 t) (iblk m c 18 t) (iblk m c 4 t) (iblk m c 5 t) (iblk m c 12 t) (iblk m c 13 t) (iblk m c 19 t) p
      = KX (m ((c : Thread nD τ).loc main_arg0)) (m ((c : Thread nD τ).loc main_arg2)) (m ((c : Thread nD τ).loc main_arg3)) (m ((c : Thread nD τ).loc main_arg10)) (m ((c : Thread nD τ).loc main_arg11)) (m ((c : Thread nD τ).loc main_arg18)) (m ((c : Thread nD τ).loc main_arg4)) (m ((c : Thread nD τ).loc main_arg5)) (m ((c : Thread nD τ).loc main_arg12)) (m ((c : Thread nD τ).loc main_arg13)) (m ((c : Thread nD τ).loc main_arg19)) p' := by
  unfold RowsX.H2 RowsX.Y2 RowsX.H1 RowsX.Y1 KX
  rw [b0 m c t p p' h, b2, b3, b10, b11, b18, b4, b5, b12, b13, b19]

theorem rowL (c : Dev nD) (t : Fin cfg0.N) (p : Fin 256) (p' : Fin 1024) (h : (p' : ℕ) = t.val * 256 + p.val) :
    RowsL.H2 (iblk m c 1 t) (iblk m c 6 t) (iblk m c 7 t) (iblk m c 14 t) (iblk m c 15 t) (iblk m c 20 t) (iblk m c 8 t) (iblk m c 9 t) (iblk m c 16 t) (iblk m c 17 t) (iblk m c 21 t) p
      = KL (m ((c : Thread nD τ).loc main_arg1)) (m ((c : Thread nD τ).loc main_arg6)) (m ((c : Thread nD τ).loc main_arg7)) (m ((c : Thread nD τ).loc main_arg14)) (m ((c : Thread nD τ).loc main_arg15)) (m ((c : Thread nD τ).loc main_arg20)) (m ((c : Thread nD τ).loc main_arg8)) (m ((c : Thread nD τ).loc main_arg9)) (m ((c : Thread nD τ).loc main_arg16)) (m ((c : Thread nD τ).loc main_arg17)) (m ((c : Thread nD τ).loc main_arg21)) p' := by
  unfold RowsL.H2 RowsL.Y2 RowsL.H1 RowsL.Y1 KL
  rw [b1 m c t p p' h, b6, b7, b14, b15, b20, b8, b9, b16, b17, b21]

/-- The result array after the run. -/
theorem final22 (c : Dev nD) : (dats m 0 c).arrAt 22 (cfgs 0).N = fun j =>
    side (KX (m ((c : Thread nD τ).loc main_arg0)) (m ((c : Thread nD τ).loc main_arg2)) (m ((c : Thread nD τ).loc main_arg3)) (m ((c : Thread nD τ).loc main_arg10)) (m ((c : Thread nD τ).loc main_arg11)) (m ((c : Thread nD τ).loc main_arg18)) (m ((c : Thread nD τ).loc main_arg4)) (m ((c : Thread nD τ).loc main_arg5)) (m ((c : Thread nD τ).loc main_arg12)) (m ((c : Thread nD τ).loc main_arg13)) (m ((c : Thread nD τ).loc main_arg19)) (j 0))
      (KL (m ((c : Thread nD τ).loc main_arg1)) (m ((c : Thread nD τ).loc main_arg6)) (m ((c : Thread nD τ).loc main_arg7)) (m ((c : Thread nD τ).loc main_arg14)) (m ((c : Thread nD τ).loc main_arg15)) (m ((c : Thread nD τ).loc main_arg20)) (m ((c : Thread nD τ).loc main_arg8)) (m ((c : Thread nD τ).loc main_arg9)) (m ((c : Thread nD τ).loc main_arg16)) (m ((c : Thread nD τ).loc main_arg17)) (m ((c : Thread nD τ).loc main_arg21)) (j 0)) (j 1) := by
  refine (dats m 0 c).arrAt_eq_of_covers 22 _ (by decide +kernel) fun t hf y => ?_
  blk_simp
  rw [after0_22]
  unfold outsAt0
  rw [out_at]
  have h0 : ((((cfg0.win 22).blk t).view.emb y) 0 : ℕ) = t.val * 256 + (y 0).val := by blk_simp [idx t]
  have h1 : ((((cfg0.win 22).blk t).view.emb y) 1 : ℕ) = (y 1).val := by blk_simp [idx t]
  have e1 : (((cfg0.win 22).blk t).view.emb y) 1 = y 1 := Fin.ext h1
  rw [rowX m c t (y 0) _ h0, rowL m c t (y 0) _ h0]
  exact congrArg (side _ _) e1.symm

end Cert.ProjIdeal.Final

end
-- ==== Proof.ProjJoin.lean ====
/- The projections' reference result, and its equality with the kernel's rows on real data. -/
module

public import proofs.«01_k».proof.Proof.ProjRef
public import proofs.«01_k».proof.Proof.ProjFinal

@[expose] public section

set_option maxRecDepth 16384

noncomputable section

namespace Cert.ProjReferenceIdeal.Rows

open Cert.ProjReferenceIdeal Cert.ProjReferenceIdeal.Gen Cert.ProjReferenceIdeal.Value
open Cert.ProjMath Idealize.ShloMosaic Idealize.ShloMosaic.Tactic Cert.ProjIdeal.Out

variable (V0 : Valuation τ sig (Elt Ideal))

/-- The reference's result: the nine channels laid side by side. -/
theorem join_at : (shapeCast S1024x2304 (concatenate S1024x9x256 1 [⟨S1024x6x256, (select (cmpf .ogt (res_main_v67 V0) (broadcastInDim S1024x6x256 ![] bcast_S_S1024x6x256 (constant S_ .f32 0x00000000#32))) (res_main_v67 V0) (mulf (broadcastInDim S1024x6x256 ![0, 1, 2] bcast_S1x1x1_S1024x6x256_0_1_2 (broadcastInDim S1x1x1 ![2] bcast_S1_S1x1x1_2 (V0 (Proc.devRef .tc main_arg19)))) (res_main_v67 V0)))⟩, ⟨S1024x3x256, (select (cmpf .ogt (res_main_v141 V0) (broadcastInDim S1024x3x256 ![] bcast_S_S1024x3x256 (constant S_ .f32 0x00000000#32))) (res_main_v141 V0) (mulf (broadcastInDim S1024x3x256 ![0, 1, 2] bcast_S1x1x1_S1024x3x256_0_1_2 (broadcastInDim S1x1x1 ![2] bcast_S1_S1x1x1_2 (V0 (Proc.devRef .tc main_arg21)))) (res_main_v141 V0)))⟩] concatenates_S1024x6x256_S1024x3x256_S1024x9x256_d1) shapeCasts_S1024x9x256_S1024x2304 : FVec Ideal S1024x2304 .f32)
    = fun j => side (H2X V0 (j 0)) (H2L V0 (j 0)) (j 1) := by
  funext j
  obtain ⟨p, q, rfl⟩ : ∃ (p : Fin 1024) (q : Fin 2304), j = ix2 p q := ⟨j 0, j 1, eq_ix2 j⟩
  pointwise
  simp only [n2X, n2L, prelu_open]
  unfold side
  by_cases h : (q : ℕ) < 1536
  · rw [dif_pos h, dif_pos (by show q.val / 256 < 6; omega)]
    rfl
  · rw [dif_neg h, dif_neg (by show ¬ q.val / 256 < 6; omega)]
    rfl

/-- The kernel's feature branch is the reference's. -/
theorem feature_eq (a0 : FVec Ideal S1024x6x256 .f32) (a2 : FVec Ideal S6x256x256 .f32) (a3 : FVec Ideal S6x256 .f32) (a10 : FVec Ideal S6x256 .f32) (a11 : FVec Ideal S6x256 .f32) (a18 : FVec Ideal S1 .f32) (a4 : FVec Ideal S6x256x256 .f32) (a5 : FVec Ideal S6x256 .f32) (a12 : FVec Ideal S6x256 .f32) (a13 : FVec Ideal S6x256 .f32) (a19 : FVec Ideal S1 .f32) (p : Fin 1024)
    (h0 : ∀ i, IsReal (a0 i)) (h2 : ∀ i, IsReal (a2 i)) (h3 : ∀ i, IsReal (a3 i)) (h4 : ∀ i, IsReal (a4 i)) (h5 : ∀ i, IsReal (a5 i))
    (h10 : ∀ i, IsReal (a10 i)) (h11 : ∀ i, IsReal (a11 i)) (h18 : ∀ i, IsReal (a18 i)) :
    Cert.ProjIdeal.Final.KX a0 a2 a3 a10 a11 a18 a4 a5 a12 a13 a19 p
      = layerR ((1536 : ℝ) : EReal) (linear (layerR ((1536 : ℝ) : EReal) (linear (mat3 a0 p) (mat3 a2) (mat2 a3)) (mat2 a10) (mat2 a11) (a18 (ix1 0)))
        (mat3 a4) (mat2 a5)) (mat2 a12) (mat2 a13) (a19 (ix1 0)) :=
  proj_eq 1536 (by norm_num) (by norm_num) _ _ _ _ _ _ _ _ _ _ _ (fun _ _ => h0 _) (fun _ _ _ => h2 _) (fun _ _ => h3 _) (fun _ _ => h10 _)
    (fun _ _ => h11 _) (h18 _) (fun _ _ _ => h4 _) (fun _ _ => h5 _)

/-- The kernel's label branch is the reference's. -/
theorem label_eq (a1 : FVec Ideal S1024x3x349 .f32) (a6 : FVec Ideal S3x349x256 .f32) (a7 : FVec Ideal S3x256 .f32) (a14 : FVec Ideal S3x256 .f32) (a15 : FVec Ideal S3x256 .f32) (a20 : FVec Ideal S1 .f32) (a8 : FVec Ideal S3x256x256 .f32) (a9 : FVec Ideal S3x256 .f32) (a16 : FVec Ideal S3x256 .f32) (a17 : FVec Ideal S3x256 .f32) (a21 : FVec Ideal S1 .f32) (p : Fin 1024)
    (h1 : ∀ i, IsReal (a1 i)) (h6 : ∀ i, IsReal (a6 i)) (h7 : ∀ i, IsReal (a7 i)) (h8 : ∀ i, IsReal (a8 i)) (h9 : ∀ i, IsReal (a9 i))
    (h14 : ∀ i, IsReal (a14 i)) (h15 : ∀ i, IsReal (a15 i)) (h20 : ∀ i, IsReal (a20 i)) :
    Cert.ProjIdeal.Final.KL a1 a6 a7 a14 a15 a20 a8 a9 a16 a17 a21 p
      = layerR ((768 : ℝ) : EReal) (linear (layerR ((768 : ℝ) : EReal) (linear (mat3 a1 p) (mat3 a6) (mat2 a7)) (mat2 a14) (mat2 a15) (a20 (ix1 0)))
        (mat3 a8) (mat2 a9)) (mat2 a16) (mat2 a17) (a21 (ix1 0)) :=
  proj_eq 768 (by norm_num) (by norm_num) _ _ _ _ _ _ _ _ _ _ _ (fun _ _ => h1 _) (fun _ _ _ => h6 _) (fun _ _ => h7 _) (fun _ _ => h14 _)
    (fun _ _ => h15 _) (h20 _) (fun _ _ _ => h8 _) (fun _ _ => h9 _)

/-- On real data the reference's rows are the kernel's rows, read from the same arrays. -/
theorem rows_eq (a0 : FVec Ideal S1024x6x256 .f32) (a1 : FVec Ideal S1024x3x349 .f32) (a2 : FVec Ideal S6x256x256 .f32) (a3 : FVec Ideal S6x256 .f32) (a4 : FVec Ideal S6x256x256 .f32) (a5 : FVec Ideal S6x256 .f32) (a6 : FVec Ideal S3x349x256 .f32) (a7 : FVec Ideal S3x256 .f32) (a8 : FVec Ideal S3x256x256 .f32) (a9 : FVec Ideal S3x256 .f32) (a10 : FVec Ideal S6x256 .f32) (a11 : FVec Ideal S6x256 .f32) (a12 : FVec Ideal S6x256 .f32) (a13 : FVec Ideal S6x256 .f32) (a14 : FVec Ideal S3x256 .f32) (a15 : FVec Ideal S3x256 .f32) (a16 : FVec Ideal S3x256 .f32) (a17 : FVec Ideal S3x256 .f32) (a18 : FVec Ideal S1 .f32) (a19 : FVec Ideal S1 .f32) (a20 : FVec Ideal S1 .f32) (a21 : FVec Ideal S1 .f32)
    (e0 : V0 (Proc.devRef .tc main_arg0) = a0) (e1 : V0 (Proc.devRef .tc main_arg1) = a1) (e2 : V0 (Proc.devRef .tc main_arg2) = a2) (e3 : V0 (Proc.devRef .tc main_arg3) = a3) (e4 : V0 (Proc.devRef .tc main_arg4) = a4) (e5 : V0 (Proc.devRef .tc main_arg5) = a5) (e6 : V0 (Proc.devRef .tc main_arg6) = a6) (e7 : V0 (Proc.devRef .tc main_arg7) = a7) (e8 : V0 (Proc.devRef .tc main_arg8) = a8) (e9 : V0 (Proc.devRef .tc main_arg9) = a9) (e10 : V0 (Proc.devRef .tc main_arg10) = a10) (e11 : V0 (Proc.devRef .tc main_arg11) = a11) (e12 : V0 (Proc.devRef .tc main_arg12) = a12) (e13 : V0 (Proc.devRef .tc main_arg13) = a13) (e14 : V0 (Proc.devRef .tc main_arg14) = a14) (e15 : V0 (Proc.devRef .tc main_arg15) = a15) (e16 : V0 (Proc.devRef .tc main_arg16) = a16) (e17 : V0 (Proc.devRef .tc main_arg17) = a17) (e18 : V0 (Proc.devRef .tc main_arg18) = a18) (e19 : V0 (Proc.devRef .tc main_arg19) = a19) (e20 : V0 (Proc.devRef .tc main_arg20) = a20) (e21 : V0 (Proc.devRef .tc main_arg21) = a21)
    (hX : (∀ i, IsReal (a0 i)) ∧ (∀ i, IsReal (a2 i)) ∧ (∀ i, IsReal (a3 i)) ∧ (∀ i, IsReal (a4 i)) ∧ (∀ i, IsReal (a5 i))
      ∧ (∀ i, IsReal (a10 i)) ∧ (∀ i, IsReal (a11 i)) ∧ (∀ i, IsReal (a18 i)))
    (hL : (∀ i, IsReal (a1 i)) ∧ (∀ i, IsReal (a6 i)) ∧ (∀ i, IsReal (a7 i)) ∧ (∀ i, IsReal (a8 i)) ∧ (∀ i, IsReal (a9 i))
      ∧ (∀ i, IsReal (a14 i)) ∧ (∀ i, IsReal (a15 i)) ∧ (∀ i, IsReal (a20 i))) :
    (fun j : S1024x2304.Idx => side (H2X V0 (j 0)) (H2L V0 (j 0)) (j 1))
      = fun j : S1024x2304.Idx => side (Cert.ProjIdeal.Final.KX a0 a2 a3 a10 a11 a18 a4 a5 a12 a13 a19 (j 0))
        (Cert.ProjIdeal.Final.KL a1 a6 a7 a14 a15 a20 a8 a9 a16 a17 a21 (j 0)) (j 1) := by
  obtain ⟨r0, r2, r3, r4, r5, r10, r11, r18⟩ := hX
  obtain ⟨r1, r6, r7, r8, r9, r14, r15, r20⟩ := hL
  funext j
  rw [feature_eq _ _ _ _ _ _ _ _ _ _ _ (j 0) r0 r2 r3 r4 r5 r10 r11 r18, label_eq _ _ _ _ _ _ _ _ _ _ _ (j 0) r1 r6 r7 r8 r9 r14 r15 r20]
  unfold H2X H2L Y2X Y2L H1X H1L Y1X Y1L
  rw [e0, e1, e2, e3, e4, e5, e6, e7, e8, e9, e10, e11, e12, e13, e14, e15, e16, e17, e18, e19, e20, e21]

end Cert.ProjReferenceIdeal.Rows

end
-- ==== Proof.ProjPre.lean ====
/- The precondition of the projection kernel read at an entry: every array it tests is finite throughout. -/
module

public import proofs.«01_k».proof.Pre_usable
public import proofs.«01_k».proof.Proof.ProjMath
public import Idealize.ShloMosaic.Lib.ReduceAll
public import Idealize.ShloMosaic.Lib.Pipeline.ValueKit

@[expose] public section

set_option maxRecDepth 16384

noncomputable section

namespace Cert.ProjPre

open Cert.Pre_usable Cert.ProjMath Idealize.ShloMosaic Idealize.ShloMosaic.Tactic

instance : Subsingleton S_.Idx := ⟨fun a b => funext fun i => i.elim0⟩

theorem facts : Cert.Pre_usable.Facts := by
  constructor <;> decide

/-- The word of the test's bound is the top of the extended reals. -/
theorem ofBits_inf : Ideal.ofBits .f32 2139095040#32 = ⊤ := by simp [Ideal.ofBits, Ideal.ieee]

/-- A value whose absolute value is below the top is real. -/
theorem isReal_of_abs (a : EReal) (h : max a (-a) < ⊤) : IsReal a := by
  induction a using EReal.rec with
  | bot => simp at h
  | top => simp at h
  | coe r => exact ⟨r, rfl⟩

/-- The test's comparison at an entry. -/
theorem cmp_at {s : Shape} (a : FVec Ideal s .f32) (hb : S_.BroadcastsInDim s ![]) (i : s.Idx)
    (h : cmpf .olt (Host.absf a) (broadcastInDim s ![] hb (constant (F := Ideal) S_ .f32 0x7F800000#32)) i = 1#1) : IsReal (a i) := by
  have e : cmpf .olt (Host.absf a) (broadcastInDim s ![] hb (constant (F := Ideal) S_ .f32 0x7F800000#32)) i
      = BitVec.ofBool (decide (FloatOps.absf (a i) < Ideal.ofBits .f32 2139095040#32)) := by pointwise
  rw [e, ofBits_inf] at h
  refine isReal_of_abs (a i) ?_
  by_contra hn
  rw [show decide (FloatOps.absf (a i) < (⊤ : EReal)) = false from decide_eq_false hn] at h
  exact absurd h (by decide)

/-- The test of one array, reduced over all its entries. -/
theorem all_at {s : Shape} {dims : List (Fin s.rank)} (a : FVec Ideal s .f32) (hb : S_.BroadcastsInDim s ![]) (hr : s.ReducesTo dims S_)
    (hu : 0 < S_.numel) (j : S_.Idx)
    (h : Host.reduce IntOp.andi (cmpf .olt (Host.absf a) (broadcastInDim s ![] hb (constant (F := Ideal) S_ .f32 0x7F800000#32)))
      (constantI S_ 1 1#1) hr hu j = 1#1) (i : s.Idx) : IsReal (a i) :=
  cmp_at a hb i (Host.reduce_andi_all _ _ _ _ j h i)

theorem and_at (a b : IVec S_ 1) (j : S_.Idx) (h : andi a b j = 1#1) : a j = 1#1 ∧ b j = 1#1 := IntOp.andi_eq_one.1 h

attribute [local instance] facts

/-- The precondition says that all the arrays it tests have real entries. -/
theorem reals (a0 : FVec Ideal S1024x6x256 .f32) (a1 : FVec Ideal S1024x3x349 .f32) (a2 : FVec Ideal S6x256x256 .f32)
    (a3 : FVec Ideal S6x256 .f32) (a4 : FVec Ideal S6x256x256 .f32) (a5 : FVec Ideal S6x256 .f32) (a6 : FVec Ideal S3x349x256 .f32)
    (a7 : FVec Ideal S3x256 .f32) (a8 : FVec Ideal S3x256x256 .f32) (a9 : FVec Ideal S3x256 .f32) (a10 a11 a12 a13 : FVec Ideal S6x256 .f32)
    (a14 a15 a16 a17 : FVec Ideal S3x256 .f32) (a18 a19 a20 a21 : FVec Ideal S1 .f32) (j : S_.Idx)
    (h : Cert.Pre_usable.fn (F := Ideal) a0 a1 a2 a3 a4 a5 a6 a7 a8 a9 a10 a11 a12 a13 a14 a15 a16 a17 a18 a19 a20 a21 j = 1#1) :
    ((∀ i, IsReal (a0 i)) ∧ (∀ i, IsReal (a2 i)) ∧ (∀ i, IsReal (a3 i)) ∧ (∀ i, IsReal (a4 i)) ∧ (∀ i, IsReal (a5 i))
      ∧ (∀ i, IsReal (a10 i)) ∧ (∀ i, IsReal (a11 i)) ∧ (∀ i, IsReal (a18 i)))
    ∧ ((∀ i, IsReal (a1 i)) ∧ (∀ i, IsReal (a6 i)) ∧ (∀ i, IsReal (a7 i)) ∧ (∀ i, IsReal (a8 i)) ∧ (∀ i, IsReal (a9 i))
      ∧ (∀ i, IsReal (a14 i)) ∧ (∀ i, IsReal (a15 i)) ∧ (∀ i, IsReal (a20 i))) := by
  unfold Cert.Pre_usable.fn fn_part1 fn_part2 fn_part3 fn_part4 at h
  dsimp only at h
  obtain ⟨h, q20⟩ := and_at _ _ j h
  obtain ⟨h, q18⟩ := and_at _ _ j h
  obtain ⟨h, q15⟩ := and_at _ _ j h
  obtain ⟨h, q14⟩ := and_at _ _ j h
  obtain ⟨h, q11⟩ := and_at _ _ j h
  obtain ⟨h, q10⟩ := and_at _ _ j h
  obtain ⟨h, q9⟩ := and_at _ _ j h
  obtain ⟨h, q8⟩ := and_at _ _ j h
  obtain ⟨h, q7⟩ := and_at _ _ j h
  obtain ⟨h, q6⟩ := and_at _ _ j h
  obtain ⟨h, q5⟩ := and_at _ _ j h
  obtain ⟨h, q4⟩ := and_at _ _ j h
  obtain ⟨h, q3⟩ := and_at _ _ j h
  obtain ⟨h, q2⟩ := and_at _ _ j h
  obtain ⟨q0, q1⟩ := and_at _ _ j h
  exact ⟨⟨all_at a0 _ _ _ j q0, all_at a2 _ _ _ j q2, all_at a3 _ _ _ j q3, all_at a4 _ _ _ j q4, all_at a5 _ _ _ j q5,
      all_at a10 _ _ _ j q10, all_at a11 _ _ _ j q11, all_at a18 _ _ _ j q18⟩,
    ⟨all_at a1 _ _ _ j q1, all_at a6 _ _ _ j q6, all_at a7 _ _ _ j q7, all_at a8 _ _ _ j q8, all_at a9 _ _ _ j q9,
      all_at a14 _ _ _ j q14, all_at a15 _ _ _ j q15, all_at a20 _ _ _ j q20⟩⟩

end Cert.ProjPre

end
-- ==== Proof.AttnMath.lean ====
/- The mathematics of the attention step over the extended reals, once as the kernel computes it (unscaled products, the
   reciprocal norms multiplied on afterwards, a softmax by the reciprocal of its sum) and once as the reference writes it.
   They agree on real entries. -/
module

public import proofs.«01_k».proof.Proof.ProjMath

@[expose] public section

noncomputable section

namespace Cert.AttnMath

open Idealize.ShloMosaic Cert.ProjMath

/-- The greatest of nine scores. -/
def top (s : Fin 9 → EReal) : EReal := Finset.univ.fold max ⊥ s

/-- A rectified score of the kernel. -/
def scoreK (t : EReal) (f : Fin 9 → Fin 32 → EReal) (g : Fin 32 → EReal) (c : Fin 9) : EReal := max ((∑ o, f c o * g o) * t) 0

/-- The kernel's softmax. -/
def softK (s : Fin 9 → EReal) (c : Fin 9) : EReal := Ideal.exp (s c - top s) * Ideal.div 1 (∑ x, Ideal.exp (s x - top s))

/-- The reference's softmax. -/
def softR (s : Fin 9 → EReal) (c : Fin 9) : EReal := Ideal.div (Ideal.exp (s c - top s)) (∑ x, Ideal.exp (s x - top s))

/-- One entry of the kernel's output channel. -/
def outK (γ ι t : EReal) (f : Fin 9 → Fin 32 → EReal) (g : Fin 32 → EReal) (v : Fin 9 → EReal) (z : EReal) : EReal :=
  γ * ι * (∑ c, softK (scoreK t f g) c * v c) + z

/-- A row of 2304 entries as nine channels. -/
def chn (x : Fin 2304 → EReal) (c : Fin 9) (k : Fin 256) : EReal := x ⟨c.val * 256 + k.val, by omega⟩

/-- The product of two rows. -/
def prod {n : ℕ} (x w : Fin n → EReal) : EReal := ∑ k, x k * w k

/-- Entry `q` of channel `d` of a sample with channels `z`, as the kernel computes it. -/
def rowK (γ ι t : EReal) (z : Fin 9 → Fin 256 → EReal) (wq wk : Fin 32 → Fin 256 → EReal) (wv : Fin 256 → Fin 256 → EReal)
    (d : Fin 9) (q : Fin 256) : EReal :=
  outK γ ι t (fun c o => prod (z c) (wq o)) (fun o => prod (z d) (wk o)) (fun c => prod (z c) (wv q)) (z d q)

/-- A rectified score of the reference. -/
def scoreR (f : Fin 9 → Fin 32 → EReal) (g : Fin 32 → EReal) (c : Fin 9) : EReal := max (∑ o, f c o * g o) 0

/-- Entry `q` of channel `d` of a sample with channels `z`, as the reference writes it. -/
def rowR (γ ι iq ik : EReal) (z : Fin 9 → Fin 256 → EReal) (wq wk : Fin 32 → Fin 256 → EReal) (wv : Fin 256 → Fin 256 → EReal)
    (d : Fin 9) (q : Fin 256) : EReal :=
  γ * (∑ c, prod (z c) (fun k => wv q k * ι)
    * softR (scoreR (fun c o => prod (z c) fun k => wq o k * iq) (fun o => prod (z d) fun k => wk o k * ik)) c) + z d q

theorem prod_real {n : ℕ} {x w : Fin n → EReal} (hx : ∀ k, IsReal (x k)) (hw : ∀ k, IsReal (w k)) : IsReal (prod x w) :=
  IsReal.sum _ fun k => (hx k).mul (hw k)

/-- Over the reals a factor comes out of a sum. -/
theorem sum_scale {ι : Type} (s : Finset ι) (f : ι → EReal) (a : EReal) (hf : ∀ k, IsReal (f k)) (ha : IsReal a) :
    ∑ k ∈ s, f k * a = (∑ k ∈ s, f k) * a := by
  choose g hg using hf
  obtain ⟨r, rfl⟩ := ha
  simp only [hg, ← EReal.coe_mul, ← coe_sum, Finset.sum_mul]

theorem prod_scale {n : ℕ} {x w : Fin n → EReal} {a : EReal} (hx : ∀ k, IsReal (x k)) (hw : ∀ k, IsReal (w k)) (ha : IsReal a) :
    prod x (fun k => w k * a) = prod x w * a := by
  unfold prod
  rw [← sum_scale _ _ _ (fun k => (hx k).mul (hw k)) ha]
  exact Finset.sum_congr rfl fun k _ => (mul_assoc _ _ _).symm

theorem IsReal.max {x y : EReal} (hx : IsReal x) (hy : IsReal y) : IsReal (max x y) := by
  rcases max_choice x y with h | h <;> rw [h] <;> assumption

/-- The greatest of nine real scores is real. -/
theorem top_real {s : Fin 9 → EReal} (hs : ∀ c, IsReal (s c)) : IsReal (top s) := by
  have h1 : top s < ⊤ := Finset.fold_max_lt _ |>.2 ⟨bot_lt_top, fun c _ => by obtain ⟨r, h⟩ := hs c; rw [h]; exact EReal.coe_lt_top r⟩
  have h2 : ⊥ < top s := lt_of_lt_of_le (by obtain ⟨r, h⟩ := hs 0; rw [h]; exact EReal.bot_lt_coe r)
    (Finset.le_fold_max _ |>.2 (Or.inr ⟨0, Finset.mem_univ _, le_refl _⟩))
  generalize top s = t at h1 h2
  induction t using EReal.rec with
  | bot => exact absurd h2 (lt_irrefl _)
  | top => exact absurd h1 (lt_irrefl _)
  | coe r => exact ⟨r, rfl⟩

/-- On real scores the two softmaxes agree, and their weights are real. -/
theorem soft_eq {s : Fin 9 → EReal} (hs : ∀ c, IsReal (s c)) (c : Fin 9) : softK s c = softR s c ∧ IsReal (softK s c) := by
  obtain ⟨t, ht⟩ := top_real hs
  choose r hr using hs
  have he : ∀ x, Ideal.exp (s x - top s) = ((Real.exp (r x - t) : ℝ) : EReal) := fun x => by rw [ht, hr x, ← EReal.coe_sub]; rfl
  have h0 : (∑ x : Fin 9, Real.exp (r x - t)) ≠ 0 := (Finset.sum_pos (fun x _ => Real.exp_pos _) Finset.univ_nonempty).ne'
  unfold softK softR
  simp only [he, ← coe_sum]
  rw [Ideal.div_coe h0, Ideal.div_coe h0, one_mul]
  exact ⟨rfl, IsReal.mul ⟨_, rfl⟩ ⟨_, rfl⟩⟩

/-- On real samples, weights and reciprocal norms the kernel's entry is the reference's, whatever `γ`. -/
theorem row_eq (γ : EReal) {ι iq ik : EReal} {z : Fin 9 → Fin 256 → EReal} {wq wk : Fin 32 → Fin 256 → EReal} {wv : Fin 256 → Fin 256 → EReal}
    (hι : IsReal ι) (hiq : IsReal iq) (hik : IsReal ik) (hz : ∀ c k, IsReal (z c k)) (hwq : ∀ o k, IsReal (wq o k)) (hwk : ∀ o k, IsReal (wk o k))
    (hwv : ∀ o k, IsReal (wv o k)) (d : Fin 9) (q : Fin 256) :
    rowK γ ι (iq * ik) z wq wk wv d q = rowR γ ι iq ik z wq wk wv d q := by
  have hF : ∀ c o, IsReal (prod (z c) (wq o)) := fun c o => prod_real (hz c) (hwq o)
  have hG : ∀ o, IsReal (prod (z d) (wk o)) := fun o => prod_real (hz d) (hwk o)
  have hV : ∀ c, IsReal (prod (z c) (wv q)) := fun c => prod_real (hz c) (hwv q)
  have hs : scoreR (fun c o => prod (z c) fun k => wq o k * iq) (fun o => prod (z d) fun k => wk o k * ik)
      = scoreK (iq * ik) (fun c o => prod (z c) (wq o)) (fun o => prod (z d) (wk o)) := funext fun c => by
    unfold scoreR scoreK
    rw [← sum_scale _ _ _ (fun o => (hF c o).mul (hG o)) (hiq.mul hik)]
    exact congrArg (fun a => max a 0) (Finset.sum_congr rfl fun o _ => by
      dsimp only
      rw [prod_scale (hz c) (hwq o) hiq, prod_scale (hz d) (hwk o) hik, mul_mul_mul_comm])
  have hsR : ∀ c, IsReal (scoreK (iq * ik) (fun c o => prod (z c) (wq o)) (fun o => prod (z d) (wk o)) c) := fun c =>
    IsReal.max ((IsReal.sum _ fun o => (hF c o).mul (hG o)).mul (hiq.mul hik)) ⟨0, rfl⟩
  unfold rowK rowR outK
  rw [hs]
  have e : (∑ c, prod (z c) (fun k => wv q k * ι) * softR (scoreK (iq * ik) (fun c o => prod (z c) (wq o)) (fun o => prod (z d) (wk o))) c)
      = ι * ∑ c, softK (scoreK (iq * ik) (fun c o => prod (z c) (wq o)) (fun o => prod (z d) (wk o))) c * prod (z c) (wv q) := by
    rw [mul_comm ι, ← sum_scale _ _ _ (fun c => ((soft_eq hsR c).2).mul (hV c)) hι]
    refine Finset.sum_congr rfl fun c _ => ?_
    rw [← (soft_eq hsR c).1, prod_scale (hz c) (hwv q) hι, mul_comm, mul_assoc]
  rw [e, mul_assoc]

/-- Column `j` of the nine channels laid side by side. -/
def side (f : Fin 9 → Fin 256 → EReal) (j : Fin 2304) : EReal := f ⟨j.val / 256, by omega⟩ ⟨j.val % 256, by omega⟩

theorem side_at (f : Fin 9 → Fin 256 → EReal) (j : Fin 2304) (d : Fin 9) (q : Fin 256) (h : (j : ℕ) = d.val * 256 + q.val) :
    side f j = f d q :=
  congrArg₂ f (Fin.ext (by show j.val / 256 = d.val; omega)) (Fin.ext (by show j.val % 256 = q.val; omega))

end Cert.AttnMath

end
-- ==== Proof.AttnRef.lean ====
/- The attention's reference in named steps, and what its result holds at an index. -/
module

public import proofs.«01_k».proof.Proof.Gen.AttnReferenceIdeal.Run
public import proofs.«01_k».proof.Proof.AttnMath
public import Idealize.ShloMosaic.Lib.Pipeline.ValueKit

@[expose] public section

set_option maxRecDepth 16384

noncomputable section

namespace Cert.AttnReferenceIdeal.Rows

open Cert.AttnReferenceIdeal Cert.AttnReferenceIdeal.Gen Cert.AttnReferenceIdeal.Value
open Cert.AttnMath Cert.ProjMath Idealize.ShloMosaic Idealize.ShloMosaic.Tactic

/-- The samples with channels last. -/
def zt (a0 : FVec Ideal S1024x2304 .f32) : FVec Ideal S1024x256x9 .f32 :=
  transpose S1024x256x9 [0, 2, 1] (shapeCast S1024x9x256 a0 shapeCasts_S1024x2304_S1024x9x256) transposes_S1024x9x256_S1024x256x9_0_2_1

/-- The queries, and likewise the keys. -/
def fq (z : FVec Ideal S1024x256x9 .f32) (w : FVec Ideal S32x256 .f32) (i : FVec Ideal S1 .f32) : FVec Ideal S1024x32x9 .f32 :=
  transpose S1024x32x9 [0, 2, 1] (Host.dotGeneral dot_S1024x256x9_S32x256_S1024x9x32_1_1_02_0_n_n none z
    (mulf w (broadcastInDim S32x256 ![0, 1] bcast_S1x1_S32x256_0_1 (broadcastInDim S1x1 ![1] bcast_S1_S1x1_1 i)))) transposes_S1024x9x32_S1024x32x9_0_2_1

/-- The values. -/
def vals (z : FVec Ideal S1024x256x9 .f32) (w : FVec Ideal S256x256 .f32) (i : FVec Ideal S1 .f32) : FVec Ideal S1024x256x9 .f32 :=
  transpose S1024x256x9 [0, 2, 1] (Host.dotGeneral dot_S1024x256x9_S256x256_S1024x9x256_1_1_02_0_n_n none z
    (mulf w (broadcastInDim S256x256 ![0, 1] bcast_S1x1_S256x256_0_1 (broadcastInDim S1x1 ![1] bcast_S1_S1x1_1 i)))) transposes_S1024x9x256_S1024x256x9_0_2_1

/-- The rectified scores. -/
def scores (f g : FVec Ideal S1024x32x9 .f32) : FVec Ideal S1024x9x9 .f32 :=
  maximumf (Host.dotGeneral dot_S1024x32x9_S1024x32x9_S1024x9x9_1_1_2_2_0_0 none f g) (broadcastInDim S1024x9x9 ![] bcast_S_S1024x9x9 (constant S_ .f32 0x00000000#32))

/-- The exponentials of the scores less their greatest. -/
def expo (s : FVec Ideal S1024x9x9 .f32) : FVec Ideal S1024x9x9 .f32 :=
  Host.exp (subf s (broadcastInDim S1024x9x9 ![0, 1, 2] bcast_S1024x1x9_S1024x9x9_0_1_2 (broadcastInDim S1024x1x9 ![0, 2] bcast_S1024x9_S1024x1x9_0_2
    (maximumf (broadcastInDim S1024x9 ![] bcast_S_S1024x9 (constant S_ .f32 0xFF800000#32))
      (Host.reduce FloatOps.maximumf s (constant S_ .f32 0xFF800000#32) reducesTo_S1024x9x9_S1024x9_d1 h_S_)))))

/-- The weights. -/
def weights (e : FVec Ideal S1024x9x9 .f32) : FVec Ideal S1024x9x9 .f32 :=
  Host.divf e (broadcastInDim S1024x9x9 ![0, 1, 2] bcast_S1024x1x9_S1024x9x9_0_1_2 (broadcastInDim S1024x1x9 ![0, 2] bcast_S1024x9_S1024x1x9_0_2
    (Host.reduceAdd e (constant S_ .f32 0x00000000#32) reducesTo_S1024x9x9_S1024x9_d1 h_S_)))

/-- The result from the samples, the values and the weights. -/
def joined (γ : FVec Ideal S1 .f32) (z v : FVec Ideal S1024x256x9 .f32) (b : FVec Ideal S1024x9x9 .f32) : FVec Ideal S1024x2304 .f32 :=
  shapeCast S1024x2304 (transpose S1024x9x256 [0, 2, 1] (addf (mulf (broadcastInDim S1024x256x9 ![0, 1, 2] bcast_S1x1x1_S1024x256x9_0_1_2
    (broadcastInDim S1x1x1 ![2] bcast_S1_S1x1x1_2 γ)) (Host.dotGeneral dot_S1024x256x9_S1024x9x9_S1024x256x9_2_1_1_2_0_0 none v b)) z)
    transposes_S1024x256x9_S1024x9x256_0_2_1) shapeCasts_S1024x9x256_S1024x2304

/-- The reference in one term. -/
def whole (a0 : FVec Ideal S1024x2304 .f32) (a1 : FVec Ideal S32x256 .f32) (a2 : FVec Ideal S32x256 .f32) (a3 : FVec Ideal S256x256 .f32) (a4 : FVec Ideal S1 .f32) (a5 : FVec Ideal S1 .f32) (a6 : FVec Ideal S1 .f32) (a7 : FVec Ideal S1 .f32) : FVec Ideal S1024x2304 .f32 :=
  joined a7 (zt a0) (vals (zt a0) a3 a6) (weights (expo (scores (fq (zt a0) a1 a4) (fq (zt a0) a2 a5))))

theorem ofBits_bot : Ideal.ofBits .f32 4286578688#32 = ⊥ := by simp [Ideal.ofBits, Ideal.ieee]

theorem zt_at (a0 : FVec Ideal S1024x2304 .f32) (p : Fin 1024) (k : Fin 256) (c : Fin 9) : zt a0 (ix3 p k c) = chn (mat2 a0 p) c k := by
  pointwise [zt]
  rfl

theorem fq_at (z : FVec Ideal S1024x256x9 .f32) (w : FVec Ideal S32x256 .f32) (i : FVec Ideal S1 .f32) (p : Fin 1024) (o : Fin 32) (c : Fin 9) :
    fq z w i (ix3 p o c) = prod (fun k => z (ix3 p k c)) (fun k => w (ix2 o k) * i (ix1 0)) := by
  pointwise [fq]
  rfl

theorem vals_at (z : FVec Ideal S1024x256x9 .f32) (w : FVec Ideal S256x256 .f32) (i : FVec Ideal S1 .f32) (p : Fin 1024) (q : Fin 256) (c : Fin 9) :
    vals z w i (ix3 p q c) = prod (fun k => z (ix3 p k c)) (fun k => w (ix2 q k) * i (ix1 0)) := by
  pointwise [vals]
  rfl

theorem scores_at (f g : FVec Ideal S1024x32x9 .f32) (p : Fin 1024) (c d : Fin 9) :
    scores f g (ix3 p c d) = max (∑ o, f (ix3 p o c) * g (ix3 p o d)) 0 := by
  pointwise [scores]

theorem expo_at (s : FVec Ideal S1024x9x9 .f32) (p : Fin 1024) (c d : Fin 9) :
    expo s (ix3 p c d) = Ideal.exp (s (ix3 p c d) - top fun x => s (ix3 p x d)) := by
  pointwise [expo]
  rw [ofBits_bot, max_eq_right bot_le]
  rfl

theorem weights_at (e : FVec Ideal S1024x9x9 .f32) (p : Fin 1024) (c d : Fin 9) :
    weights e (ix3 p c d) = Ideal.div (e (ix3 p c d)) (∑ x, e (ix3 p x d)) := by
  pointwise [weights]

theorem joined_at (γ : FVec Ideal S1 .f32) (z v : FVec Ideal S1024x256x9 .f32) (b : FVec Ideal S1024x9x9 .f32) (p : Fin 1024) (j : Fin 2304)
    (d : Fin 9) (q : Fin 256) (h : (j : ℕ) = d.val * 256 + q.val) :
    joined γ z v b (ix2 p j) = γ (ix1 0) * (∑ c, v (ix3 p q c) * b (ix3 p c d)) + z (ix3 p q d) := by
  obtain rfl : d = ⟨j.val / 256, Nat.div_lt_of_lt_mul j.isLt⟩ := Fin.ext (by show d.val = j.val / 256; omega)
  obtain rfl : q = ⟨j.val % 256, Nat.mod_lt _ (by decide)⟩ := Fin.ext (by show q.val = j.val % 256; omega)
  pointwise [joined]

/-- The reference's result at column `q` of channel `d`. -/
theorem whole_at (a0 : FVec Ideal S1024x2304 .f32) (a1 : FVec Ideal S32x256 .f32) (a2 : FVec Ideal S32x256 .f32) (a3 : FVec Ideal S256x256 .f32) (a4 : FVec Ideal S1 .f32) (a5 : FVec Ideal S1 .f32) (a6 : FVec Ideal S1 .f32) (a7 : FVec Ideal S1 .f32) (p : Fin 1024) (j : Fin 2304)
    (d : Fin 9) (q : Fin 256) (h : (j : ℕ) = d.val * 256 + q.val) :
    whole a0 a1 a2 a3 a4 a5 a6 a7 (ix2 p j)
      = rowR (a7 (ix1 0)) (a6 (ix1 0)) (a4 (ix1 0)) (a5 (ix1 0)) (chn (mat2 a0 p)) (mat2 a1) (mat2 a2) (mat2 a3) d q := by
  unfold whole
  rw [joined_at _ _ _ _ p j d q h]
  simp only [weights_at, expo_at, scores_at, fq_at, vals_at, zt_at]
  rfl

/-- The run's result is the reference in one term. -/
theorem result_eq (m : (ℓ : Loc nD τ sig) → Buf (Elt Ideal) ℓ) (c : Dev nD) :
    res_main_v36 m c = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

end Cert.AttnReferenceIdeal.Rows

end
-- ==== Proof.AttnChan.lean ====
/- The vector operations of one output channel of the attention kernel, named in the order the body performs them, and what
   each of them holds at an index. -/
module

public import proofs.«01_k».proof.Proof.Gen.AttnIdeal.Skeleton
public import proofs.«01_k».proof.Proof.AttnMath

@[expose] public section

set_option maxRecDepth 16384

noncomputable section

namespace Cert.AttnIdeal.Chan

open Cert.AttnIdeal Cert.AttnIdeal.Gen Cert.AttnMath Idealize.ShloMosaic Idealize.ShloMosaic.Tactic Idealize.ShloMosaic.TcCoe

/-- The row sums of a product, as one column. -/
def col (a b : FVec Ideal S256x32 .f32) : FVec Ideal S256x1 .f32 :=
  shapeCast S256x1 (multiReduction .add [1] S256 (mulf a b) 0x00000000#32 reduces_S256x32_S256 (.inl rfl) rfl) shapeCasts_S256_S256x1

/-- Nine columns side by side. -/
def cols (a0 a1 a2 a3 a4 a5 a6 a7 a8 : FVec Ideal S256x1 .f32) : FVec Ideal S256x9 .f32 :=
  concatenate S256x9 1 [⟨S256x1, a0⟩, ⟨S256x1, a1⟩, ⟨S256x1, a2⟩, ⟨S256x1, a3⟩, ⟨S256x1, a4⟩, ⟨S256x1, a5⟩, ⟨S256x1, a6⟩, ⟨S256x1, a7⟩, ⟨S256x1, a8⟩]
    concatenates_S256x1_S256x1_S256x1_S256x1_S256x1_S256x1_S256x1_S256x1_S256x1_S256x9_d1

/-- The scaled and rectified scores. -/
def scores (t : Ideal .f32) (s : FVec Ideal S256x9 .f32) : FVec Ideal S256x9 .f32 :=
  maximumf (mulf s (broadcast S256x9 t)) (broadcast S256x9 (Scalar.ofBits .f32 0x00000000#32))

/-- The exponentials of the scores less their row's maximum. -/
def expo (s : FVec Ideal S256x9 .f32) : FVec Ideal S256x9 .f32 :=
  exp (subf s (broadcastTo S256x9 (shapeCast S256x1 (multiReduction .maximumf [1] S256 s 0xFF800000#32 reduces_S256x9_S256 (.inl rfl) rfl)
    shapeCasts_S256_S256x1) broadcasts_S256x1_S256x9))

/-- The weights. -/
def weights (e : FVec Ideal S256x9 .f32) : FVec Ideal S256x9 .f32 :=
  mulf e (broadcastTo S256x9 (divf (broadcast S256x1 (Scalar.ofBits .f32 0x3F800000#32))
    (shapeCast S256x1 (multiReduction .add [1] S256 e 0x00000000#32 reduces_S256x9_S256 (.inl rfl) rfl) shapeCasts_S256_S256x1))
    broadcasts_S256x1_S256x9)

/-- The weighted sum of the values. -/
def mixed (b : FVec Ideal S256x9 .f32) (v0 v1 v2 v3 v4 v5 v6 v7 v8 : FVec Ideal S256x256 .f32) : FVec Ideal S256x256 .f32 :=
  (addf (addf (addf (addf (addf (addf (addf (addf (addf (broadcast S256x256 (Scalar.ofBits .f32 0x00000000#32)) (mulf (broadcastTo S256x256 (extractStridedSlice S256x1 ![0, 0] b slices_S256x9_o0_0_S256x1) broadcasts_S256x1_S256x256) v0)) (mulf (broadcastTo S256x256 (extractStridedSlice S256x1 ![0, 1] b slices_S256x9_o0_1_S256x1) broadcasts_S256x1_S256x256) v1)) (mulf (broadcastTo S256x256 (extractStridedSlice S256x1 ![0, 2] b slices_S256x9_o0_2_S256x1) broadcasts_S256x1_S256x256) v2)) (mulf (broadcastTo S256x256 (extractStridedSlice S256x1 ![0, 3] b slices_S256x9_o0_3_S256x1) broadcasts_S256x1_S256x256) v3)) (mulf (broadcastTo S256x256 (extractStridedSlice S256x1 ![0, 4] b slices_S256x9_o0_4_S256x1) broadcasts_S256x1_S256x256) v4)) (mulf (broadcastTo S256x256 (extractStridedSlice S256x1 ![0, 5] b slices_S256x9_o0_5_S256x1) broadcasts_S256x1_S256x256) v5)) (mulf (broadcastTo S256x256 (extractStridedSlice S256x1 ![0, 6] b slices_S256x9_o0_6_S256x1) broadcasts_S256x1_S256x256) v6)) (mulf (broadcastTo S256x256 (extractStridedSlice S256x1 ![0, 7] b slices_S256x9_o0_7_S256x1) broadcasts_S256x1_S256x256) v7)) (mulf (broadcastTo S256x256 (extractStridedSlice S256x1 ![0, 8] b slices_S256x9_o0_8_S256x1) broadcasts_S256x1_S256x256) v8))

/-- The output channel. -/
def chan (γ ι t : Ideal .f32) (f0 f1 f2 f3 f4 f5 f6 f7 f8 g : FVec Ideal S256x32 .f32) (v0 v1 v2 v3 v4 v5 v6 v7 v8 z : FVec Ideal S256x256 .f32) : FVec Ideal S256x256 .f32 :=
  addf (mulf (broadcast S256x256 (Scalar.mulf γ ι)) (mixed (weights (expo (scores t (cols (col f0 g) (col f1 g) (col f2 g) (col f3 g) (col f4 g) (col f5 g) (col f6 g) (col f7 g) (col f8 g))))) v0 v1 v2 v3 v4 v5 v6 v7 v8)) z

theorem col_at (a b : FVec Ideal S256x32 .f32) (p : Fin 256) : col a b (ix2 p 0) = ∑ o, a (ix2 p o) * b (ix2 p o) := by
  pointwise [col]

theorem cols_at (a0 a1 a2 a3 a4 a5 a6 a7 a8 : FVec Ideal S256x1 .f32) (p : Fin 256) (c : Fin 9) :
    cols a0 a1 a2 a3 a4 a5 a6 a7 a8 (ix2 p c) = ![a0 (ix2 p 0), a1 (ix2 p 0), a2 (ix2 p 0), a3 (ix2 p 0), a4 (ix2 p 0), a5 (ix2 p 0), a6 (ix2 p 0), a7 (ix2 p 0), a8 (ix2 p 0)] c := by
  fin_cases c <;> pointwise [cols]

theorem scores_at (t : Ideal .f32) (s : FVec Ideal S256x9 .f32) (p : Fin 256) (c : Fin 9) :
    scores t s (ix2 p c) = max (s (ix2 p c) * t) 0 := by
  pointwise [scores]

theorem expo_at (s : FVec Ideal S256x9 .f32) (p : Fin 256) (c : Fin 9) :
    expo s (ix2 p c) = Ideal.exp (s (ix2 p c) - top fun x => s (ix2 p x)) := by
  pointwise [expo]
  rfl

theorem weights_at (e : FVec Ideal S256x9 .f32) (p : Fin 256) (c : Fin 9) :
    weights e (ix2 p c) = e (ix2 p c) * Ideal.div 1 (∑ x, e (ix2 p x)) := by
  pointwise [weights]

theorem mixed_at (b : FVec Ideal S256x9 .f32) (v0 v1 v2 v3 v4 v5 v6 v7 v8 : FVec Ideal S256x256 .f32) (p q : Fin 256) :
    mixed b v0 v1 v2 v3 v4 v5 v6 v7 v8 (ix2 p q) = ∑ c, b (ix2 p c) * ![v0 (ix2 p q), v1 (ix2 p q), v2 (ix2 p q), v3 (ix2 p q), v4 (ix2 p q), v5 (ix2 p q), v6 (ix2 p q), v7 (ix2 p q), v8 (ix2 p q)] c := by
  pointwise [mixed]
  simp [Fin.sum_univ_succ, add_assoc]

/-- One entry of an output channel as a function of its row. -/
theorem chan_at (γ ι t : Ideal .f32) (f0 f1 f2 f3 f4 f5 f6 f7 f8 g : FVec Ideal S256x32 .f32) (v0 v1 v2 v3 v4 v5 v6 v7 v8 z : FVec Ideal S256x256 .f32) (p q : Fin 256) :
    chan γ ι t f0 f1 f2 f3 f4 f5 f6 f7 f8 g v0 v1 v2 v3 v4 v5 v6 v7 v8 z (ix2 p q)
      = outK γ ι t (fun c o => ![f0 (ix2 p o), f1 (ix2 p o), f2 (ix2 p o), f3 (ix2 p o), f4 (ix2 p o), f5 (ix2 p o), f6 (ix2 p o), f7 (ix2 p o), f8 (ix2 p o)] c) (fun o => g (ix2 p o))
          (fun c => ![v0 (ix2 p q), v1 (ix2 p q), v2 (ix2 p q), v3 (ix2 p q), v4 (ix2 p q), v5 (ix2 p q), v6 (ix2 p q), v7 (ix2 p q), v8 (ix2 p q)] c) (z (ix2 p q)) := by
  have hs : ∀ c, scores t (cols (col f0 g) (col f1 g) (col f2 g) (col f3 g) (col f4 g) (col f5 g) (col f6 g) (col f7 g) (col f8 g)) (ix2 p c)
      = scoreK t (fun c o => ![f0 (ix2 p o), f1 (ix2 p o), f2 (ix2 p o), f3 (ix2 p o), f4 (ix2 p o), f5 (ix2 p o), f6 (ix2 p o), f7 (ix2 p o), f8 (ix2 p o)] c) (fun o => g (ix2 p o)) c := fun c => by
    rw [scores_at, cols_at]; simp only [col_at, scoreK]
    fin_cases c <;> rfl
  pointwise [chan]
  rw [mixed_at]
  simp only [weights_at, expo_at, hs]
  rfl

end Cert.AttnIdeal.Chan

end
-- ==== Proof.AttnRows.lean ====
/- The values of the attention kernel's body: the nine projected channels of each kind at an index, and each stored channel
   as the named vector operations of them. -/
module

public import proofs.«01_k».proof.Proof.Gen.AttnIdeal.Frame
public import proofs.«01_k».proof.Proof.AttnChan

@[expose] public section

set_option maxRecDepth 16384

noncomputable section

namespace Cert.AttnIdeal.Rows

open Cert.AttnIdeal Cert.AttnIdeal.Gen Cert.AttnMath Cert.ProjMath Cert.AttnIdeal.Chan Idealize.ShloMosaic Idealize.ShloMosaic.Tactic Idealize.ShloMosaic.TcCoe

theorem r_at (c : Dev nD) (arg5 : Memref sig .tc .smem S1 .f32) (harg5 : arg5.IsWhole) (x4 : Vec Ideal S1 .f32) : (kernelRun0_A.sl.r (F := Ideal) c arg5 harg5 x4) = x4 (ix1 0) := by
  simp only [kernelRun0_A.sl.r, View.readAt_eq_ld, Memref.IsWhole.read_unread]
  exact View.ld_unit_apply_of _ _ _ _ _ _ (by decide)

theorem r_1_at (c : Dev nD) (arg6 : Memref sig .tc .smem S1 .f32) (harg6 : arg6.IsWhole) (x5 : Vec Ideal S1 .f32) : (kernelRun0_A.sl.r_1 (F := Ideal) c arg6 harg6 x5) = x5 (ix1 0) := by
  simp only [kernelRun0_A.sl.r_1, View.readAt_eq_ld, Memref.IsWhole.read_unread]
  exact View.ld_unit_apply_of _ _ _ _ _ _ (by decide)

theorem r_2_at (c : Dev nD) (arg7 : Memref sig .tc .smem S1 .f32) (harg7 : arg7.IsWhole) (x6 : Vec Ideal S1 .f32) : (kernelRun0_A.sl.r_2 (F := Ideal) c arg7 harg7 x6) = x6 (ix1 0) := by
  simp only [kernelRun0_A.sl.r_2, View.readAt_eq_ld, Memref.IsWhole.read_unread]
  exact View.ld_unit_apply_of _ _ _ _ _ _ (by decide)

theorem r_3_at (c : Dev nD) (arg8 : Memref sig .tc .smem S1 .f32) (harg8 : arg8.IsWhole) (x7 : Vec Ideal S1 .f32) : (kernelRun0_A.sl.r_3 (F := Ideal) c arg8 harg8 x7) = x7 (ix1 0) := by
  simp only [kernelRun0_A.sl.r_3, View.readAt_eq_ld, Memref.IsWhole.read_unread]
  exact View.ld_unit_apply_of _ _ _ _ _ _ (by decide)

theorem r_4_at (c : Dev nD) (arg5 : Memref sig .tc .smem S1 .f32) (harg5 : arg5.IsWhole) (arg6 : Memref sig .tc .smem S1 .f32) (harg6 : arg6.IsWhole) (x4 : Vec Ideal S1 .f32) (x5 : Vec Ideal S1 .f32) : (kernelRun0_A.sl.r_4 (F := Ideal) c arg5 harg5 arg6 harg6 x4 x5) = x4 (ix1 0) * x5 (ix1 0) := by
  rw [kernelRun0_A.sl.r_4, r_at, r_1_at]
  rfl

theorem r_5_at (c : Dev nD) (arg1 : Memref sig .tc .vmem S256x2304 .f32) (harg1 : arg1.IsWhole) (x0 : Vec Ideal S256x2304 .f32) (p q : Fin 256) : (kernelRun0_A.sl.r_5 (F := Ideal) c arg1 harg1 x0) (ix2 p q) = chn (mat2 x0 p) 0 q := by
  pointwise [kernelRun0_A.sl.r_5, View.readAt_eq_ld, Memref.IsWhole.read_unread, View.ld_unit]
  exact congrArg (fun i => x0 (ix2 p i)) (Fin.ext (by simp))

theorem r_6_at (c : Dev nD) (arg1 : Memref sig .tc .vmem S256x2304 .f32) (harg1 : arg1.IsWhole) (x0 : Vec Ideal S256x2304 .f32) (p q : Fin 256) : (kernelRun0_A.sl.r_6 (F := Ideal) c arg1 harg1 x0) (ix2 p q) = chn (mat2 x0 p) 1 q := by
  pointwise [kernelRun0_A.sl.r_6, View.readAt_eq_ld, Memref.IsWhole.read_unread, View.ld_unit]
  rfl

theorem r_7_at (c : Dev nD) (arg1 : Memref sig .tc .vmem S256x2304 .f32) (harg1 : arg1.IsWhole) (x0 : Vec Ideal S256x2304 .f32) (p q : Fin 256) : (kernelRun0_A.sl.r_7 (F := Ideal) c arg1 harg1 x0) (ix2 p q) = chn (mat2 x0 p) 2 q := by
  pointwise [kernelRun0_A.sl.r_7, View.readAt_eq_ld, Memref.IsWhole.read_unread, View.ld_unit]
  rfl

theorem r_8_at (c : Dev nD) (arg1 : Memref sig .tc .vmem S256x2304 .f32) (harg1 : arg1.IsWhole) (x0 : Vec Ideal S256x2304 .f32) (p q : Fin 256) : (kernelRun0_A.sl.r_8 (F := Ideal) c arg1 harg1 x0) (ix2 p q) = chn (mat2 x0 p) 3 q := by
  pointwise [kernelRun0_A.sl.r_8, View.readAt_eq_ld, Memref.IsWhole.read_unread, View.ld_unit]
  rfl

theorem r_9_at (c : Dev nD) (arg1 : Memref sig .tc .vmem S256x2304 .f32) (harg1 : arg1.IsWhole) (x0 : Vec Ideal S256x2304 .f32) (p q : Fin 256) : (kernelRun0_A.sl.r_9 (F := Ideal) c arg1 harg1 x0) (ix2 p q) = chn (mat2 x0 p) 4 q := by
  pointwise [kernelRun0_A.sl.r_9, View.readAt_eq_ld, Memref.IsWhole.read_unread, View.ld_unit]
  rfl

theorem r_10_at (c : Dev nD) (arg1 : Memref sig .tc .vmem S256x2304 .f32) (harg1 : arg1.IsWhole) (x0 : Vec Ideal S256x2304 .f32) (p q : Fin 256) : (kernelRun0_A.sl.r_10 (F := Ideal) c arg1 harg1 x0) (ix2 p q) = chn (mat2 x0 p) 5 q := by
  pointwise [kernelRun0_A.sl.r_10, View.readAt_eq_ld, Memref.IsWhole.read_unread, View.ld_unit]
  rfl

theorem r_11_at (c : Dev nD) (arg1 : Memref sig .tc .vmem S256x2304 .f32) (harg1 : arg1.IsWhole) (x0 : Vec Ideal S256x2304 .f32) (p q : Fin 256) : (kernelRun0_A.sl.r_11 (F := Ideal) c arg1 harg1 x0) (ix2 p q) = chn (mat2 x0 p) 6 q := by
  pointwise [kernelRun0_A.sl.r_11, View.readAt_eq_ld, Memref.IsWhole.read_unread, View.ld_unit]
  rfl

theorem r_12_at (c : Dev nD) (arg1 : Memref sig .tc .vmem S256x2304 .f32) (harg1 : arg1.IsWhole) (x0 : Vec Ideal S256x2304 .f32) (p q : Fin 256) : (kernelRun0_A.sl.r_12 (F := Ideal) c arg1 harg1 x0) (ix2 p q) = chn (mat2 x0 p) 7 q := by
  pointwise [kernelRun0_A.sl.r_12, View.readAt_eq_ld, Memref.IsWhole.read_unread, View.ld_unit]
  rfl

theorem r_13_at (c : Dev nD) (arg1 : Memref sig .tc .vmem S256x2304 .f32) (harg1 : arg1.IsWhole) (x0 : Vec Ideal S256x2304 .f32) (p q : Fin 256) : (kernelRun0_A.sl.r_13 (F := Ideal) c arg1 harg1 x0) (ix2 p q) = chn (mat2 x0 p) 8 q := by
  pointwise [kernelRun0_A.sl.r_13, View.readAt_eq_ld, Memref.IsWhole.read_unread, View.ld_unit]
  rfl

theorem r_14_at (c : Dev nD) (arg1 : Memref sig .tc .vmem S256x2304 .f32) (harg1 : arg1.IsWhole) (arg2 : Memref sig .tc .vmem S32x256 .f32) (harg2 : arg2.IsWhole) (x0 : Vec Ideal S256x2304 .f32) (x1 : Vec Ideal S32x256 .f32) (p : Fin 256) (o : Fin 32) : (kernelRun0_A.sl.r_14 (F := Ideal) c arg1 harg1 arg2 harg2 x0 x1) (ix2 p o) = prod (chn (mat2 x0 p) 0) (mat2 x1 o) := by
  pointwise [kernelRun0_A.sl.r_14, k0_pay3, View.readAt_eq_ld, Memref.IsWhole.read_unread, View.ld_unit]
  rfl

theorem r_15_at (c : Dev nD) (arg1 : Memref sig .tc .vmem S256x2304 .f32) (harg1 : arg1.IsWhole) (arg2 : Memref sig .tc .vmem S32x256 .f32) (harg2 : arg2.IsWhole) (x0 : Vec Ideal S256x2304 .f32) (x1 : Vec Ideal S32x256 .f32) (p : Fin 256) (o : Fin 32) : (kernelRun0_A.sl.r_15 (F := Ideal) c arg1 harg1 arg2 harg2 x0 x1) (ix2 p o) = prod (chn (mat2 x0 p) 1) (mat2 x1 o) := by
  pointwise [kernelRun0_A.sl.r_15, k0_pay4, View.readAt_eq_ld, Memref.IsWhole.read_unread, View.ld_unit]
  rfl

theorem r_16_at (c : Dev nD) (arg1 : Memref sig .tc .vmem S256x2304 .f32) (harg1 : arg1.IsWhole) (arg2 : Memref sig .tc .vmem S32x256 .f32) (harg2 : arg2.IsWhole) (x0 : Vec Ideal S256x2304 .f32) (x1 : Vec Ideal S32x256 .f32) (p : Fin 256) (o : Fin 32) : (kernelRun0_A.sl.r_16 (F := Ideal) c arg1 harg1 arg2 harg2 x0 x1) (ix2 p o) = prod (chn (mat2 x0 p) 2) (mat2 x1 o) := by
  pointwise [kernelRun0_A.sl.r_16, k0_pay5, View.readAt_eq_ld, Memref.IsWhole.read_unread, View.ld_unit]
  rfl

theorem r_17_at (c : Dev nD) (arg1 : Memref sig .tc .vmem S256x2304 .f32) (harg1 : arg1.IsWhole) (arg2 : Memref sig .tc .vmem S32x256 .f32) (harg2 : arg2.IsWhole) (x0 : Vec Ideal S256x2304 .f32) (x1 : Vec Ideal S32x256 .f32) (p : Fin 256) (o : Fin 32) : (kernelRun0_A.sl.r_17 (F := Ideal) c arg1 harg1 arg2 harg2 x0 x1) (ix2 p o) = prod (chn (mat2 x0 p) 3) (mat2 x1 o) := by
  pointwise [kernelRun0_A.sl.r_17, k0_pay6, View.readAt_eq_ld, Memref.IsWhole.read_unread, View.ld_unit]
  rfl

theorem r_19_at (c : Dev nD) (arg1 : Memref sig .tc .vmem S256x2304 .f32) (harg1 : arg1.IsWhole) (arg2 : Memref sig .tc .vmem S32x256 .f32) (harg2 : arg2.IsWhole) (x0 : Vec Ideal S256x2304 .f32) (x1 : Vec Ideal S32x256 .f32) (p : Fin 256) (o : Fin 32) : (kernelRun0_A.sl.r_19 (F := Ideal) c arg1 harg1 arg2 harg2 x0 x1) (ix2 p o) = prod (chn (mat2 x0 p) 4) (mat2 x1 o) := by
  pointwise [kernelRun0_A.sl.r_19, kernelRun0_A.sl.r_9, kernelRun0_A.sl.r_18, k0_pay7, View.readAt_eq_ld, Memref.IsWhole.read_unread, View.ld_unit]
  rfl

theorem r_20_at (c : Dev nD) (arg1 : Memref sig .tc .vmem S256x2304 .f32) (harg1 : arg1.IsWhole) (arg2 : Memref sig .tc .vmem S32x256 .f32) (harg2 : arg2.IsWhole) (x0 : Vec Ideal S256x2304 .f32) (x1 : Vec Ideal S32x256 .f32) (p : Fin 256) (o : Fin 32) : (kernelRun0_A.sl.r_20 (F := Ideal) c arg1 harg1 arg2 harg2 x0 x1) (ix2 p o) = prod (chn (mat2 x0 p) 5) (mat2 x1 o) := by
  pointwise [kernelRun0_A.sl.r_20, kernelRun0_A.sl.r_10, k0_pay8, View.readAt_eq_ld, Memref.IsWhole.read_unread, View.ld_unit]
  rfl

theorem r_21_at (c : Dev nD) (arg1 : Memref sig .tc .vmem S256x2304 .f32) (harg1 : arg1.IsWhole) (arg2 : Memref sig .tc .vmem S32x256 .f32) (harg2 : arg2.IsWhole) (x0 : Vec Ideal S256x2304 .f32) (x1 : Vec Ideal S32x256 .f32) (p : Fin 256) (o : Fin 32) : (kernelRun0_A.sl.r_21 (F := Ideal) c arg1 harg1 arg2 harg2 x0 x1) (ix2 p o) = prod (chn (mat2 x0 p) 6) (mat2 x1 o) := by
  pointwise [kernelRun0_A.sl.r_21, kernelRun0_A.sl.r_11, k0_pay9, View.readAt_eq_ld, Memref.IsWhole.read_unread, View.ld_unit]
  rfl

theorem r_22_at (c : Dev nD) (arg1 : Memref sig .tc .vmem S256x2304 .f32) (harg1 : arg1.IsWhole) (arg2 : Memref sig .tc .vmem S32x256 .f32) (harg2 : arg2.IsWhole) (x0 : Vec Ideal S256x2304 .f32) (x1 : Vec Ideal S32x256 .f32) (p : Fin 256) (o : Fin 32) : (kernelRun0_A.sl.r_22 (F := Ideal) c arg1 harg1 arg2 harg2 x0 x1) (ix2 p o) = prod (chn (mat2 x0 p) 7) (mat2 x1 o) := by
  pointwise [kernelRun0_A.sl.r_22, kernelRun0_A.sl.r_12, k0_pay10, View.readAt_eq_ld, Memref.IsWhole.read_unread, View.ld_unit]
  rfl

theorem r_23_at (c : Dev nD) (arg1 : Memref sig .tc .vmem S256x2304 .f32) (harg1 : arg1.IsWhole) (arg2 : Memref sig .tc .vmem S32x256 .f32) (harg2 : arg2.IsWhole) (x0 : Vec Ideal S256x2304 .f32) (x1 : Vec Ideal S32x256 .f32) (p : Fin 256) (o : Fin 32) : (kernelRun0_A.sl.r_23 (F := Ideal) c arg1 harg1 arg2 harg2 x0 x1) (ix2 p o) = prod (chn (mat2 x0 p) 8) (mat2 x1 o) := by
  pointwise [kernelRun0_A.sl.r_23, kernelRun0_A.sl.r_13, k0_pay11, View.readAt_eq_ld, Memref.IsWhole.read_unread, View.ld_unit]
  rfl

theorem r_24_at (c : Dev nD) (arg1 : Memref sig .tc .vmem S256x2304 .f32) (harg1 : arg1.IsWhole) (arg3 : Memref sig .tc .vmem S32x256 .f32) (harg3 : arg3.IsWhole) (x0 : Vec Ideal S256x2304 .f32) (x2 : Vec Ideal S32x256 .f32) (p : Fin 256) (o : Fin 32) : (kernelRun0_A.sl.r_24 (F := Ideal) c arg1 harg1 arg3 harg3 x0 x2) (ix2 p o) = prod (chn (mat2 x0 p) 0) (mat2 x2 o) := by
  pointwise [kernelRun0_A.sl.r_24, kernelRun0_A.sl.r_5, k0_pay12, View.readAt_eq_ld, Memref.IsWhole.read_unread, View.ld_unit]
  rfl

theorem r_25_at (c : Dev nD) (arg1 : Memref sig .tc .vmem S256x2304 .f32) (harg1 : arg1.IsWhole) (arg3 : Memref sig .tc .vmem S32x256 .f32) (harg3 : arg3.IsWhole) (x0 : Vec Ideal S256x2304 .f32) (x2 : Vec Ideal S32x256 .f32) (p : Fin 256) (o : Fin 32) : (kernelRun0_A.sl.r_25 (F := Ideal) c arg1 harg1 arg3 harg3 x0 x2) (ix2 p o) = prod (chn (mat2 x0 p) 1) (mat2 x2 o) := by
  pointwise [kernelRun0_A.sl.r_25, kernelRun0_A.sl.r_6, k0_pay13, View.readAt_eq_ld, Memref.IsWhole.read_unread, View.ld_unit]
  rfl

theorem r_26_at (c : Dev nD) (arg1 : Memref sig .tc .vmem S256x2304 .f32) (harg1 : arg1.IsWhole) (arg3 : Memref sig .tc .vmem S32x256 .f32) (harg3 : arg3.IsWhole) (x0 : Vec Ideal S256x2304 .f32) (x2 : Vec Ideal S32x256 .f32) (p : Fin 256) (o : Fin 32) : (kernelRun0_A.sl.r_26 (F := Ideal) c arg1 harg1 arg3 harg3 x0 x2) (ix2 p o) = prod (chn (mat2 x0 p) 2) (mat2 x2 o) := by
  pointwise [kernelRun0_A.sl.r_26, kernelRun0_A.sl.r_7, k0_pay14, View.readAt_eq_ld, Memref.IsWhole.read_unread, View.ld_unit]
  rfl

theorem r_27_at (c : Dev nD) (arg1 : Memref sig .tc .vmem S256x2304 .f32) (harg1 : arg1.IsWhole) (arg3 : Memref sig .tc .vmem S32x256 .f32) (harg3 : arg3.IsWhole) (x0 : Vec Ideal S256x2304 .f32) (x2 : Vec Ideal S32x256 .f32) (p : Fin 256) (o : Fin 32) : (kernelRun0_A.sl.r_27 (F := Ideal) c arg1 harg1 arg3 harg3 x0 x2) (ix2 p o) = prod (chn (mat2 x0 p) 3) (mat2 x2 o) := by
  pointwise [kernelRun0_A.sl.r_27, kernelRun0_A.sl.r_8, k0_pay15, View.readAt_eq_ld, Memref.IsWhole.read_unread, View.ld_unit]
  rfl

theorem r_28_at (c : Dev nD) (arg1 : Memref sig .tc .vmem S256x2304 .f32) (harg1 : arg1.IsWhole) (arg3 : Memref sig .tc .vmem S32x256 .f32) (harg3 : arg3.IsWhole) (x0 : Vec Ideal S256x2304 .f32) (x2 : Vec Ideal S32x256 .f32) (p : Fin 256) (o : Fin 32) : (kernelRun0_A.sl.r_28 (F := Ideal) c arg1 harg1 arg3 harg3 x0 x2) (ix2 p o) = prod (chn (mat2 x0 p) 4) (mat2 x2 o) := by
  pointwise [kernelRun0_A.sl.r_28, kernelRun0_A.sl.r_9, k0_pay16, View.readAt_eq_ld, Memref.IsWhole.read_unread, View.ld_unit]
  rfl

theorem r_29_at (c : Dev nD) (arg1 : Memref sig .tc .vmem S256x2304 .f32) (harg1 : arg1.IsWhole) (arg3 : Memref sig .tc .vmem S32x256 .f32) (harg3 : arg3.IsWhole) (x0 : Vec Ideal S256x2304 .f32) (x2 : Vec Ideal S32x256 .f32) (p : Fin 256) (o : Fin 32) : (kernelRun0_A.sl.r_29 (F := Ideal) c arg1 harg1 arg3 harg3 x0 x2) (ix2 p o) = prod (chn (mat2 x0 p) 5) (mat2 x2 o) := by
  pointwise [kernelRun0_A.sl.r_29, kernelRun0_A.sl.r_10, k0_pay17, View.readAt_eq_ld, Memref.IsWhole.read_unread, View.ld_unit]
  rfl

theorem r_30_at (c : Dev nD) (arg1 : Memref sig .tc .vmem S256x2304 .f32) (harg1 : arg1.IsWhole) (arg3 : Memref sig .tc .vmem S32x256 .f32) (harg3 : arg3.IsWhole) (x0 : Vec Ideal S256x2304 .f32) (x2 : Vec Ideal S32x256 .f32) (p : Fin 256) (o : Fin 32) : (kernelRun0_A.sl.r_30 (F := Ideal) c arg1 harg1 arg3 harg3 x0 x2) (ix2 p o) = prod (chn (mat2 x0 p) 6) (mat2 x2 o) := by
  pointwise [kernelRun0_A.sl.r_30, kernelRun0_A.sl.r_11, k0_pay18, View.readAt_eq_ld, Memref.IsWhole.read_unread, View.ld_unit]
  rfl

theorem r_32_at (c : Dev nD) (arg1 : Memref sig .tc .vmem S256x2304 .f32) (harg1 : arg1.IsWhole) (arg3 : Memref sig .tc .vmem S32x256 .f32) (harg3 : arg3.IsWhole) (x0 : Vec Ideal S256x2304 .f32) (x2 : Vec Ideal S32x256 .f32) (p : Fin 256) (o : Fin 32) : (kernelRun0_A.sl.r_32 (F := Ideal) c arg1 harg1 arg3 harg3 x0 x2) (ix2 p o) = prod (chn (mat2 x0 p) 7) (mat2 x2 o) := by
  pointwise [kernelRun0_A.sl.r_32, kernelRun0_A.sl.r_12, kernelRun0_A.sl.r_31, k0_pay19, View.readAt_eq_ld, Memref.IsWhole.read_unread, View.ld_unit]
  rfl

theorem r_33_at (c : Dev nD) (arg1 : Memref sig .tc .vmem S256x2304 .f32) (harg1 : arg1.IsWhole) (arg3 : Memref sig .tc .vmem S32x256 .f32) (harg3 : arg3.IsWhole) (x0 : Vec Ideal S256x2304 .f32) (x2 : Vec Ideal S32x256 .f32) (p : Fin 256) (o : Fin 32) : (kernelRun0_A.sl.r_33 (F := Ideal) c arg1 harg1 arg3 harg3 x0 x2) (ix2 p o) = prod (chn (mat2 x0 p) 8) (mat2 x2 o) := by
  pointwise [kernelRun0_A.sl.r_33, kernelRun0_A.sl.r_13, k0_pay20, View.readAt_eq_ld, Memref.IsWhole.read_unread, View.ld_unit]
  rfl

theorem r_34_at (c : Dev nD) (arg1 : Memref sig .tc .vmem S256x2304 .f32) (harg1 : arg1.IsWhole) (arg4 : Memref sig .tc .vmem S256x256 .f32) (harg4 : arg4.IsWhole) (x0 : Vec Ideal S256x2304 .f32) (x3 : Vec Ideal S256x256 .f32) (p : Fin 256) (o : Fin 256) : (kernelRun0_A.sl.r_34 (F := Ideal) c arg1 harg1 arg4 harg4 x0 x3) (ix2 p o) = prod (chn (mat2 x0 p) 0) (mat2 x3 o) := by
  pointwise [kernelRun0_A.sl.r_34, kernelRun0_A.sl.r_5, k0_pay21, View.readAt_eq_ld, Memref.IsWhole.read_unread, View.ld_unit]
  rfl

theorem r_35_at (c : Dev nD) (arg1 : Memref sig .tc .vmem S256x2304 .f32) (harg1 : arg1.IsWhole) (arg4 : Memref sig .tc .vmem S256x256 .f32) (harg4 : arg4.IsWhole) (x0 : Vec Ideal S256x2304 .f32) (x3 : Vec Ideal S256x256 .f32) (p : Fin 256) (o : Fin 256) : (kernelRun0_A.sl.r_35 (F := Ideal) c arg1 harg1 arg4 harg4 x0 x3) (ix2 p o) = prod (chn (mat2 x0 p) 1) (mat2 x3 o) := by
  pointwise [kernelRun0_A.sl.r_35, kernelRun0_A.sl.r_6, k0_pay22, View.readAt_eq_ld, Memref.IsWhole.read_unread, View.ld_unit]
  rfl

theorem r_36_at (c : Dev nD) (arg1 : Memref sig .tc .vmem S256x2304 .f32) (harg1 : arg1.IsWhole) (arg4 : Memref sig .tc .vmem S256x256 .f32) (harg4 : arg4.IsWhole) (x0 : Vec Ideal S256x2304 .f32) (x3 : Vec Ideal S256x256 .f32) (p : Fin 256) (o : Fin 256) : (kernelRun0_A.sl.r_36 (F := Ideal) c arg1 harg1 arg4 harg4 x0 x3) (ix2 p o) = prod (chn (mat2 x0 p) 2) (mat2 x3 o) := by
  pointwise [kernelRun0_A.sl.r_36, kernelRun0_A.sl.r_7, k0_pay23, View.readAt_eq_ld, Memref.IsWhole.read_unread, View.ld_unit]
  rfl

theorem r_37_at (c : Dev nD) (arg1 : Memref sig .tc .vmem S256x2304 .f32) (harg1 : arg1.IsWhole) (arg4 : Memref sig .tc .vmem S256x256 .f32) (harg4 : arg4.IsWhole) (x0 : Vec Ideal S256x2304 .f32) (x3 : Vec Ideal S256x256 .f32) (p : Fin 256) (o : Fin 256) : (kernelRun0_A.sl.r_37 (F := Ideal) c arg1 harg1 arg4 harg4 x0 x3) (ix2 p o) = prod (chn (mat2 x0 p) 3) (mat2 x3 o) := by
  pointwise [kernelRun0_A.sl.r_37, kernelRun0_A.sl.r_8, k0_pay24, View.readAt_eq_ld, Memref.IsWhole.read_unread, View.ld_unit]
  rfl

theorem r_38_at (c : Dev nD) (arg1 : Memref sig .tc .vmem S256x2304 .f32) (harg1 : arg1.IsWhole) (arg4 : Memref sig .tc .vmem S256x256 .f32) (harg4 : arg4.IsWhole) (x0 : Vec Ideal S256x2304 .f32) (x3 : Vec Ideal S256x256 .f32) (p : Fin 256) (o : Fin 256) : (kernelRun0_A.sl.r_38 (F := Ideal) c arg1 harg1 arg4 harg4 x0 x3) (ix2 p o) = prod (chn (mat2 x0 p) 4) (mat2 x3 o) := by
  pointwise [kernelRun0_A.sl.r_38, kernelRun0_A.sl.r_9, k0_pay25, View.readAt_eq_ld, Memref.IsWhole.read_unread, View.ld_unit]
  rfl

theorem r_39_at (c : Dev nD) (arg1 : Memref sig .tc .vmem S256x2304 .f32) (harg1 : arg1.IsWhole) (arg4 : Memref sig .tc .vmem S256x256 .f32) (harg4 : arg4.IsWhole) (x0 : Vec Ideal S256x2304 .f32) (x3 : Vec Ideal S256x256 .f32) (p : Fin 256) (o : Fin 256) : (kernelRun0_A.sl.r_39 (F := Ideal) c arg1 harg1 arg4 harg4 x0 x3) (ix2 p o) = prod (chn (mat2 x0 p) 5) (mat2 x3 o) := by
  pointwise [kernelRun0_A.sl.r_39, kernelRun0_A.sl.r_10, k0_pay26, View.readAt_eq_ld, Memref.IsWhole.read_unread, View.ld_unit]
  rfl

theorem r_40_at (c : Dev nD) (arg1 : Memref sig .tc .vmem S256x2304 .f32) (harg1 : arg1.IsWhole) (arg4 : Memref sig .tc .vmem S256x256 .f32) (harg4 : arg4.IsWhole) (x0 : Vec Ideal S256x2304 .f32) (x3 : Vec Ideal S256x256 .f32) (p : Fin 256) (o : Fin 256) : (kernelRun0_A.sl.r_40 (F := Ideal) c arg1 harg1 arg4 harg4 x0 x3) (ix2 p o) = prod (chn (mat2 x0 p) 6) (mat2 x3 o) := by
  pointwise [kernelRun0_A.sl.r_40, kernelRun0_A.sl.r_11, k0_pay27, View.readAt_eq_ld, Memref.IsWhole.read_unread, View.ld_unit]
  rfl

theorem r_41_at (c : Dev nD) (arg1 : Memref sig .tc .vmem S256x2304 .f32) (harg1 : arg1.IsWhole) (arg4 : Memref sig .tc .vmem S256x256 .f32) (harg4 : arg4.IsWhole) (x0 : Vec Ideal S256x2304 .f32) (x3 : Vec Ideal S256x256 .f32) (p : Fin 256) (o : Fin 256) : (kernelRun0_A.sl.r_41 (F := Ideal) c arg1 harg1 arg4 harg4 x0 x3) (ix2 p o) = prod (chn (mat2 x0 p) 7) (mat2 x3 o) := by
  pointwise [kernelRun0_A.sl.r_41, kernelRun0_A.sl.r_12, k0_pay28, View.readAt_eq_ld, Memref.IsWhole.read_unread, View.ld_unit]
  rfl

theorem r_42_at (c : Dev nD) (arg1 : Memref sig .tc .vmem S256x2304 .f32) (harg1 : arg1.IsWhole) (arg4 : Memref sig .tc .vmem S256x256 .f32) (harg4 : arg4.IsWhole) (x0 : Vec Ideal S256x2304 .f32) (x3 : Vec Ideal S256x256 .f32) (p : Fin 256) (o : Fin 256) : (kernelRun0_A.sl.r_42 (F := Ideal) c arg1 harg1 arg4 harg4 x0 x3) (ix2 p o) = prod (chn (mat2 x0 p) 8) (mat2 x3 o) := by
  pointwise [kernelRun0_A.sl.r_42, kernelRun0_A.sl.r_13, k0_pay29, View.readAt_eq_ld, Memref.IsWhole.read_unread, View.ld_unit]
  rfl

/-- Stored channel 0 at an entry. -/
theorem out_0_at (c : Dev nD) (arg1 : Memref sig .tc .vmem S256x2304 .f32) (harg1 : arg1.IsWhole) (arg2 : Memref sig .tc .vmem S32x256 .f32) (harg2 : arg2.IsWhole) (arg3 : Memref sig .tc .vmem S32x256 .f32) (harg3 : arg3.IsWhole) (arg4 : Memref sig .tc .vmem S256x256 .f32) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .smem S1 .f32) (harg8 : arg8.IsWhole) (x0 : Vec Ideal S256x2304 .f32) (x1 : Vec Ideal S32x256 .f32) (x2 : Vec Ideal S32x256 .f32) (x3 : Vec Ideal S256x256 .f32) (x4 : Vec Ideal S1 .f32) (x5 : Vec Ideal S1 .f32) (x6 : Vec Ideal S1 .f32) (x7 : Vec Ideal S1 .f32) (p q : Fin 256) :
    k0_pay35 (F := Ideal) (kernelRun0_A.sl.r_2 (F := Ideal) c arg7 harg7 x6) (kernelRun0_A.sl.r_3 (F := Ideal) c arg8 harg8 x7) (kernelRun0_A.sl.r_5 (F := Ideal) c arg1 harg1 x0) (kernelRun0_A.sl.r_36 (F := Ideal) c arg1 harg1 arg4 harg4 x0 x3) (kernelRun0_A.sl.r_37 (F := Ideal) c arg1 harg1 arg4 harg4 x0 x3) (kernelRun0_A.sl.r_38 (F := Ideal) c arg1 harg1 arg4 harg4 x0 x3) (kernelRun0_A.sl.r_39 (F := Ideal) c arg1 harg1 arg4 harg4 x0 x3) (kernelRun0_A.sl.r_40 (F := Ideal) c arg1 harg1 arg4 harg4 x0 x3) (kernelRun0_A.sl.r_41 (F := Ideal) c arg1 harg1 arg4 harg4 x0 x3) (kernelRun0_A.sl.r_42 (F := Ideal) c arg1 harg1 arg4 harg4 x0 x3) (kernelRun0_A.sl.r_45 (F := Ideal) c arg1 harg1 arg2 harg2 arg3 harg3 arg5 harg5 arg6 harg6 x0 x1 x2 x4 x5) (kernelRun0_A.sl.r_46 (F := Ideal) c arg1 harg1 arg2 harg2 arg3 harg3 arg4 harg4 arg5 harg5 arg6 harg6 x0 x1 x2 x3 x4 x5) (kernelRun0_A.sl.r_47 (F := Ideal) c arg1 harg1 arg2 harg2 arg3 harg3 arg5 harg5 arg6 harg6 x0 x1 x2 x4 x5) (ix2 p q)
    = rowK (x7 (ix1 0)) (x6 (ix1 0)) (x4 (ix1 0) * x5 (ix1 0)) (chn (mat2 x0 p)) (mat2 x1) (mat2 x2) (mat2 x3) 0 q := by
  refine (congrFun (show _ = chan (kernelRun0_A.sl.r_3 (F := Ideal) c arg8 harg8 x7) (kernelRun0_A.sl.r_2 (F := Ideal) c arg7 harg7 x6) (kernelRun0_A.sl.r_4 (F := Ideal) c arg5 harg5 arg6 harg6 x4 x5)
      (kernelRun0_A.sl.r_14 (F := Ideal) c arg1 harg1 arg2 harg2 x0 x1) (kernelRun0_A.sl.r_15 (F := Ideal) c arg1 harg1 arg2 harg2 x0 x1) (kernelRun0_A.sl.r_16 (F := Ideal) c arg1 harg1 arg2 harg2 x0 x1) (kernelRun0_A.sl.r_17 (F := Ideal) c arg1 harg1 arg2 harg2 x0 x1) (kernelRun0_A.sl.r_19 (F := Ideal) c arg1 harg1 arg2 harg2 x0 x1) (kernelRun0_A.sl.r_20 (F := Ideal) c arg1 harg1 arg2 harg2 x0 x1) (kernelRun0_A.sl.r_21 (F := Ideal) c arg1 harg1 arg2 harg2 x0 x1) (kernelRun0_A.sl.r_22 (F := Ideal) c arg1 harg1 arg2 harg2 x0 x1) (kernelRun0_A.sl.r_23 (F := Ideal) c arg1 harg1 arg2 harg2 x0 x1)
      (kernelRun0_A.sl.r_24 (F := Ideal) c arg1 harg1 arg3 harg3 x0 x2)
      (kernelRun0_A.sl.r_34 (F := Ideal) c arg1 harg1 arg4 harg4 x0 x3) (kernelRun0_A.sl.r_35 (F := Ideal) c arg1 harg1 arg4 harg4 x0 x3) (kernelRun0_A.sl.r_36 (F := Ideal) c arg1 harg1 arg4 harg4 x0 x3) (kernelRun0_A.sl.r_37 (F := Ideal) c arg1 harg1 arg4 harg4 x0 x3) (kernelRun0_A.sl.r_38 (F := Ideal) c arg1 harg1 arg4 harg4 x0 x3) (kernelRun0_A.sl.r_39 (F := Ideal) c arg1 harg1 arg4 harg4 x0 x3) (kernelRun0_A.sl.r_40 (F := Ideal) c arg1 harg1 arg4 harg4 x0 x3) (kernelRun0_A.sl.r_41 (F := Ideal) c arg1 harg1 arg4 harg4 x0 x3) (kernelRun0_A.sl.r_42 (F := Ideal) c arg1 harg1 arg4 harg4 x0 x3) (kernelRun0_A.sl.r_5 (F := Ideal) c arg1 harg1 x0) from rfl) (ix2 p q)).trans ?_
  rw [chan_at]
  simp only [r_2_at, r_3_at, r_4_at, r_14_at, r_15_at, r_16_at, r_17_at, r_19_at, r_20_at, r_21_at, r_22_at, r_23_at, r_24_at, r_34_at, r_35_at, r_36_at, r_37_at, r_38_at, r_39_at, r_40_at, r_41_at, r_42_at, r_5_at]
  unfold rowK
  refine congrArg₂ (fun a b => outK _ _ _ a _ b _) (funext fun c => ?_) (funext fun c => ?_) <;> fin_cases c <;> rfl

/-- Stored channel 1 at an entry. -/
theorem out_1_at (c : Dev nD) (arg1 : Memref sig .tc .vmem S256x2304 .f32) (harg1 : arg1.IsWhole) (arg2 : Memref sig .tc .vmem S32x256 .f32) (harg2 : arg2.IsWhole) (arg3 : Memref sig .tc .vmem S32x256 .f32) (harg3 : arg3.IsWhole) (arg4 : Memref sig .tc .vmem S256x256 .f32) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .smem S1 .f32) (harg8 : arg8.IsWhole) (x0 : Vec Ideal S256x2304 .f32) (x1 : Vec Ideal S32x256 .f32) (x2 : Vec Ideal S32x256 .f32) (x3 : Vec Ideal S256x256 .f32) (x4 : Vec Ideal S1 .f32) (x5 : Vec Ideal S1 .f32) (x6 : Vec Ideal S1 .f32) (x7 : Vec Ideal S1 .f32) (p q : Fin 256) :
    k0_pay45 (F := Ideal) (kernelRun0_A.sl.r_2 (F := Ideal) c arg7 harg7 x6) (kernelRun0_A.sl.r_3 (F := Ideal) c arg8 harg8 x7) (kernelRun0_A.sl.r_6 (F := Ideal) c arg1 harg1 x0) (kernelRun0_A.sl.r_41 (F := Ideal) c arg1 harg1 arg4 harg4 x0 x3) (kernelRun0_A.sl.r_42 (F := Ideal) c arg1 harg1 arg4 harg4 x0 x3) (kernelRun0_A.sl.r_55 (F := Ideal) c arg1 harg1 arg2 harg2 arg3 harg3 arg5 harg5 arg6 harg6 x0 x1 x2 x4 x5) (kernelRun0_A.sl.r_56 (F := Ideal) c arg1 harg1 arg2 harg2 arg3 harg3 arg4 harg4 arg5 harg5 arg6 harg6 x0 x1 x2 x3 x4 x5) (ix2 p q)
    = rowK (x7 (ix1 0)) (x6 (ix1 0)) (x4 (ix1 0) * x5 (ix1 0)) (chn (mat2 x0 p)) (mat2 x1) (mat2 x2) (mat2 x3) 1 q := by
  refine (congrFun (show _ = chan (kernelRun0_A.sl.r_3 (F := Ideal) c arg8 harg8 x7) (kernelRun0_A.sl.r_2 (F := Ideal) c arg7 harg7 x6) (kernelRun0_A.sl.r_4 (F := Ideal) c arg5 harg5 arg6 harg6 x4 x5)
      (kernelRun0_A.sl.r_14 (F := Ideal) c arg1 harg1 arg2 harg2 x0 x1) (kernelRun0_A.sl.r_15 (F := Ideal) c arg1 harg1 arg2 harg2 x0 x1) (kernelRun0_A.sl.r_16 (F := Ideal) c arg1 harg1 arg2 harg2 x0 x1) (kernelRun0_A.sl.r_17 (F := Ideal) c arg1 harg1 arg2 harg2 x0 x1) (kernelRun0_A.sl.r_19 (F := Ideal) c arg1 harg1 arg2 harg2 x0 x1) (kernelRun0_A.sl.r_20 (F := Ideal) c arg1 harg1 arg2 harg2 x0 x1) (kernelRun0_A.sl.r_21 (F := Ideal) c arg1 harg1 arg2 harg2 x0 x1) (kernelRun0_A.sl.r_22 (F := Ideal) c arg1 harg1 arg2 harg2 x0 x1) (kernelRun0_A.sl.r_23 (F := Ideal) c arg1 harg1 arg2 harg2 x0 x1)
      (kernelRun0_A.sl.r_25 (F := Ideal) c arg1 harg1 arg3 harg3 x0 x2)
      (kernelRun0_A.sl.r_34 (F := Ideal) c arg1 harg1 arg4 harg4 x0 x3) (kernelRun0_A.sl.r_35 (F := Ideal) c arg1 harg1 arg4 harg4 x0 x3) (kernelRun0_A.sl.r_36 (F := Ideal) c arg1 harg1 arg4 harg4 x0 x3) (kernelRun0_A.sl.r_37 (F := Ideal) c arg1 harg1 arg4 harg4 x0 x3) (kernelRun0_A.sl.r_38 (F := Ideal) c arg1 harg1 arg4 harg4 x0 x3) (kernelRun0_A.sl.r_39 (F := Ideal) c arg1 harg1 arg4 harg4 x0 x3) (kernelRun0_A.sl.r_40 (F := Ideal) c arg1 harg1 arg4 harg4 x0 x3) (kernelRun0_A.sl.r_41 (F := Ideal) c arg1 harg1 arg4 harg4 x0 x3) (kernelRun0_A.sl.r_42 (F := Ideal) c arg1 harg1 arg4 harg4 x0 x3) (kernelRun0_A.sl.r_6 (F := Ideal) c arg1 harg1 x0) from rfl) (ix2 p q)).trans ?_
  rw [chan_at]
  simp only [r_2_at, r_3_at, r_4_at, r_14_at, r_15_at, r_16_at, r_17_at, r_19_at, r_20_at, r_21_at, r_22_at, r_23_at, r_25_at, r_34_at, r_35_at, r_36_at, r_37_at, r_38_at, r_39_at, r_40_at, r_41_at, r_42_at, r_6_at]
  unfold rowK
  refine congrArg₂ (fun a b => outK _ _ _ a _ b _) (funext fun c => ?_) (funext fun c => ?_) <;> fin_cases c <;> rfl

/-- Stored channel 2 at an entry. -/
theorem out_2_at (c : Dev nD) (arg1 : Memref sig .tc .vmem S256x2304 .f32) (harg1 : arg1.IsWhole) (arg2 : Memref sig .tc .vmem S32x256 .f32) (harg2 : arg2.IsWhole) (arg3 : Memref sig .tc .vmem S32x256 .f32) (harg3 : arg3.IsWhole) (arg4 : Memref sig .tc .vmem S256x256 .f32) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .smem S1 .f32) (harg8 : arg8.IsWhole) (x0 : Vec Ideal S256x2304 .f32) (x1 : Vec Ideal S32x256 .f32) (x2 : Vec Ideal S32x256 .f32) (x3 : Vec Ideal S256x256 .f32) (x4 : Vec Ideal S1 .f32) (x5 : Vec Ideal S1 .f32) (x6 : Vec Ideal S1 .f32) (x7 : Vec Ideal S1 .f32) (p q : Fin 256) :
    k0_pay48 (F := Ideal) (kernelRun0_A.sl.r_2 (F := Ideal) c arg7 harg7 x6) (kernelRun0_A.sl.r_3 (F := Ideal) c arg8 harg8 x7) (kernelRun0_A.sl.r_7 (F := Ideal) c arg1 harg1 x0) (kernelRun0_A.sl.r_34 (F := Ideal) c arg1 harg1 arg4 harg4 x0 x3) (kernelRun0_A.sl.r_35 (F := Ideal) c arg1 harg1 arg4 harg4 x0 x3) (kernelRun0_A.sl.r_36 (F := Ideal) c arg1 harg1 arg4 harg4 x0 x3) (kernelRun0_A.sl.r_37 (F := Ideal) c arg1 harg1 arg4 harg4 x0 x3) (kernelRun0_A.sl.r_38 (F := Ideal) c arg1 harg1 arg4 harg4 x0 x3) (kernelRun0_A.sl.r_39 (F := Ideal) c arg1 harg1 arg4 harg4 x0 x3) (kernelRun0_A.sl.r_40 (F := Ideal) c arg1 harg1 arg4 harg4 x0 x3) (kernelRun0_A.sl.r_41 (F := Ideal) c arg1 harg1 arg4 harg4 x0 x3) (kernelRun0_A.sl.r_42 (F := Ideal) c arg1 harg1 arg4 harg4 x0 x3) (kernelRun0_A.sl.r_57 (F := Ideal) c arg1 harg1 arg2 harg2 arg3 harg3 arg5 harg5 arg6 harg6 x0 x1 x2 x4 x5) (kernelRun0_A.sl.r_58 (F := Ideal) c arg1 harg1 arg2 harg2 arg3 harg3 arg5 harg5 arg6 harg6 x0 x1 x2 x4 x5) (ix2 p q)
    = rowK (x7 (ix1 0)) (x6 (ix1 0)) (x4 (ix1 0) * x5 (ix1 0)) (chn (mat2 x0 p)) (mat2 x1) (mat2 x2) (mat2 x3) 2 q := by
  refine (congrFun (show _ = chan (kernelRun0_A.sl.r_3 (F := Ideal) c arg8 harg8 x7) (kernelRun0_A.sl.r_2 (F := Ideal) c arg7 harg7 x6) (kernelRun0_A.sl.r_4 (F := Ideal) c arg5 harg5 arg6 harg6 x4 x5)
      (kernelRun0_A.sl.r_14 (F := Ideal) c arg1 harg1 arg2 harg2 x0 x1) (kernelRun0_A.sl.r_15 (F := Ideal) c arg1 harg1 arg2 harg2 x0 x1) (kernelRun0_A.sl.r_16 (F := Ideal) c arg1 harg1 arg2 harg2 x0 x1) (kernelRun0_A.sl.r_17 (F := Ideal) c arg1 harg1 arg2 harg2 x0 x1) (kernelRun0_A.sl.r_19 (F := Ideal) c arg1 harg1 arg2 harg2 x0 x1) (kernelRun0_A.sl.r_20 (F := Ideal) c arg1 harg1 arg2 harg2 x0 x1) (kernelRun0_A.sl.r_21 (F := Ideal) c arg1 harg1 arg2 harg2 x0 x1) (kernelRun0_A.sl.r_22 (F := Ideal) c arg1 harg1 arg2 harg2 x0 x1) (kernelRun0_A.sl.r_23 (F := Ideal) c arg1 harg1 arg2 harg2 x0 x1)
      (kernelRun0_A.sl.r_26 (F := Ideal) c arg1 harg1 arg3 harg3 x0 x2)
      (kernelRun0_A.sl.r_34 (F := Ideal) c arg1 harg1 arg4 harg4 x0 x3) (kernelRun0_A.sl.r_35 (F := Ideal) c arg1 harg1 arg4 harg4 x0 x3) (kernelRun0_A.sl.r_36 (F := Ideal) c arg1 harg1 arg4 harg4 x0 x3) (kernelRun0_A.sl.r_37 (F := Ideal) c arg1 harg1 arg4 harg4 x0 x3) (kernelRun0_A.sl.r_38 (F := Ideal) c arg1 harg1 arg4 harg4 x0 x3) (kernelRun0_A.sl.r_39 (F := Ideal) c arg1 harg1 arg4 harg4 x0 x3) (kernelRun0_A.sl.r_40 (F := Ideal) c arg1 harg1 arg4 harg4 x0 x3) (kernelRun0_A.sl.r_41 (F := Ideal) c arg1 harg1 arg4 harg4 x0 x3) (kernelRun0_A.sl.r_42 (F := Ideal) c arg1 harg1 arg4 harg4 x0 x3) (kernelRun0_A.sl.r_7 (F := Ideal) c arg1 harg1 x0) from rfl) (ix2 p q)).trans ?_
  rw [chan_at]
  simp only [r_2_at, r_3_at, r_4_at, r_14_at, r_15_at, r_16_at, r_17_at, r_19_at, r_20_at, r_21_at, r_22_at, r_23_at, r_26_at, r_34_at, r_35_at, r_36_at, r_37_at, r_38_at, r_39_at, r_40_at, r_41_at, r_42_at, r_7_at]
  unfold rowK
  refine congrArg₂ (fun a b => outK _ _ _ a _ b _) (funext fun c => ?_) (funext fun c => ?_) <;> fin_cases c <;> rfl

/-- Stored channel 3 at an entry. -/
theorem out_3_at (c : Dev nD) (arg1 : Memref sig .tc .vmem S256x2304 .f32) (harg1 : arg1.IsWhole) (arg2 : Memref sig .tc .vmem S32x256 .f32) (harg2 : arg2.IsWhole) (arg3 : Memref sig .tc .vmem S32x256 .f32) (harg3 : arg3.IsWhole) (arg4 : Memref sig .tc .vmem S256x256 .f32) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .smem S1 .f32) (harg8 : arg8.IsWhole) (x0 : Vec Ideal S256x2304 .f32) (x1 : Vec Ideal S32x256 .f32) (x2 : Vec Ideal S32x256 .f32) (x3 : Vec Ideal S256x256 .f32) (x4 : Vec Ideal S1 .f32) (x5 : Vec Ideal S1 .f32) (x6 : Vec Ideal S1 .f32) (x7 : Vec Ideal S1 .f32) (p q : Fin 256) :
    k0_pay52 (F := Ideal) (kernelRun0_A.sl.r_2 (F := Ideal) c arg7 harg7 x6) (kernelRun0_A.sl.r_3 (F := Ideal) c arg8 harg8 x7) (kernelRun0_A.sl.r_8 (F := Ideal) c arg1 harg1 x0) (kernelRun0_A.sl.r_35 (F := Ideal) c arg1 harg1 arg4 harg4 x0 x3) (kernelRun0_A.sl.r_36 (F := Ideal) c arg1 harg1 arg4 harg4 x0 x3) (kernelRun0_A.sl.r_37 (F := Ideal) c arg1 harg1 arg4 harg4 x0 x3) (kernelRun0_A.sl.r_38 (F := Ideal) c arg1 harg1 arg4 harg4 x0 x3) (kernelRun0_A.sl.r_39 (F := Ideal) c arg1 harg1 arg4 harg4 x0 x3) (kernelRun0_A.sl.r_40 (F := Ideal) c arg1 harg1 arg4 harg4 x0 x3) (kernelRun0_A.sl.r_41 (F := Ideal) c arg1 harg1 arg4 harg4 x0 x3) (kernelRun0_A.sl.r_42 (F := Ideal) c arg1 harg1 arg4 harg4 x0 x3) (kernelRun0_A.sl.r_60 (F := Ideal) c arg1 harg1 arg2 harg2 arg3 harg3 arg5 harg5 arg6 harg6 x0 x1 x2 x4 x5) (kernelRun0_A.sl.r_61 (F := Ideal) c arg1 harg1 arg2 harg2 arg3 harg3 arg4 harg4 arg5 harg5 arg6 harg6 x0 x1 x2 x3 x4 x5) (ix2 p q)
    = rowK (x7 (ix1 0)) (x6 (ix1 0)) (x4 (ix1 0) * x5 (ix1 0)) (chn (mat2 x0 p)) (mat2 x1) (mat2 x2) (mat2 x3) 3 q := by
  refine (congrFun (show _ = chan (kernelRun0_A.sl.r_3 (F := Ideal) c arg8 harg8 x7) (kernelRun0_A.sl.r_2 (F := Ideal) c arg7 harg7 x6) (kernelRun0_A.sl.r_4 (F := Ideal) c arg5 harg5 arg6 harg6 x4 x5)
      (kernelRun0_A.sl.r_14 (F := Ideal) c arg1 harg1 arg2 harg2 x0 x1) (kernelRun0_A.sl.r_15 (F := Ideal) c arg1 harg1 arg2 harg2 x0 x1) (kernelRun0_A.sl.r_16 (F := Ideal) c arg1 harg1 arg2 harg2 x0 x1) (kernelRun0_A.sl.r_17 (F := Ideal) c arg1 harg1 arg2 harg2 x0 x1) (kernelRun0_A.sl.r_19 (F := Ideal) c arg1 harg1 arg2 harg2 x0 x1) (kernelRun0_A.sl.r_20 (F := Ideal) c arg1 harg1 arg2 harg2 x0 x1) (kernelRun0_A.sl.r_21 (F := Ideal) c arg1 harg1 arg2 harg2 x0 x1) (kernelRun0_A.sl.r_22 (F := Ideal) c arg1 harg1 arg2 harg2 x0 x1) (kernelRun0_A.sl.r_23 (F := Ideal) c arg1 harg1 arg2 harg2 x0 x1)
      (kernelRun0_A.sl.r_27 (F := Ideal) c arg1 harg1 arg3 harg3 x0 x2)
      (kernelRun0_A.sl.r_34 (F := Ideal) c arg1 harg1 arg4 harg4 x0 x3) (kernelRun0_A.sl.r_35 (F := Ideal) c arg1 harg1 arg4 harg4 x0 x3) (kernelRun0_A.sl.r_36 (F := Ideal) c arg1 harg1 arg4 harg4 x0 x3) (kernelRun0_A.sl.r_37 (F := Ideal) c arg1 harg1 arg4 harg4 x0 x3) (kernelRun0_A.sl.r_38 (F := Ideal) c arg1 harg1 arg4 harg4 x0 x3) (kernelRun0_A.sl.r_39 (F := Ideal) c arg1 harg1 arg4 harg4 x0 x3) (kernelRun0_A.sl.r_40 (F := Ideal) c arg1 harg1 arg4 harg4 x0 x3) (kernelRun0_A.sl.r_41 (F := Ideal) c arg1 harg1 arg4 harg4 x0 x3) (kernelRun0_A.sl.r_42 (F := Ideal) c arg1 harg1 arg4 harg4 x0 x3) (kernelRun0_A.sl.r_8 (F := Ideal) c arg1 harg1 x0) from rfl) (ix2 p q)).trans ?_
  rw [chan_at]
  simp only [r_2_at, r_3_at, r_4_at, r_14_at, r_15_at, r_16_at, r_17_at, r_19_at, r_20_at, r_21_at, r_22_at, r_23_at, r_27_at, r_34_at, r_35_at, r_36_at, r_37_at, r_38_at, r_39_at, r_40_at, r_41_at, r_42_at, r_8_at]
  unfold rowK
  refine congrArg₂ (fun a b => outK _ _ _ a _ b _) (funext fun c => ?_) (funext fun c => ?_) <;> fin_cases c <;> rfl

/-- Stored channel 4 at an entry. -/
theorem out_4_at (c : Dev nD) (arg1 : Memref sig .tc .vmem S256x2304 .f32) (harg1 : arg1.IsWhole) (arg2 : Memref sig .tc .vmem S32x256 .f32) (harg2 : arg2.IsWhole) (arg3 : Memref sig .tc .vmem S32x256 .f32) (harg3 : arg3.IsWhole) (arg4 : Memref sig .tc .vmem S256x256 .f32) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .smem S1 .f32) (harg8 : arg8.IsWhole) (x0 : Vec Ideal S256x2304 .f32) (x1 : Vec Ideal S32x256 .f32) (x2 : Vec Ideal S32x256 .f32) (x3 : Vec Ideal S256x256 .f32) (x4 : Vec Ideal S1 .f32) (x5 : Vec Ideal S1 .f32) (x6 : Vec Ideal S1 .f32) (x7 : Vec Ideal S1 .f32) (p q : Fin 256) :
    k0_pay61 (F := Ideal) (kernelRun0_A.sl.r_2 (F := Ideal) c arg7 harg7 x6) (kernelRun0_A.sl.r_3 (F := Ideal) c arg8 harg8 x7) (kernelRun0_A.sl.r_9 (F := Ideal) c arg1 harg1 x0) (kernelRun0_A.sl.r_39 (F := Ideal) c arg1 harg1 arg4 harg4 x0 x3) (kernelRun0_A.sl.r_40 (F := Ideal) c arg1 harg1 arg4 harg4 x0 x3) (kernelRun0_A.sl.r_41 (F := Ideal) c arg1 harg1 arg4 harg4 x0 x3) (kernelRun0_A.sl.r_42 (F := Ideal) c arg1 harg1 arg4 harg4 x0 x3) (kernelRun0_A.sl.r_67 (F := Ideal) c arg1 harg1 arg2 harg2 arg3 harg3 arg5 harg5 arg6 harg6 x0 x1 x2 x4 x5) (kernelRun0_A.sl.r_68 (F := Ideal) c arg1 harg1 arg2 harg2 arg3 harg3 arg4 harg4 arg5 harg5 arg6 harg6 x0 x1 x2 x3 x4 x5) (kernelRun0_A.sl.r_69 (F := Ideal) c arg1 harg1 arg2 harg2 arg3 harg3 arg5 harg5 arg6 harg6 x0 x1 x2 x4 x5) (ix2 p q)
    = rowK (x7 (ix1 0)) (x6 (ix1 0)) (x4 (ix1 0) * x5 (ix1 0)) (chn (mat2 x0 p)) (mat2 x1) (mat2 x2) (mat2 x3) 4 q := by
  refine (congrFun (show _ = chan (kernelRun0_A.sl.r_3 (F := Ideal) c arg8 harg8 x7) (kernelRun0_A.sl.r_2 (F := Ideal) c arg7 harg7 x6) (kernelRun0_A.sl.r_4 (F := Ideal) c arg5 harg5 arg6 harg6 x4 x5)
      (kernelRun0_A.sl.r_14 (F := Ideal) c arg1 harg1 arg2 harg2 x0 x1) (kernelRun0_A.sl.r_15 (F := Ideal) c arg1 harg1 arg2 harg2 x0 x1) (kernelRun0_A.sl.r_16 (F := Ideal) c arg1 harg1 arg2 harg2 x0 x1) (kernelRun0_A.sl.r_17 (F := Ideal) c arg1 harg1 arg2 harg2 x0 x1) (kernelRun0_A.sl.r_19 (F := Ideal) c arg1 harg1 arg2 harg2 x0 x1) (kernelRun0_A.sl.r_20 (F := Ideal) c arg1 harg1 arg2 harg2 x0 x1) (kernelRun0_A.sl.r_21 (F := Ideal) c arg1 harg1 arg2 harg2 x0 x1) (kernelRun0_A.sl.r_22 (F := Ideal) c arg1 harg1 arg2 harg2 x0 x1) (kernelRun0_A.sl.r_23 (F := Ideal) c arg1 harg1 arg2 harg2 x0 x1)
      (kernelRun0_A.sl.r_28 (F := Ideal) c arg1 harg1 arg3 harg3 x0 x2)
      (kernelRun0_A.sl.r_34 (F := Ideal) c arg1 harg1 arg4 harg4 x0 x3) (kernelRun0_A.sl.r_35 (F := Ideal) c arg1 harg1 arg4 harg4 x0 x3) (kernelRun0_A.sl.r_36 (F := Ideal) c arg1 harg1 arg4 harg4 x0 x3) (kernelRun0_A.sl.r_37 (F := Ideal) c arg1 harg1 arg4 harg4 x0 x3) (kernelRun0_A.sl.r_38 (F := Ideal) c arg1 harg1 arg4 harg4 x0 x3) (kernelRun0_A.sl.r_39 (F := Ideal) c arg1 harg1 arg4 harg4 x0 x3) (kernelRun0_A.sl.r_40 (F := Ideal) c arg1 harg1 arg4 harg4 x0 x3) (kernelRun0_A.sl.r_41 (F := Ideal) c arg1 harg1 arg4 harg4 x0 x3) (kernelRun0_A.sl.r_42 (F := Ideal) c arg1 harg1 arg4 harg4 x0 x3) (kernelRun0_A.sl.r_9 (F := Ideal) c arg1 harg1 x0) from rfl) (ix2 p q)).trans ?_
  rw [chan_at]
  simp only [r_2_at, r_3_at, r_4_at, r_14_at, r_15_at, r_16_at, r_17_at, r_19_at, r_20_at, r_21_at, r_22_at, r_23_at, r_28_at, r_34_at, r_35_at, r_36_at, r_37_at, r_38_at, r_39_at, r_40_at, r_41_at, r_42_at, r_9_at]
  unfold rowK
  refine congrArg₂ (fun a b => outK _ _ _ a _ b _) (funext fun c => ?_) (funext fun c => ?_) <;> fin_cases c <;> rfl

/-- Stored channel 5 at an entry. -/
theorem out_5_at (c : Dev nD) (arg1 : Memref sig .tc .vmem S256x2304 .f32) (harg1 : arg1.IsWhole) (arg2 : Memref sig .tc .vmem S32x256 .f32) (harg2 : arg2.IsWhole) (arg3 : Memref sig .tc .vmem S32x256 .f32) (harg3 : arg3.IsWhole) (arg4 : Memref sig .tc .vmem S256x256 .f32) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .smem S1 .f32) (harg8 : arg8.IsWhole) (x0 : Vec Ideal S256x2304 .f32) (x1 : Vec Ideal S32x256 .f32) (x2 : Vec Ideal S32x256 .f32) (x3 : Vec Ideal S256x256 .f32) (x4 : Vec Ideal S1 .f32) (x5 : Vec Ideal S1 .f32) (x6 : Vec Ideal S1 .f32) (x7 : Vec Ideal S1 .f32) (p q : Fin 256) :
    kernelRun0_A.sl.r_72 (F := Ideal) c arg1 harg1 arg2 harg2 arg3 harg3 arg4 harg4 arg5 harg5 arg6 harg6 arg7 harg7 arg8 harg8 x0 x1 x2 x3 x4 x5 x6 x7 (ix2 p q)
    = rowK (x7 (ix1 0)) (x6 (ix1 0)) (x4 (ix1 0) * x5 (ix1 0)) (chn (mat2 x0 p)) (mat2 x1) (mat2 x2) (mat2 x3) 5 q := by
  refine (congrFun (show _ = chan (kernelRun0_A.sl.r_3 (F := Ideal) c arg8 harg8 x7) (kernelRun0_A.sl.r_2 (F := Ideal) c arg7 harg7 x6) (kernelRun0_A.sl.r_4 (F := Ideal) c arg5 harg5 arg6 harg6 x4 x5)
      (kernelRun0_A.sl.r_14 (F := Ideal) c arg1 harg1 arg2 harg2 x0 x1) (kernelRun0_A.sl.r_15 (F := Ideal) c arg1 harg1 arg2 harg2 x0 x1) (kernelRun0_A.sl.r_16 (F := Ideal) c arg1 harg1 arg2 harg2 x0 x1) (kernelRun0_A.sl.r_17 (F := Ideal) c arg1 harg1 arg2 harg2 x0 x1) (kernelRun0_A.sl.r_19 (F := Ideal) c arg1 harg1 arg2 harg2 x0 x1) (kernelRun0_A.sl.r_20 (F := Ideal) c arg1 harg1 arg2 harg2 x0 x1) (kernelRun0_A.sl.r_21 (F := Ideal) c arg1 harg1 arg2 harg2 x0 x1) (kernelRun0_A.sl.r_22 (F := Ideal) c arg1 harg1 arg2 harg2 x0 x1) (kernelRun0_A.sl.r_23 (F := Ideal) c arg1 harg1 arg2 harg2 x0 x1)
      (kernelRun0_A.sl.r_29 (F := Ideal) c arg1 harg1 arg3 harg3 x0 x2)
      (kernelRun0_A.sl.r_34 (F := Ideal) c arg1 harg1 arg4 harg4 x0 x3) (kernelRun0_A.sl.r_35 (F := Ideal) c arg1 harg1 arg4 harg4 x0 x3) (kernelRun0_A.sl.r_36 (F := Ideal) c arg1 harg1 arg4 harg4 x0 x3) (kernelRun0_A.sl.r_37 (F := Ideal) c arg1 harg1 arg4 harg4 x0 x3) (kernelRun0_A.sl.r_38 (F := Ideal) c arg1 harg1 arg4 harg4 x0 x3) (kernelRun0_A.sl.r_39 (F := Ideal) c arg1 harg1 arg4 harg4 x0 x3) (kernelRun0_A.sl.r_40 (F := Ideal) c arg1 harg1 arg4 harg4 x0 x3) (kernelRun0_A.sl.r_41 (F := Ideal) c arg1 harg1 arg4 harg4 x0 x3) (kernelRun0_A.sl.r_42 (F := Ideal) c arg1 harg1 arg4 harg4 x0 x3) (kernelRun0_A.sl.r_10 (F := Ideal) c arg1 harg1 x0) from rfl) (ix2 p q)).trans ?_
  rw [chan_at]
  simp only [r_2_at, r_3_at, r_4_at, r_14_at, r_15_at, r_16_at, r_17_at, r_19_at, r_20_at, r_21_at, r_22_at, r_23_at, r_29_at, r_34_at, r_35_at, r_36_at, r_37_at, r_38_at, r_39_at, r_40_at, r_41_at, r_42_at, r_10_at]
  unfold rowK
  refine congrArg₂ (fun a b => outK _ _ _ a _ b _) (funext fun c => ?_) (funext fun c => ?_) <;> fin_cases c <;> rfl

/-- Stored channel 6 at an entry. -/
theorem out_6_at (c : Dev nD) (arg1 : Memref sig .tc .vmem S256x2304 .f32) (harg1 : arg1.IsWhole) (arg2 : Memref sig .tc .vmem S32x256 .f32) (harg2 : arg2.IsWhole) (arg3 : Memref sig .tc .vmem S32x256 .f32) (harg3 : arg3.IsWhole) (arg4 : Memref sig .tc .vmem S256x256 .f32) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .smem S1 .f32) (harg8 : arg8.IsWhole) (x0 : Vec Ideal S256x2304 .f32) (x1 : Vec Ideal S32x256 .f32) (x2 : Vec Ideal S32x256 .f32) (x3 : Vec Ideal S256x256 .f32) (x4 : Vec Ideal S1 .f32) (x5 : Vec Ideal S1 .f32) (x6 : Vec Ideal S1 .f32) (x7 : Vec Ideal S1 .f32) (p q : Fin 256) :
    k0_pay66 (F := Ideal) (kernelRun0_A.sl.r_2 (F := Ideal) c arg7 harg7 x6) (kernelRun0_A.sl.r_3 (F := Ideal) c arg8 harg8 x7) (kernelRun0_A.sl.r_11 (F := Ideal) c arg1 harg1 x0) (kernelRun0_A.sl.r_34 (F := Ideal) c arg1 harg1 arg4 harg4 x0 x3) (kernelRun0_A.sl.r_35 (F := Ideal) c arg1 harg1 arg4 harg4 x0 x3) (kernelRun0_A.sl.r_36 (F := Ideal) c arg1 harg1 arg4 harg4 x0 x3) (kernelRun0_A.sl.r_37 (F := Ideal) c arg1 harg1 arg4 harg4 x0 x3) (kernelRun0_A.sl.r_38 (F := Ideal) c arg1 harg1 arg4 harg4 x0 x3) (kernelRun0_A.sl.r_39 (F := Ideal) c arg1 harg1 arg4 harg4 x0 x3) (kernelRun0_A.sl.r_40 (F := Ideal) c arg1 harg1 arg4 harg4 x0 x3) (kernelRun0_A.sl.r_41 (F := Ideal) c arg1 harg1 arg4 harg4 x0 x3) (kernelRun0_A.sl.r_42 (F := Ideal) c arg1 harg1 arg4 harg4 x0 x3) (kernelRun0_A.sl.r_73 (F := Ideal) c arg1 harg1 arg2 harg2 arg3 harg3 arg5 harg5 arg6 harg6 x0 x1 x2 x4 x5) (ix2 p q)
    = rowK (x7 (ix1 0)) (x6 (ix1 0)) (x4 (ix1 0) * x5 (ix1 0)) (chn (mat2 x0 p)) (mat2 x1) (mat2 x2) (mat2 x3) 6 q := by
  refine (congrFun (show _ = chan (kernelRun0_A.sl.r_3 (F := Ideal) c arg8 harg8 x7) (kernelRun0_A.sl.r_2 (F := Ideal) c arg7 harg7 x6) (kernelRun0_A.sl.r_4 (F := Ideal) c arg5 harg5 arg6 harg6 x4 x5)
      (kernelRun0_A.sl.r_14 (F := Ideal) c arg1 harg1 arg2 harg2 x0 x1) (kernelRun0_A.sl.r_15 (F := Ideal) c arg1 harg1 arg2 harg2 x0 x1) (kernelRun0_A.sl.r_16 (F := Ideal) c arg1 harg1 arg2 harg2 x0 x1) (kernelRun0_A.sl.r_17 (F := Ideal) c arg1 harg1 arg2 harg2 x0 x1) (kernelRun0_A.sl.r_19 (F := Ideal) c arg1 harg1 arg2 harg2 x0 x1) (kernelRun0_A.sl.r_20 (F := Ideal) c arg1 harg1 arg2 harg2 x0 x1) (kernelRun0_A.sl.r_21 (F := Ideal) c arg1 harg1 arg2 harg2 x0 x1) (kernelRun0_A.sl.r_22 (F := Ideal) c arg1 harg1 arg2 harg2 x0 x1) (kernelRun0_A.sl.r_23 (F := Ideal) c arg1 harg1 arg2 harg2 x0 x1)
      (kernelRun0_A.sl.r_30 (F := Ideal) c arg1 harg1 arg3 harg3 x0 x2)
      (kernelRun0_A.sl.r_34 (F := Ideal) c arg1 harg1 arg4 harg4 x0 x3) (kernelRun0_A.sl.r_35 (F := Ideal) c arg1 harg1 arg4 harg4 x0 x3) (kernelRun0_A.sl.r_36 (F := Ideal) c arg1 harg1 arg4 harg4 x0 x3) (kernelRun0_A.sl.r_37 (F := Ideal) c arg1 harg1 arg4 harg4 x0 x3) (kernelRun0_A.sl.r_38 (F := Ideal) c arg1 harg1 arg4 harg4 x0 x3) (kernelRun0_A.sl.r_39 (F := Ideal) c arg1 harg1 arg4 harg4 x0 x3) (kernelRun0_A.sl.r_40 (F := Ideal) c arg1 harg1 arg4 harg4 x0 x3) (kernelRun0_A.sl.r_41 (F := Ideal) c arg1 harg1 arg4 harg4 x0 x3) (kernelRun0_A.sl.r_42 (F := Ideal) c arg1 harg1 arg4 harg4 x0 x3) (kernelRun0_A.sl.r_11 (F := Ideal) c arg1 harg1 x0) from rfl) (ix2 p q)).trans ?_
  rw [chan_at]
  simp only [r_2_at, r_3_at, r_4_at, r_14_at, r_15_at, r_16_at, r_17_at, r_19_at, r_20_at, r_21_at, r_22_at, r_23_at, r_30_at, r_34_at, r_35_at, r_36_at, r_37_at, r_38_at, r_39_at, r_40_at, r_41_at, r_42_at, r_11_at]
  unfold rowK
  refine congrArg₂ (fun a b => outK _ _ _ a _ b _) (funext fun c => ?_) (funext fun c => ?_) <;> fin_cases c <;> rfl

/-- Stored channel 7 at an entry. -/
theorem out_7_at (c : Dev nD) (arg1 : Memref sig .tc .vmem S256x2304 .f32) (harg1 : arg1.IsWhole) (arg2 : Memref sig .tc .vmem S32x256 .f32) (harg2 : arg2.IsWhole) (arg3 : Memref sig .tc .vmem S32x256 .f32) (harg3 : arg3.IsWhole) (arg4 : Memref sig .tc .vmem S256x256 .f32) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .smem S1 .f32) (harg8 : arg8.IsWhole) (x0 : Vec Ideal S256x2304 .f32) (x1 : Vec Ideal S32x256 .f32) (x2 : Vec Ideal S32x256 .f32) (x3 : Vec Ideal S256x256 .f32) (x4 : Vec Ideal S1 .f32) (x5 : Vec Ideal S1 .f32) (x6 : Vec Ideal S1 .f32) (x7 : Vec Ideal S1 .f32) (p q : Fin 256) :
    k0_pay73 (F := Ideal) (kernelRun0_A.sl.r_2 (F := Ideal) c arg7 harg7 x6) (kernelRun0_A.sl.r_3 (F := Ideal) c arg8 harg8 x7) (kernelRun0_A.sl.r_12 (F := Ideal) c arg1 harg1 x0) (kernelRun0_A.sl.r_38 (F := Ideal) c arg1 harg1 arg4 harg4 x0 x3) (kernelRun0_A.sl.r_39 (F := Ideal) c arg1 harg1 arg4 harg4 x0 x3) (kernelRun0_A.sl.r_40 (F := Ideal) c arg1 harg1 arg4 harg4 x0 x3) (kernelRun0_A.sl.r_41 (F := Ideal) c arg1 harg1 arg4 harg4 x0 x3) (kernelRun0_A.sl.r_42 (F := Ideal) c arg1 harg1 arg4 harg4 x0 x3) (kernelRun0_A.sl.r_78 (F := Ideal) c arg1 harg1 arg2 harg2 arg3 harg3 arg5 harg5 arg6 harg6 x0 x1 x2 x4 x5) (kernelRun0_A.sl.r_79 (F := Ideal) c arg1 harg1 arg2 harg2 arg3 harg3 arg4 harg4 arg5 harg5 arg6 harg6 x0 x1 x2 x3 x4 x5) (ix2 p q)
    = rowK (x7 (ix1 0)) (x6 (ix1 0)) (x4 (ix1 0) * x5 (ix1 0)) (chn (mat2 x0 p)) (mat2 x1) (mat2 x2) (mat2 x3) 7 q := by
  refine (congrFun (show _ = chan (kernelRun0_A.sl.r_3 (F := Ideal) c arg8 harg8 x7) (kernelRun0_A.sl.r_2 (F := Ideal) c arg7 harg7 x6) (kernelRun0_A.sl.r_4 (F := Ideal) c arg5 harg5 arg6 harg6 x4 x5)
      (kernelRun0_A.sl.r_14 (F := Ideal) c arg1 harg1 arg2 harg2 x0 x1) (kernelRun0_A.sl.r_15 (F := Ideal) c arg1 harg1 arg2 harg2 x0 x1) (kernelRun0_A.sl.r_16 (F := Ideal) c arg1 harg1 arg2 harg2 x0 x1) (kernelRun0_A.sl.r_17 (F := Ideal) c arg1 harg1 arg2 harg2 x0 x1) (kernelRun0_A.sl.r_19 (F := Ideal) c arg1 harg1 arg2 harg2 x0 x1) (kernelRun0_A.sl.r_20 (F := Ideal) c arg1 harg1 arg2 harg2 x0 x1) (kernelRun0_A.sl.r_21 (F := Ideal) c arg1 harg1 arg2 harg2 x0 x1) (kernelRun0_A.sl.r_22 (F := Ideal) c arg1 harg1 arg2 harg2 x0 x1) (kernelRun0_A.sl.r_23 (F := Ideal) c arg1 harg1 arg2 harg2 x0 x1)
      (kernelRun0_A.sl.r_32 (F := Ideal) c arg1 harg1 arg3 harg3 x0 x2)
      (kernelRun0_A.sl.r_34 (F := Ideal) c arg1 harg1 arg4 harg4 x0 x3) (kernelRun0_A.sl.r_35 (F := Ideal) c arg1 harg1 arg4 harg4 x0 x3) (kernelRun0_A.sl.r_36 (F := Ideal) c arg1 harg1 arg4 harg4 x0 x3) (kernelRun0_A.sl.r_37 (F := Ideal) c arg1 harg1 arg4 harg4 x0 x3) (kernelRun0_A.sl.r_38 (F := Ideal) c arg1 harg1 arg4 harg4 x0 x3) (kernelRun0_A.sl.r_39 (F := Ideal) c arg1 harg1 arg4 harg4 x0 x3) (kernelRun0_A.sl.r_40 (F := Ideal) c arg1 harg1 arg4 harg4 x0 x3) (kernelRun0_A.sl.r_41 (F := Ideal) c arg1 harg1 arg4 harg4 x0 x3) (kernelRun0_A.sl.r_42 (F := Ideal) c arg1 harg1 arg4 harg4 x0 x3) (kernelRun0_A.sl.r_12 (F := Ideal) c arg1 harg1 x0) from rfl) (ix2 p q)).trans ?_
  rw [chan_at]
  simp only [r_2_at, r_3_at, r_4_at, r_14_at, r_15_at, r_16_at, r_17_at, r_19_at, r_20_at, r_21_at, r_22_at, r_23_at, r_32_at, r_34_at, r_35_at, r_36_at, r_37_at, r_38_at, r_39_at, r_40_at, r_41_at, r_42_at, r_12_at]
  unfold rowK
  refine congrArg₂ (fun a b => outK _ _ _ a _ b _) (funext fun c => ?_) (funext fun c => ?_) <;> fin_cases c <;> rfl

/-- Stored channel 8 at an entry. -/
theorem out_8_at (c : Dev nD) (arg1 : Memref sig .tc .vmem S256x2304 .f32) (harg1 : arg1.IsWhole) (arg2 : Memref sig .tc .vmem S32x256 .f32) (harg2 : arg2.IsWhole) (arg3 : Memref sig .tc .vmem S32x256 .f32) (harg3 : arg3.IsWhole) (arg4 : Memref sig .tc .vmem S256x256 .f32) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .smem S1 .f32) (harg8 : arg8.IsWhole) (x0 : Vec Ideal S256x2304 .f32) (x1 : Vec Ideal S32x256 .f32) (x2 : Vec Ideal S32x256 .f32) (x3 : Vec Ideal S256x256 .f32) (x4 : Vec Ideal S1 .f32) (x5 : Vec Ideal S1 .f32) (x6 : Vec Ideal S1 .f32) (x7 : Vec Ideal S1 .f32) (p q : Fin 256) :
    k0_pay1 (F := Ideal) (kernelRun0_A.sl.r_2 (F := Ideal) c arg7 harg7 x6) (kernelRun0_A.sl.r_3 (F := Ideal) c arg8 harg8 x7) (kernelRun0_A.sl.r_13 (F := Ideal) c arg1 harg1 x0) (kernelRun0_A.sl.r_42 (F := Ideal) c arg1 harg1 arg4 harg4 x0 x3) (kernelRun0_A.sl.r_88 (F := Ideal) c arg1 harg1 arg2 harg2 arg3 harg3 arg4 harg4 arg5 harg5 arg6 harg6 x0 x1 x2 x3 x4 x5) (kernelRun0_A.sl.r_89 (F := Ideal) c arg1 harg1 arg2 harg2 arg3 harg3 arg5 harg5 arg6 harg6 x0 x1 x2 x4 x5) (ix2 p q)
    = rowK (x7 (ix1 0)) (x6 (ix1 0)) (x4 (ix1 0) * x5 (ix1 0)) (chn (mat2 x0 p)) (mat2 x1) (mat2 x2) (mat2 x3) 8 q := by
  refine (congrFun (show _ = chan (kernelRun0_A.sl.r_3 (F := Ideal) c arg8 harg8 x7) (kernelRun0_A.sl.r_2 (F := Ideal) c arg7 harg7 x6) (kernelRun0_A.sl.r_4 (F := Ideal) c arg5 harg5 arg6 harg6 x4 x5)
      (kernelRun0_A.sl.r_14 (F := Ideal) c arg1 harg1 arg2 harg2 x0 x1) (kernelRun0_A.sl.r_15 (F := Ideal) c arg1 harg1 arg2 harg2 x0 x1) (kernelRun0_A.sl.r_16 (F := Ideal) c arg1 harg1 arg2 harg2 x0 x1) (kernelRun0_A.sl.r_17 (F := Ideal) c arg1 harg1 arg2 harg2 x0 x1) (kernelRun0_A.sl.r_19 (F := Ideal) c arg1 harg1 arg2 harg2 x0 x1) (kernelRun0_A.sl.r_20 (F := Ideal) c arg1 harg1 arg2 harg2 x0 x1) (kernelRun0_A.sl.r_21 (F := Ideal) c arg1 harg1 arg2 harg2 x0 x1) (kernelRun0_A.sl.r_22 (F := Ideal) c arg1 harg1 arg2 harg2 x0 x1) (kernelRun0_A.sl.r_23 (F := Ideal) c arg1 harg1 arg2 harg2 x0 x1)
      (kernelRun0_A.sl.r_33 (F := Ideal) c arg1 harg1 arg3 harg3 x0 x2)
      (kernelRun0_A.sl.r_34 (F := Ideal) c arg1 harg1 arg4 harg4 x0 x3) (kernelRun0_A.sl.r_35 (F := Ideal) c arg1 harg1 arg4 harg4 x0 x3) (kernelRun0_A.sl.r_36 (F := Ideal) c arg1 harg1 arg4 harg4 x0 x3) (kernelRun0_A.sl.r_37 (F := Ideal) c arg1 harg1 arg4 harg4 x0 x3) (kernelRun0_A.sl.r_38 (F := Ideal) c arg1 harg1 arg4 harg4 x0 x3) (kernelRun0_A.sl.r_39 (F := Ideal) c arg1 harg1 arg4 harg4 x0 x3) (kernelRun0_A.sl.r_40 (F := Ideal) c arg1 harg1 arg4 harg4 x0 x3) (kernelRun0_A.sl.r_41 (F := Ideal) c arg1 harg1 arg4 harg4 x0 x3) (kernelRun0_A.sl.r_42 (F := Ideal) c arg1 harg1 arg4 harg4 x0 x3) (kernelRun0_A.sl.r_13 (F := Ideal) c arg1 harg1 x0) from rfl) (ix2 p q)).trans ?_
  rw [chan_at]
  simp only [r_2_at, r_3_at, r_4_at, r_14_at, r_15_at, r_16_at, r_17_at, r_19_at, r_20_at, r_21_at, r_22_at, r_23_at, r_33_at, r_34_at, r_35_at, r_36_at, r_37_at, r_38_at, r_39_at, r_40_at, r_41_at, r_42_at, r_13_at]
  unfold rowK
  refine congrArg₂ (fun a b => outK _ _ _ a _ b _) (funext fun c => ?_) (funext fun c => ?_) <;> fin_cases c <;> rfl

end Cert.AttnIdeal.Rows

end
-- ==== Proof.AttnOut.lean ====
/- The block of one grid point of the attention kernel: nine stores side by side, one per output channel. -/
module

public import proofs.«01_k».proof.Proof.AttnRows

@[expose] public section

set_option maxRecDepth 16384

noncomputable section

namespace Cert.AttnIdeal.Out

open Cert.AttnIdeal Cert.AttnIdeal.Gen Cert.AttnMath Cert.ProjMath Idealize.ShloMosaic Idealize.ShloMosaic.Tactic Idealize.ShloMosaic.TcCoe

/-- What a grid point's block holds at row `y 0` and column `y 1`. -/
theorem out_at (c : Dev nD) (i : grid0.Coords) (arg1 : Memref sig .tc .vmem S256x2304 .f32) (harg1 : arg1.IsWhole) (arg2 : Memref sig .tc .vmem S32x256 .f32) (harg2 : arg2.IsWhole) (arg3 : Memref sig .tc .vmem S32x256 .f32) (harg3 : arg3.IsWhole) (arg4 : Memref sig .tc .vmem S256x256 .f32) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .smem S1 .f32) (harg8 : arg8.IsWhole) (arg9 : Memref sig .tc .vmem S256x2304 .f32) (harg9 : arg9.IsWhole)
    (x0 : Vec Ideal S256x2304 .f32) (x1 : Vec Ideal S32x256 .f32) (x2 : Vec Ideal S32x256 .f32) (x3 : Vec Ideal S256x256 .f32) (x4 : Vec Ideal S1 .f32) (x5 : Vec Ideal S1 .f32) (x6 : Vec Ideal S1 .f32) (x7 : Vec Ideal S1 .f32) (y : S256x2304.Idx) :
    out0_A_8 (F := Ideal) c i arg1 harg1 arg2 harg2 arg3 harg3 arg4 harg4 arg5 harg5 arg6 harg6 arg7 harg7 arg8 harg8 arg9 harg9 x0 x1 x2 x3 x4 x5 x6 x7 y
      = side (rowK (x7 (ix1 0)) (x6 (ix1 0)) (x4 (ix1 0) * x5 (ix1 0)) (chn (mat2 x0 (y 0))) (mat2 x1) (mat2 x2) (mat2 x3)) (y 1) := by
  unfold out0_A_8
  unfold kernelRun0_A
  dsimp only
  rw [View.read_writes_junk_eq_canon]
  canon_tiles x h
  · obtain ⟨p, q, rfl⟩ : ∃ (p : Fin 256) (q : Fin 256), x = ix2 p q := ⟨x 0, x 1, eq_ix2 x⟩
    have hp : y 0 = p := Fin.ext (by simpa using h0)
    refine (Rows.out_8_at c arg1 harg1 arg2 harg2 arg3 harg3 arg4 harg4 arg5 harg5 arg6 harg6 arg7 harg7 arg8 harg8 x0 x1 x2 x3 x4 x5 x6 x7 p q).trans ?_
    rw [hp]
    exact (side_at _ (y 1) 8 q (by simpa using h1)).symm
  · obtain ⟨p, q, rfl⟩ : ∃ (p : Fin 256) (q : Fin 256), x = ix2 p q := ⟨x 0, x 1, eq_ix2 x⟩
    have hp : y 0 = p := Fin.ext (by simpa using h0)
    refine (Rows.out_7_at c arg1 harg1 arg2 harg2 arg3 harg3 arg4 harg4 arg5 harg5 arg6 harg6 arg7 harg7 arg8 harg8 x0 x1 x2 x3 x4 x5 x6 x7 p q).trans ?_
    rw [hp]
    exact (side_at _ (y 1) 7 q (by simpa using h1)).symm
  · obtain ⟨p, q, rfl⟩ : ∃ (p : Fin 256) (q : Fin 256), x = ix2 p q := ⟨x 0, x 1, eq_ix2 x⟩
    have hp : y 0 = p := Fin.ext (by simpa using h0)
    refine (Rows.out_6_at c arg1 harg1 arg2 harg2 arg3 harg3 arg4 harg4 arg5 harg5 arg6 harg6 arg7 harg7 arg8 harg8 x0 x1 x2 x3 x4 x5 x6 x7 p q).trans ?_
    rw [hp]
    exact (side_at _ (y 1) 6 q (by simpa using h1)).symm
  · obtain ⟨p, q, rfl⟩ : ∃ (p : Fin 256) (q : Fin 256), x = ix2 p q := ⟨x 0, x 1, eq_ix2 x⟩
    have hp : y 0 = p := Fin.ext (by simpa using h0)
    refine (Rows.out_5_at c arg1 harg1 arg2 harg2 arg3 harg3 arg4 harg4 arg5 harg5 arg6 harg6 arg7 harg7 arg8 harg8 x0 x1 x2 x3 x4 x5 x6 x7 p q).trans ?_
    rw [hp]
    exact (side_at _ (y 1) 5 q (by simpa using h1)).symm
  · obtain ⟨p, q, rfl⟩ : ∃ (p : Fin 256) (q : Fin 256), x = ix2 p q := ⟨x 0, x 1, eq_ix2 x⟩
    have hp : y 0 = p := Fin.ext (by simpa using h0)
    refine (Rows.out_4_at c arg1 harg1 arg2 harg2 arg3 harg3 arg4 harg4 arg5 harg5 arg6 harg6 arg7 harg7 arg8 harg8 x0 x1 x2 x3 x4 x5 x6 x7 p q).trans ?_
    rw [hp]
    exact (side_at _ (y 1) 4 q (by simpa using h1)).symm
  · obtain ⟨p, q, rfl⟩ : ∃ (p : Fin 256) (q : Fin 256), x = ix2 p q := ⟨x 0, x 1, eq_ix2 x⟩
    have hp : y 0 = p := Fin.ext (by simpa using h0)
    refine (Rows.out_3_at c arg1 harg1 arg2 harg2 arg3 harg3 arg4 harg4 arg5 harg5 arg6 harg6 arg7 harg7 arg8 harg8 x0 x1 x2 x3 x4 x5 x6 x7 p q).trans ?_
    rw [hp]
    exact (side_at _ (y 1) 3 q (by simpa using h1)).symm
  · obtain ⟨p, q, rfl⟩ : ∃ (p : Fin 256) (q : Fin 256), x = ix2 p q := ⟨x 0, x 1, eq_ix2 x⟩
    have hp : y 0 = p := Fin.ext (by simpa using h0)
    refine (Rows.out_2_at c arg1 harg1 arg2 harg2 arg3 harg3 arg4 harg4 arg5 harg5 arg6 harg6 arg7 harg7 arg8 harg8 x0 x1 x2 x3 x4 x5 x6 x7 p q).trans ?_
    rw [hp]
    exact (side_at _ (y 1) 2 q (by simpa using h1)).symm
  · obtain ⟨p, q, rfl⟩ : ∃ (p : Fin 256) (q : Fin 256), x = ix2 p q := ⟨x 0, x 1, eq_ix2 x⟩
    have hp : y 0 = p := Fin.ext (by simpa using h0)
    refine (Rows.out_1_at c arg1 harg1 arg2 harg2 arg3 harg3 arg4 harg4 arg5 harg5 arg6 harg6 arg7 harg7 arg8 harg8 x0 x1 x2 x3 x4 x5 x6 x7 p q).trans ?_
    rw [hp]
    exact (side_at _ (y 1) 1 q (by simpa using h1)).symm
  · obtain ⟨p, q, rfl⟩ : ∃ (p : Fin 256) (q : Fin 256), x = ix2 p q := ⟨x 0, x 1, eq_ix2 x⟩
    have hp : y 0 = p := Fin.ext (by simpa using h0)
    refine (Rows.out_0_at c arg1 harg1 arg2 harg2 arg3 harg3 arg4 harg4 arg5 harg5 arg6 harg6 arg7 harg7 arg8 harg8 x0 x1 x2 x3 x4 x5 x6 x7 p q).trans ?_
    rw [hp]
    exact (side_at _ (y 1) 0 q (by simpa using h1)).symm

end Cert.AttnIdeal.Out

end
-- ==== Proof.AttnFinal.lean ====
/- The attention kernel's result array: every grid point writes its own 256 rows, and a row is the attention over the nine
   channels of that sample, as the kernel computes it. -/
module

public import proofs.«01_k».proof.Proof.Gen.AttnIdeal.Value
public import proofs.«01_k».proof.Proof.AttnOut
public import Idealize.ShloMosaic.Lib.Pipeline.ValueKit

@[expose] public section

set_option maxRecDepth 16384

noncomputable section

namespace Cert.AttnIdeal.Final

open Cert.AttnIdeal Cert.AttnIdeal.Gen Cert.AttnIdeal.Out Cert.AttnMath Cert.ProjMath Idealize.ShloMosaic Idealize.ShloMosaic.TcCoe Idealize.SL.Sem
open Idealize.ShloMosaic.Pipeline (Dat)

variable (m : (ℓ : Loc nD τ sig) → Buf (Elt Ideal) ℓ)

/-- The windows' block numbers at each point. -/
theorem idx : ∀ t : Fin cfg0.N, win0_0.index t = ![t.val, 0]
    ∧ win0_1.index t = ![0, 0] ∧ win0_2.index t = ![0, 0] ∧ win0_3.index t = ![0, 0]
    ∧ win0_4.index t = ![0] ∧ win0_5.index t = ![0] ∧ win0_6.index t = ![0] ∧ win0_7.index t = ![0] ∧ win0_8.index t = ![t.val, 0] :=
  (by decide +kernel : ∀ t : Fin grid0.N, _)

theorem b0 (c : Dev nD) (t : Fin cfg0.N) (p : Fin 256) (p' : Fin 1024) (h : (p' : ℕ) = t.val * 256 + p.val) :
    mat2 (iblk m c 0 t) p = mat2 (m ((c : Thread nD τ).loc main_arg0)) p' := by
  funext i
  unfold mat2
  blk_point [iblk, V, idx t]

theorem b1 (c : Dev nD) (t : Fin cfg0.N) : mat2 (iblk m c 1 t) = mat2 (m ((c : Thread nD τ).loc main_arg1)) := by
  funext i j
  unfold mat2
  blk_point [iblk, V, idx t]

theorem b2 (c : Dev nD) (t : Fin cfg0.N) : mat2 (iblk m c 2 t) = mat2 (m ((c : Thread nD τ).loc main_arg2)) := by
  funext i j
  unfold mat2
  blk_point [iblk, V, idx t]

theorem b3 (c : Dev nD) (t : Fin cfg0.N) : mat2 (iblk m c 3 t) = mat2 (m ((c : Thread nD τ).loc main_arg3)) := by
  funext i j
  unfold mat2
  blk_point [iblk, V, idx t]

theorem b4 (c : Dev nD) (t : Fin cfg0.N) : iblk m c 4 t (ix1 0) = (m ((c : Thread nD τ).loc main_arg4)) (ix1 0) := by
  blk_point [iblk, V, idx t]

theorem b5 (c : Dev nD) (t : Fin cfg0.N) : iblk m c 5 t (ix1 0) = (m ((c : Thread nD τ).loc main_arg5)) (ix1 0) := by
  blk_point [iblk, V, idx t]

theorem b6 (c : Dev nD) (t : Fin cfg0.N) : iblk m c 6 t (ix1 0) = (m ((c : Thread nD τ).loc main_arg6)) (ix1 0) := by
  blk_point [iblk, V, idx t]

theorem b7 (c : Dev nD) (t : Fin cfg0.N) : iblk m c 7 t (ix1 0) = (m ((c : Thread nD τ).loc main_arg7)) (ix1 0) := by
  blk_point [iblk, V, idx t]

/-- Sample `p` of the result, channel by channel. -/
def K (a0 : FVec Ideal S1024x2304 .f32) (a1 : FVec Ideal S32x256 .f32) (a2 : FVec Ideal S32x256 .f32) (a3 : FVec Ideal S256x256 .f32) (a4 : FVec Ideal S1 .f32) (a5 : FVec Ideal S1 .f32) (a6 : FVec Ideal S1 .f32) (a7 : FVec Ideal S1 .f32) (p : Fin 1024) : Fin 9 → Fin 256 → EReal :=
  rowK (a7 (ix1 0)) (a6 (ix1 0)) (a4 (ix1 0) * a5 (ix1 0)) (chn (mat2 a0 p)) (mat2 a1) (mat2 a2) (mat2 a3)

/-- The result array after the run. -/
theorem final8 (c : Dev nD) : (dats m 0 c).arrAt 8 (cfgs 0).N = fun j =>
    side (K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (j 0)) (j 1) := by
  refine (dats m 0 c).arrAt_eq_of_covers 8 _ (by decide +kernel) fun t hf y => ?_
  blk_simp
  rw [after0_8]
  unfold outsAt0
  rw [out_at]
  have h0 : ((((cfg0.win 8).blk t).view.emb y) 0 : ℕ) = t.val * 256 + (y 0).val := by blk_simp [idx t]
  have h1 : ((((cfg0.win 8).blk t).view.emb y) 1 : ℕ) = (y 1).val := by blk_simp [idx t]
  have e1 : (((cfg0.win 8).blk t).view.emb y) 1 = y 1 := Fin.ext h1
  rw [b0 m c t (y 0) _ h0, b1, b2, b3, b4, b5, b6, b7]
  exact congrArg (side _) e1.symm

end Cert.AttnIdeal.Final

end
-- ==== Proof.AttnPre.lean ====
/- The precondition of the attention kernel read at an entry, and the equality of the two results under it. -/
module

public import proofs.«01_k».proof.Pre_finite
public import proofs.«01_k».proof.Proof.ProjPre
public import proofs.«01_k».proof.Proof.AttnRef
public import proofs.«01_k».proof.Proof.AttnFinal

@[expose] public section

set_option maxRecDepth 16384

noncomputable section

namespace Cert.AttnPre

open Cert.ProjMath Cert.AttnMath Idealize.ShloMosaic Idealize.ShloMosaic.Tactic
open Cert.Pre_finite (fn S1024x2304 S32x256 S256x256 S1 S_)

theorem facts : Cert.Pre_finite.Facts := by
  constructor <;> decide

attribute [local instance] facts

/-- The precondition says that all the arrays it tests have real entries. -/
theorem reals (a0 : FVec Ideal S1024x2304 .f32) (a1 a2 : FVec Ideal S32x256 .f32) (a3 : FVec Ideal S256x256 .f32)
    (a4 a5 a6 a7 : FVec Ideal S1 .f32) (j : S_.Idx) (h : fn (F := Ideal) a0 a1 a2 a3 a4 a5 a6 a7 j = 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  unfold fn Cert.Pre_finite.fn_part1 at h
  dsimp only at h
  obtain ⟨h, q6⟩ := ProjPre.and_at _ _ j h
  obtain ⟨h, q5⟩ := ProjPre.and_at _ _ j h
  obtain ⟨h, q4⟩ := ProjPre.and_at _ _ j h
  obtain ⟨h, q3⟩ := ProjPre.and_at _ _ j h
  obtain ⟨h, q2⟩ := ProjPre.and_at _ _ j h
  obtain ⟨q0, q1⟩ := ProjPre.and_at _ _ j h
  exact ⟨ProjPre.all_at a0 _ _ _ j q0, ProjPre.all_at a1 _ _ _ j q1, ProjPre.all_at a2 _ _ _ j q2, ProjPre.all_at a3 _ _ _ j q3,
    ProjPre.all_at a4 _ _ _ j q4, ProjPre.all_at a5 _ _ _ j q5, ProjPre.all_at a6 _ _ _ j q6⟩

/-- On real data the reference's result is the kernel's. -/
theorem results_eq (a0 : FVec Ideal S1024x2304 .f32) (a1 a2 : FVec Ideal S32x256 .f32) (a3 : FVec Ideal S256x256 .f32)
    (a4 a5 a6 a7 : FVec Ideal S1 .f32) (j : S_.Idx) (h : fn (F := Ideal) a0 a1 a2 a3 a4 a5 a6 a7 j = 1#1) :
    Cert.AttnReferenceIdeal.Rows.whole a0 a1 a2 a3 a4 a5 a6 a7
      = fun i => side (Cert.AttnIdeal.Final.K a0 a1 a2 a3 a4 a5 a6 a7 (i 0)) (i 1) := by
  obtain ⟨h0, h1, h2, h3, h4, h5, h6⟩ := reals a0 a1 a2 a3 a4 a5 a6 a7 j h
  funext i
  obtain ⟨p, q, rfl⟩ : ∃ (p : Fin 1024) (q : Fin 2304), i = ix2 p q := ⟨i 0, i 1, eq_ix2 i⟩
  refine (Cert.AttnReferenceIdeal.Rows.whole_at a0 a1 a2 a3 a4 a5 a6 a7 p q ⟨q.val / 256, by omega⟩ ⟨q.val % 256, by omega⟩
    (by show q.val = q.val / 256 * 256 + q.val % 256; omega)).trans ?_
  exact (row_eq _ (h6 _) (h4 _) (h5 _) (fun _ _ => h0 _) (fun _ _ => h1 _) (fun _ _ => h2 _) (fun _ _ => h3 _) _ _).symm

end Cert.AttnPre

end
-- ==== Proof.lean ====
module

public import proofs.«01_k».proof.Defs
public import proofs.«01_k».proof.Proof.Gen.Attn.Frame
public import proofs.«01_k».proof.Proof.Gen.AttnIdeal.Value
public import proofs.«01_k».proof.Proof.Gen.AttnReferenceIdeal.Run
public import proofs.«01_k».proof.Proof.Gen.Proj.Frame
public import proofs.«01_k».proof.Proof.Gen.ProjIdeal.Value
public import proofs.«01_k».proof.Proof.Gen.ProjReferenceIdeal.Run
public import proofs.«01_k».proof.Proof.Gen.Kernel.Frame
public import proofs.«01_k».proof.Proof.Gen.KernelIdeal.Value
public import proofs.«01_k».proof.Proof.Gen.ReferenceIdeal.Run
public import proofs.«01_k».proof.Proof.Moe
public import proofs.«01_k».proof.Proof.ProjJoin
public import proofs.«01_k».proof.Proof.ProjPre
public import proofs.«01_k».proof.Proof.AttnPre
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

set_option maxRecDepth 16384 in
theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  refine Eq.trans ?_ (Cert.KernelIdeal.Moe.final4 m c).symm
  funext j
  pointwise [Cert.KernelIdeal.Moe.MOE]

/-- The projections' reference terminates and leaves its arguments unchanged. -/
theorem quiescent_ProjReferenceIdeal : quiescent_ProjReferenceIdeal := fun m ρ _ =>
  (θ_run Cert.ProjReferenceIdeal.defs _ _).mono (fun r h => ⟨fun c => (h c).2, sem_eq_zero_of_no_sems (by decide) r.2⟩)
    (Cert.ProjReferenceIdeal.Value.run (F := Ideal) m ρ)

theorem preserves_Proj_ProjIdeal : preserves_Proj_ProjIdeal :=
  ⟨IdealRules.named_const.statement Cert.ProjIdeal.κ "inv1536" .f32 0x3A2AAAAB#32 ((1536⁻¹ : ℝ) : EReal) rfl,
    IdealRules.named_const.statement Cert.ProjIdeal.κ "inv768" .f32 0x3AAAAAAB#32 ((768⁻¹ : ℝ) : EReal) rfl⟩

attribute [local instance] Cert.ProjPre.facts

set_option maxRecDepth 16384 in
theorem algebraic_ProjIdeal_ProjReferenceIdeal_pre_usable : algebraic_ProjIdeal_ProjReferenceIdeal_pre_usable := by
  intro m ρ m' ρ' hpre hagree
  refine ⟨_, Cert.ProjIdeal.Value.run_blocks (F := Ideal) m ρ, ?_⟩
  refine (θ_run Cert.ProjReferenceIdeal.defs _ _).mono (fun _ h c => ⟨?_, (h c).2⟩) (Cert.ProjReferenceIdeal.Value.run (F := Ideal) m' ρ')
  rw [(h c).1]
  refine Eq.trans ?_ (Cert.ProjIdeal.Final.final22 m c).symm
  refine (Cert.ProjReferenceIdeal.Rows.join_at (StableHlo.launchContents m' c)).trans ?_
  obtain ⟨g0, g1, g2, g3, g4, g5, g6, g7, g8, g9, g10, g11, g12, g13, g14, g15, g16, g17, g18, g19, g20, g21⟩ := hagree c
  obtain ⟨hX, hL⟩ :=
    Cert.ProjPre.reals _ _ _ _ _ _ _ _ _ _ _ _ _ _ _ _ _ _ _ _ _ _ (fun i => i.elim0) (congrFun (hpre c) fun i => i.elim0)
  exact Cert.ProjReferenceIdeal.Rows.rows_eq (StableHlo.launchContents m' c) _ _ _ _ _ _ _ _ _ _ _ _ _ _ _ _ _ _ _ _ _ _
    g0 g1 g2 g3 g4 g5 g6 g7 g8 g9 g10 g11 g12 g13 g14 g15 g16 g17 g18 g19 g20 g21 hX hL

/-- The attention's reference terminates and leaves its arguments unchanged. -/
theorem quiescent_AttnReferenceIdeal : quiescent_AttnReferenceIdeal := fun m ρ _ =>
  (θ_run Cert.AttnReferenceIdeal.defs _ _).mono (fun r h => ⟨fun c => (h c).2, sem_eq_zero_of_no_sems (by decide) r.2⟩)
    (Cert.AttnReferenceIdeal.Value.run (F := Ideal) m ρ)

attribute [local instance] Cert.AttnPre.facts

set_option maxRecDepth 16384 in
theorem algebraic_AttnIdeal_AttnReferenceIdeal_pre_finite : algebraic_AttnIdeal_AttnReferenceIdeal_pre_finite := by
  intro m ρ m' ρ' hpre hagree
  refine ⟨_, Cert.AttnIdeal.Value.run_blocks (F := Ideal) m ρ, ?_⟩
  refine (θ_run Cert.AttnReferenceIdeal.defs _ _).mono (fun _ h c => ⟨?_, (h c).2⟩) (Cert.AttnReferenceIdeal.Value.run (F := Ideal) m' ρ')
  rw [(h c).1]
  refine Eq.trans ?_ (Cert.AttnIdeal.Final.final8 m c).symm
  refine (Cert.AttnReferenceIdeal.Rows.result_eq m' c).trans ?_
  obtain ⟨g0, g1, g2, g3, g4, g5, g6, g7⟩ := hagree c
  rw [g0, g1, g2, g3, g4, g5, g6, g7]
  exact Cert.AttnPre.results_eq _ _ _ _ _ _ _ _ (fun i => i.elim0) (congrFun (hpre c) fun i => i.elim0)

theorem claim : Cert.Claim := ⟨Cert.Kernel.Gen.facts, Cert.KernelIdeal.Gen.facts, Cert.ReferenceIdeal.Gen.facts,
  Cert.Proj.Gen.facts, Cert.ProjIdeal.Gen.facts, Cert.ProjReferenceIdeal.Gen.facts, Cert.Attn.Gen.facts, Cert.AttnIdeal.Gen.facts,
  Cert.AttnReferenceIdeal.Gen.facts, Cert.ProjPre.facts, Cert.AttnPre.facts,
  fun m ρ _ => Cert.Kernel.Gen.frame m ρ, fun m ρ _ => Cert.KernelIdeal.Gen.frame m ρ, quiescent_ReferenceIdeal,
  fun m ρ _ => Cert.Proj.Gen.frame m ρ, fun m ρ _ => Cert.ProjIdeal.Gen.frame m ρ, fun m ρ _ => Cert.ProjIdeal.Gen.frame m ρ,
  quiescent_ProjReferenceIdeal, fun m ρ _ => quiescent_ProjReferenceIdeal m ρ trivial,
  fun m ρ _ => Cert.Attn.Gen.frame m ρ, fun m ρ _ => Cert.AttnIdeal.Gen.frame m ρ, fun m ρ _ => Cert.AttnIdeal.Gen.frame m ρ,
  quiescent_AttnReferenceIdeal, fun m ρ _ => quiescent_AttnReferenceIdeal m ρ trivial,
  (trivial : preserves_Kernel_KernelIdeal), algebraic_KernelIdeal_ReferenceIdeal,
  preserves_Proj_ProjIdeal, algebraic_ProjIdeal_ProjReferenceIdeal_pre_usable,
  (trivial : preserves_Attn_AttnIdeal), algebraic_AttnIdeal_AttnReferenceIdeal_pre_finite⟩

end Cert.Proof

end
